-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 8192]⟩ ⟨2, ![1024, 32768]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)

variable [Facts]

def fn {F : FTy → Type} [FloatOps F] (main_arg0 : FVec F S512x1024 .f32) (main_arg1 : FVec F S1024x32768 .f32) : IVec S512x1024 1 × IVec S1024x32768 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x32768 .f32 := Host.absf main_arg1
  let main_cst_0 : FVec F S_ .f32 := constant S_ .f32 0x7F800000#32
  let main_v4 : FVec F S1024x32768 .f32 := broadcastInDim S1024x32768 ![] bcast_S_S1024x32768 main_cst_0
  let main_v5 : IVec S1024x32768 1 := cmpf .olt main_v3 main_v4
  (main_v2, main_v5)
-- ==== Kernel.lean ====
abbrev S512x1024 : Shape := ⟨2, ![512, 1024]⟩
abbrev S1024x8192 : Shape := ⟨2, ![1024, 8192]⟩
abbrev S512x32768 : Shape := ⟨2, ![512, 32768]⟩
abbrev S512x128 : Shape := ⟨2, ![512, 128]⟩
abbrev S2x1024x1024 : Shape := ⟨3, ![2, 1024, 1024]⟩
abbrev S4x512x8 : Shape := ⟨3, ![4, 512, 8]⟩
abbrev S2x512x2048 : Shape := ⟨3, ![2, 512, 2048]⟩
abbrev S2 : Shape := ⟨1, ![2]⟩
abbrev S16 : Shape := ⟨1, ![16]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S512x2048 : Shape := ⟨2, ![512, 2048]⟩
abbrev S512x4 : Shape := ⟨2, ![512, 4]⟩
abbrev S512x8 : Shape := ⟨2, ![512, 8]⟩
abbrev S1x512x8 : Shape := ⟨3, ![1, 512, 8]⟩
abbrev S256x8192 : Shape := ⟨2, ![256, 8192]⟩
abbrev S1x512x1 : Shape := ⟨3, ![1, 512, 1]⟩
abbrev S1x512x2048 : Shape := ⟨3, ![1, 512, 2048]⟩
abbrev S512x8192 : Shape := ⟨2, ![512, 8192]⟩
abbrev S512x4096 : Shape := ⟨2, ![512, 4096]⟩

abbrev nBuf : Space → Nat
  | .hbm => 6
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x32768, .bf16⟩
  | .hbm, ⟨3, _⟩ => ⟨S512x128, .f32⟩
  | .hbm, ⟨4, _⟩ => ⟨S512x128, .f32⟩
  | .hbm, ⟨5, _⟩ => ⟨S512x32768, .bf16⟩
  | .local _ .vmem, ⟨0, _⟩ => ⟨S512x1024, .f32⟩
  | .local _ .vmem, ⟨1, _⟩ => ⟨S512x128, .f32⟩
  | .local _ .vmem, ⟨2, _⟩ => ⟨S512x128, .f32⟩
  | .local _ .vmem, ⟨3, _⟩ => ⟨S512x32768, .bf16⟩
  | .local _ .vmem, ⟨4, _⟩ => ⟨S2x1024x1024, .f32⟩
  | .local _ .vmem, ⟨5, _⟩ => ⟨S4x512x8, .f32⟩
  | .local _ .vmem, ⟨6, _⟩ => ⟨S2x512x2048, .bf16⟩
  | .local _ .vmem, ⟨7, _⟩ => ⟨S512x4096, .bf16⟩
  | .local _ .vmem, ⟨8, _⟩ => ⟨S512x4096, .bf16⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 50
abbrev cc1_sem0_1 : DmaSem sig := 51
abbrev cc1_sem1_0 : DmaSem sig := 52
abbrev cc1_sem2_0 : DmaSem sig := 53
abbrev cc1_sem3_0 : DmaSem sig := 54
abbrev cc1_sem3_1 : DmaSem sig := 55
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_6 : BitVec 32 := 1#32
  let v10 : BitVec 32 := Scalar.muli v6 c1_i32_6
  let v11 : BitVec 32 := Scalar.addi c0_i32_7 v10
  v11.toNat
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32 : BitVec 32 := 8192#32
  let v35 : BitVec 32 := Scalar.muli v2 c8192_i32
  let c0_i32_29 : BitVec 32 := 0#32
  let v36 : BitVec 32 := Scalar.addi v35 c0_i32_29
  v36
def k0_off1 (d0 : Dev nD) (c0_i32_29 : BitVec 32) : Fin 2 → Nat :=
  let c0_30 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32 : BitVec 32 := 8192#32
  let v35 : BitVec 32 := Scalar.muli v2 c8192_i32
  let v36 : BitVec 32 := Scalar.addi v35 c0_i32_29
  let v37 : BitVec 32 := v36
  let v38 : Index := Scalar.indexCast v37
  ![0, v38.toNat]
def k0_mult2 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_32 : BitVec 32 := 8192#32
  let v44 : BitVec 32 := Scalar.muli v2 c8192_i32_32
  let c0_i32_33 : BitVec 32 := 0#32
  let v45 : BitVec 32 := Scalar.addi v44 c0_i32_33
  v45
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_34 : BitVec 32 := 8192#32
  let v47 : BitVec 32 := Scalar.muli v2 c8192_i32_34
  let c0_i32_35 : BitVec 32 := 0#32
  let v48 : BitVec 32 := Scalar.addi v47 c0_i32_35
  v48
def k0_mult4 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_36 : BitVec 32 := 8192#32
  let v50 : BitVec 32 := Scalar.muli v2 c8192_i32_36
  let c0_i32_37 : BitVec 32 := 0#32
  let v51 : BitVec 32 := Scalar.addi v50 c0_i32_37
  v51
def k0_mult5 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_38 : BitVec 32 := 8192#32
  let v53 : BitVec 32 := Scalar.muli v2 c8192_i32_38
  let c0_i32_39 : BitVec 32 := 0#32
  let v54 : BitVec 32 := Scalar.addi v53 c0_i32_39
  v54
def k0_off2 (d0 : Dev nD) (c0_i32_35 : BitVec 32) : Fin 2 → Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_34 : BitVec 32 := 8192#32
  let v47 : BitVec 32 := Scalar.muli v2 c8192_i32_34
  let v48 : BitVec 32 := Scalar.addi v47 c0_i32_35
  let v49 : BitVec 32 := v48
  ![0, v49.toNat]
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_42 : BitVec 32 := 1#32
  let v56 : BitVec 32 := Scalar.muli v6 c1_i32_42
  let v57 : BitVec 32 := Scalar.addi c0_i32_43 v56
  v57.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_47 : BitVec 32 := 1#32
  let v64 : BitVec 32 := Scalar.muli v4 c1_i32_47
  let v65 : BitVec 32 := Scalar.addi c0_i32_48 v64
  v65.toNat
def k0_mult6 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_65 : BitVec 32 := 8192#32
  let v87 : BitVec 32 := Scalar.muli v2 c8192_i32_65
  let c1024_i32_66 : BitVec 32 := 1024#32
  let v88 : BitVec 32 := Scalar.addi v87 c1024_i32_66
  v88
def k0_mult7 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_69 : BitVec 32 := 8192#32
  let v97 : BitVec 32 := Scalar.muli v2 c8192_i32_69
  let c1024_i32_70 : BitVec 32 := 1024#32
  let v98 : BitVec 32 := Scalar.addi v97 c1024_i32_70
  v98
def k0_mult8 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_71 : BitVec 32 := 8192#32
  let v100 : BitVec 32 := Scalar.muli v2 c8192_i32_71
  let c1024_i32_72 : BitVec 32 := 1024#32
  let v101 : BitVec 32 := Scalar.addi v100 c1024_i32_72
  v101
def k0_mult9 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_73 : BitVec 32 := 8192#32
  let v103 : BitVec 32 := Scalar.muli v2 c8192_i32_73
  let c1024_i32_74 : BitVec 32 := 1024#32
  let v104 : BitVec 32 := Scalar.addi v103 c1024_i32_74
  v104
def k0_mult10 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_75 : BitVec 32 := 8192#32
  let v106 : BitVec 32 := Scalar.muli v2 c8192_i32_75
  let c1024_i32_76 : BitVec 32 := 1024#32
  let v107 : BitVec 32 := Scalar.addi v106 c1024_i32_76
  v107
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_79 : BitVec 32 := 1#32
  let v109 : BitVec 32 := Scalar.muli v6 c1_i32_79
  let v110 : BitVec 32 := Scalar.addi c0_i32_80 v109
  v110.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_84 : BitVec 32 := 1#32
  let v117 : BitVec 32 := Scalar.muli v4 c1_i32_84
  let v118 : BitVec 32 := Scalar.addi c0_i32_85 v117
  v118.toNat
def k0_mult11 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_103 : BitVec 32 := 8192#32
  let v140 : BitVec 32 := Scalar.muli v2 c8192_i32_103
  let c2048_i32_104 : BitVec 32 := 2048#32
  let v141 : BitVec 32 := Scalar.addi v140 c2048_i32_104
  v141
def k0_mult12 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_107 : BitVec 32 := 8192#32
  let v150 : BitVec 32 := Scalar.muli v2 c8192_i32_107
  let c2048_i32_108 : BitVec 32 := 2048#32
  let v151 : BitVec 32 := Scalar.addi v150 c2048_i32_108
  v151
def k0_mult13 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_109 : BitVec 32 := 8192#32
  let v153 : BitVec 32 := Scalar.muli v2 c8192_i32_109
  let c2048_i32_110 : BitVec 32 := 2048#32
  let v154 : BitVec 32 := Scalar.addi v153 c2048_i32_110
  v154
def k0_mult14 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_111 : BitVec 32 := 8192#32
  let v156 : BitVec 32 := Scalar.muli v2 c8192_i32_111
  let c2048_i32_112 : BitVec 32 := 2048#32
  let v157 : BitVec 32 := Scalar.addi v156 c2048_i32_112
  v157
def k0_mult15 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_113 : BitVec 32 := 8192#32
  let v159 : BitVec 32 := Scalar.muli v2 c8192_i32_113
  let c2048_i32_114 : BitVec 32 := 2048#32
  let v160 : BitVec 32 := Scalar.addi v159 c2048_i32_114
  v160
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_117 : BitVec 32 := 1#32
  let v162 : BitVec 32 := Scalar.muli v6 c1_i32_117
  let v163 : BitVec 32 := Scalar.addi c0_i32_118 v162
  v163.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_122 : BitVec 32 := 1#32
  let v170 : BitVec 32 := Scalar.muli v4 c1_i32_122
  let v171 : BitVec 32 := Scalar.addi c0_i32_123 v170
  v171.toNat
def k0_mult16 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_141 : BitVec 32 := 8192#32
  let v193 : BitVec 32 := Scalar.muli v2 c8192_i32_141
  let c3072_i32_142 : BitVec 32 := 3072#32
  let v194 : BitVec 32 := Scalar.addi v193 c3072_i32_142
  v194
def k0_mult17 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_145 : BitVec 32 := 8192#32
  let v203 : BitVec 32 := Scalar.muli v2 c8192_i32_145
  let c3072_i32_146 : BitVec 32 := 3072#32
  let v204 : BitVec 32 := Scalar.addi v203 c3072_i32_146
  v204
def k0_mult18 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_147 : BitVec 32 := 8192#32
  let v206 : BitVec 32 := Scalar.muli v2 c8192_i32_147
  let c3072_i32_148 : BitVec 32 := 3072#32
  let v207 : BitVec 32 := Scalar.addi v206 c3072_i32_148
  v207
def k0_mult19 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_149 : BitVec 32 := 8192#32
  let v209 : BitVec 32 := Scalar.muli v2 c8192_i32_149
  let c3072_i32_150 : BitVec 32 := 3072#32
  let v210 : BitVec 32 := Scalar.addi v209 c3072_i32_150
  v210
def k0_mult20 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_151 : BitVec 32 := 8192#32
  let v212 : BitVec 32 := Scalar.muli v2 c8192_i32_151
  let c3072_i32_152 : BitVec 32 := 3072#32
  let v213 : BitVec 32 := Scalar.addi v212 c3072_i32_152
  v213
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_155 : BitVec 32 := 1#32
  let v215 : BitVec 32 := Scalar.muli v6 c1_i32_155
  let v216 : BitVec 32 := Scalar.addi c0_i32_156 v215
  v216.toNat
def k0_dev10 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_160 : BitVec 32 := 1#32
  let v223 : BitVec 32 := Scalar.muli v4 c1_i32_160
  let v224 : BitVec 32 := Scalar.addi c0_i32_161 v223
  v224.toNat
def k0_mult21 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_179 : BitVec 32 := 8192#32
  let v246 : BitVec 32 := Scalar.muli v2 c8192_i32_179
  let c4096_i32_180 : BitVec 32 := 4096#32
  let v247 : BitVec 32 := Scalar.addi v246 c4096_i32_180
  v247
def k0_mult22 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_183 : BitVec 32 := 8192#32
  let v256 : BitVec 32 := Scalar.muli v2 c8192_i32_183
  let c4096_i32_184 : BitVec 32 := 4096#32
  let v257 : BitVec 32 := Scalar.addi v256 c4096_i32_184
  v257
def k0_mult23 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_185 : BitVec 32 := 8192#32
  let v259 : BitVec 32 := Scalar.muli v2 c8192_i32_185
  let c4096_i32_186 : BitVec 32 := 4096#32
  let v260 : BitVec 32 := Scalar.addi v259 c4096_i32_186
  v260
def k0_mult24 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_187 : BitVec 32 := 8192#32
  let v262 : BitVec 32 := Scalar.muli v2 c8192_i32_187
  let c4096_i32_188 : BitVec 32 := 4096#32
  let v263 : BitVec 32 := Scalar.addi v262 c4096_i32_188
  v263
def k0_mult25 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_189 : BitVec 32 := 8192#32
  let v265 : BitVec 32 := Scalar.muli v2 c8192_i32_189
  let c4096_i32_190 : BitVec 32 := 4096#32
  let v266 : BitVec 32 := Scalar.addi v265 c4096_i32_190
  v266
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_193 : BitVec 32 := 1#32
  let v268 : BitVec 32 := Scalar.muli v6 c1_i32_193
  let v269 : BitVec 32 := Scalar.addi c0_i32_194 v268
  v269.toNat
def k0_dev12 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_198 : BitVec 32 := 1#32
  let v276 : BitVec 32 := Scalar.muli v4 c1_i32_198
  let v277 : BitVec 32 := Scalar.addi c0_i32_199 v276
  v277.toNat
def k0_mult26 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_217 : BitVec 32 := 8192#32
  let v299 : BitVec 32 := Scalar.muli v2 c8192_i32_217
  let c5120_i32_218 : BitVec 32 := 5120#32
  let v300 : BitVec 32 := Scalar.addi v299 c5120_i32_218
  v300
def k0_mult27 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_221 : BitVec 32 := 8192#32
  let v309 : BitVec 32 := Scalar.muli v2 c8192_i32_221
  let c5120_i32_222 : BitVec 32 := 5120#32
  let v310 : BitVec 32 := Scalar.addi v309 c5120_i32_222
  v310
def k0_mult28 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_223 : BitVec 32 := 8192#32
  let v312 : BitVec 32 := Scalar.muli v2 c8192_i32_223
  let c5120_i32_224 : BitVec 32 := 5120#32
  let v313 : BitVec 32 := Scalar.addi v312 c5120_i32_224
  v313
def k0_mult29 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_225 : BitVec 32 := 8192#32
  let v315 : BitVec 32 := Scalar.muli v2 c8192_i32_225
  let c5120_i32_226 : BitVec 32 := 5120#32
  let v316 : BitVec 32 := Scalar.addi v315 c5120_i32_226
  v316
def k0_mult30 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_227 : BitVec 32 := 8192#32
  let v318 : BitVec 32 := Scalar.muli v2 c8192_i32_227
  let c5120_i32_228 : BitVec 32 := 5120#32
  let v319 : BitVec 32 := Scalar.addi v318 c5120_i32_228
  v319
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_230 : BitVec 32 := 1#32
  let v321 : BitVec 32 := Scalar.muli v6 c1_i32_230
  let v322 : BitVec 32 := Scalar.addi c0_i32_231 v321
  v322.toNat
def k0_dev14 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_235 : BitVec 32 := 1#32
  let v329 : BitVec 32 := Scalar.muli v4 c1_i32_235
  let v330 : BitVec 32 := Scalar.addi c0_i32_236 v329
  v330.toNat
def k0_mult31 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_254 : BitVec 32 := 8192#32
  let v352 : BitVec 32 := Scalar.muli v2 c8192_i32_254
  let c6144_i32_255 : BitVec 32 := 6144#32
  let v353 : BitVec 32 := Scalar.addi v352 c6144_i32_255
  v353
def k0_mult32 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_258 : BitVec 32 := 8192#32
  let v362 : BitVec 32 := Scalar.muli v2 c8192_i32_258
  let c6144_i32_259 : BitVec 32 := 6144#32
  let v363 : BitVec 32 := Scalar.addi v362 c6144_i32_259
  v363
def k0_mult33 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_260 : BitVec 32 := 8192#32
  let v365 : BitVec 32 := Scalar.muli v2 c8192_i32_260
  let c6144_i32_261 : BitVec 32 := 6144#32
  let v366 : BitVec 32 := Scalar.addi v365 c6144_i32_261
  v366
def k0_mult34 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_262 : BitVec 32 := 8192#32
  let v368 : BitVec 32 := Scalar.muli v2 c8192_i32_262
  let c6144_i32_263 : BitVec 32 := 6144#32
  let v369 : BitVec 32 := Scalar.addi v368 c6144_i32_263
  v369
def k0_mult35 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_264 : BitVec 32 := 8192#32
  let v371 : BitVec 32 := Scalar.muli v2 c8192_i32_264
  let c6144_i32_265 : BitVec 32 := 6144#32
  let v372 : BitVec 32 := Scalar.addi v371 c6144_i32_265
  v372
def k0_dev15 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_267 : BitVec 32 := 1#32
  let v374 : BitVec 32 := Scalar.muli v6 c1_i32_267
  let v375 : BitVec 32 := Scalar.addi c0_i32_268 v374
  v375.toNat
def k0_dev16 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_272 : BitVec 32 := 1#32
  let v382 : BitVec 32 := Scalar.muli v4 c1_i32_272
  let v383 : BitVec 32 := Scalar.addi c0_i32_273 v382
  v383.toNat
def k0_mult36 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_286 : BitVec 32 := 8192#32
  let v400 : BitVec 32 := Scalar.muli v2 c8192_i32_286
  let c7168_i32_287 : BitVec 32 := 7168#32
  let v401 : BitVec 32 := Scalar.addi v400 c7168_i32_287
  v401
def k0_mult37 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_290 : BitVec 32 := 8192#32
  let v410 : BitVec 32 := Scalar.muli v2 c8192_i32_290
  let c7168_i32_291 : BitVec 32 := 7168#32
  let v411 : BitVec 32 := Scalar.addi v410 c7168_i32_291
  v411
def k0_mult38 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_292 : BitVec 32 := 8192#32
  let v413 : BitVec 32 := Scalar.muli v2 c8192_i32_292
  let c7168_i32_293 : BitVec 32 := 7168#32
  let v414 : BitVec 32 := Scalar.addi v413 c7168_i32_293
  v414
def k0_mult39 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_294 : BitVec 32 := 8192#32
  let v416 : BitVec 32 := Scalar.muli v2 c8192_i32_294
  let c7168_i32_295 : BitVec 32 := 7168#32
  let v417 : BitVec 32 := Scalar.addi v416 c7168_i32_295
  v417
def k0_mult40 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_296 : BitVec 32 := 8192#32
  let v419 : BitVec 32 := Scalar.muli v2 c8192_i32_296
  let c7168_i32_297 : BitVec 32 := 7168#32
  let v420 : BitVec 32 := Scalar.addi v419 c7168_i32_297
  v420
def k0_dev17 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_299 : BitVec 32 := 1#32
  let v422 : BitVec 32 := Scalar.muli v6 c1_i32_299
  let v423 : BitVec 32 := Scalar.addi c0_i32_300 v422
  v423.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_304 : BitVec 32 := 1#32
  let v430 : BitVec 32 := Scalar.muli v4 c1_i32_304
  let v431 : BitVec 32 := Scalar.addi c0_i32_305 v430
  v431.toNat
@[reducible] def k0_t1_loop : Scf.Loop 32 :=
  let c0_i32_309 : BitVec 32 := 0#32
  let c4_i32_310 : BitVec 32 := 4#32
  let v439 : BitVec 32 := Scalar.addi c0_i32_309 c4_i32_310
  let c1_i32_311 : BitVec 32 := 1#32
  ⟨c0_i32_309, v439, c1_i32_311⟩
def k0_off3 (d0 : Dev nD) (k0_t1 : Fin k0_t1_loop.trips) : Fin 2 → Nat :=
  let c0_846 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_844 : BitVec 32 := 8192#32
  let v1047 : BitVec 32 := Scalar.muli v2 c8192_i32_844
  let c0_i32_309 : BitVec 32 := 0#32
  let c1_i32_311 : BitVec 32 := 1#32
  let arg18 : BitVec 32 := Scf.iv c0_i32_309 c1_i32_311 k0_t1
  let c2048_i32_845 : BitVec 32 := 2048#32
  let v1048 : BitVec 32 := Scalar.muli arg18 c2048_i32_845
  let v1049 : BitVec 32 := Scalar.addi v1047 v1048
  let v1050 : Index := Scalar.indexCast v1049
  ![0, v1050.toNat]
def k0_dev19 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_320 : BitVec 32 := 1#32
  let v449 : BitVec 32 := Scalar.muli v6 c1_i32_320
  let v450 : BitVec 32 := Scalar.addi c0_i32_321 v449
  v450.toNat
def k0_dev20 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_330 : BitVec 32 := 1#32
  let v459 : BitVec 32 := Scalar.muli v4 c1_i32_330
  let v460 : BitVec 32 := Scalar.addi c0_i32_331 v459
  v460.toNat
def k0_dev21 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_398 : BitVec 32 := 1#32
  let v525 : BitVec 32 := Scalar.muli v6 c1_i32_398
  let v526 : BitVec 32 := Scalar.addi c0_i32_399 v525
  v526.toNat
def k0_mult41 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c8192_i32_404 : BitVec 32 := 8192#32
  let v535 : BitVec 32 := Scalar.muli v4 c8192_i32_404
  v535
def k0_mult42 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c8192_i32_405 : BitVec 32 := 8192#32
  let v537 : BitVec 32 := Scalar.muli v4 c8192_i32_405
  v537
def k0_off4 (d0 : Dev nD) : Fin 2 → Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c8192_i32_405 : BitVec 32 := 8192#32
  let v537 : BitVec 32 := Scalar.muli v4 c8192_i32_405
  let v538 : BitVec 32 := v537
  ![0, v538.toNat]
def k0_dev22 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_408 : BitVec 32 := 1#32
  let v539 : BitVec 32 := Scalar.muli v6 c1_i32_408
  let v540 : BitVec 32 := Scalar.addi c0_i32_409 v539
  v540.toNat
def k0_mult43 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c8192_i32_460 : BitVec 32 := 8192#32
  let v595 : BitVec 32 := Scalar.muli v6 c8192_i32_460
  v595
def k0_mult44 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c8192_i32_461 : BitVec 32 := 8192#32
  let v597 : BitVec 32 := Scalar.muli v6 c8192_i32_461
  v597
def k0_off5 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c8192_i32_461 : BitVec 32 := 8192#32
  let v597 : BitVec 32 := Scalar.muli v6 c8192_i32_461
  let v598 : BitVec 32 := v597
  ![256, v598.toNat]
def k0_dev23 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_464 : BitVec 32 := 1#32
  let v599 : BitVec 32 := Scalar.muli v4 c1_i32_464
  let v600 : BitVec 32 := Scalar.addi c0_i32_465 v599
  v600.toNat
def k0_off6 (d0 : Dev nD) (c0_i32_596 : BitVec 32) : Fin 2 → Nat :=
  let c0_597 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_595 : BitVec 32 := 8192#32
  let v735 : BitVec 32 := Scalar.muli v2 c8192_i32_595
  let v736 : BitVec 32 := Scalar.addi v735 c0_i32_596
  let v737 : Index := Scalar.indexCast v736
  ![0, v737.toNat]
def k0_off7 (d0 : Dev nD) (c0_i32_596 : BitVec 32) : Fin 2 → Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_595 : BitVec 32 := 8192#32
  let v735 : BitVec 32 := Scalar.muli v2 c8192_i32_595
  let v736 : BitVec 32 := Scalar.addi v735 c0_i32_596
  ![0, v736.toNat]
def k0_off8 (d0 : Dev nD) (c3_i32 : BitVec 32) (c0_i32_655 : BitVec 32) : Fin 2 → Nat :=
  let c0_656 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c8192_i32_654 : BitVec 32 := 8192#32
  let v818 : BitVec 32 := Scalar.muli v4 c8192_i32_654
  let v819 : BitVec 32 := Scalar.addi v818 c0_i32_655
  let v820 : Index := Scalar.indexCast v819
  ![0, v820.toNat]
def k0_off9 (d0 : Dev nD) (c3_i32 : BitVec 32) (c0_i32_655 : BitVec 32) : Fin 2 → Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c8192_i32_654 : BitVec 32 := 8192#32
  let v818 : BitVec 32 := Scalar.muli v4 c8192_i32_654
  let v819 : BitVec 32 := Scalar.addi v818 c0_i32_655
  ![0, v819.toNat]
def k0_mult45 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_826 : BitVec 32 := 2#32
  let v1027 : BitVec 32 := Scalar.addi v2 c2_i32_826
  let c4_i32_827 : BitVec 32 := 4#32
  let v1028 : BitVec 32 := Scalar.remsi v1027 c4_i32_827
  let c8192_i32_828 : BitVec 32 := 8192#32
  let v1029 : BitVec 32 := Scalar.muli v1028 c8192_i32_828
  v1029
def k0_mult46 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_826 : BitVec 32 := 2#32
  let v1027 : BitVec 32 := Scalar.addi v2 c2_i32_826
  let c4_i32_827 : BitVec 32 := 4#32
  let v1028 : BitVec 32 := Scalar.remsi v1027 c4_i32_827
  let c8192_i32_829 : BitVec 32 := 8192#32
  let v1031 : BitVec 32 := Scalar.muli v1028 c8192_i32_829
  v1031
def k0_off10 (d0 : Dev nD) : Fin 2 → Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_826 : BitVec 32 := 2#32
  let v1027 : BitVec 32 := Scalar.addi v2 c2_i32_826
  let c4_i32_827 : BitVec 32 := 4#32
  let v1028 : BitVec 32 := Scalar.remsi v1027 c4_i32_827
  let c8192_i32_829 : BitVec 32 := 8192#32
  let v1031 : BitVec 32 := Scalar.muli v1028 c8192_i32_829
  let v1032 : BitVec 32 := v1031
  ![0, v1032.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def k1_cond1 (i : grid1.Coords) (d0 : Dev nD) : BitVec 1 :=
  let arg0 : BitVec 32 := BitVec.ofNat 32 (i 0).val
  let c0_i32 : BitVec 32 := 0#32
  let v6 : BitVec 1 := Scalar.cmpi .sgt arg0 c0_i32
  let v7 : BitVec 32 := Scalar.extui v6
  let c0_i32_2 : BitVec 32 := 0#32
  let v8 : BitVec 1 := Scalar.cmpi .slt arg0 c0_i32_2
  let v9 : BitVec 32 := Scalar.extui v8
  let v10 : BitVec 32 := Scalar.subi v7 v9
  let c2_i32_1 : BitVec 32 := 2#32
  let c0_i32_3 : BitVec 32 := 0#32
  let v11 : BitVec 1 := Scalar.cmpi .sgt c2_i32_1 c0_i32_3
  let v12 : BitVec 32 := Scalar.extui v11
  let c0_i32_4 : BitVec 32 := 0#32
  let v13 : BitVec 1 := Scalar.cmpi .slt c2_i32_1 c0_i32_4
  let v14 : BitVec 32 := Scalar.extui v13
  let v15 : BitVec 32 := Scalar.subi v12 v14
  let v16 : BitVec 1 := Scalar.cmpi .ne v10 v15
  let v17 : BitVec 32 := Scalar.remsi arg0 c2_i32_1
  let c0_i32_5 : BitVec 32 := 0#32
  let v18 : BitVec 1 := Scalar.cmpi .ne v17 c0_i32_5
  let v19 : BitVec 1 := Scalar.andi v16 v18
  let v5 : BitVec 32 := Scalar.divsi arg0 c2_i32_1
  let c1_i32_6 : BitVec 32 := 1#32
  let v20 : BitVec 32 := Scalar.subi v5 c1_i32_6
  let v21 : BitVec 32 := Scalar.select v19 v20 v5
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let v4 : BitVec 32 := Scalar.remsi v3 c4_i32_0
  let v22 : BitVec 1 := Scalar.cmpi .eq v21 v4
  let v23 : BitVec 32 := Scalar.extui v22
  let c0_i32_7 : BitVec 32 := 0#32
  let v24 : BitVec 1 := Scalar.cmpi .ne v23 c0_i32_7
  v24

def k1_cond2 (i : grid1.Coords) (d0 : Dev nD) : BitVec 1 :=
  let arg0 : BitVec 32 := BitVec.ofNat 32 (i 0).val
  let c0_i32_9 : BitVec 32 := 0#32
  let v26 : BitVec 1 := Scalar.cmpi .sgt arg0 c0_i32_9
  let v27 : BitVec 32 := Scalar.extui v26
  let c0_i32_10 : BitVec 32 := 0#32
  let v28 : BitVec 1 := Scalar.cmpi .slt arg0 c0_i32_10
  let v29 : BitVec 32 := Scalar.extui v28
  let v30 : BitVec 32 := Scalar.subi v27 v29
  let c2_i32_8 : BitVec 32 := 2#32
  let c0_i32_11 : BitVec 32 := 0#32
  let v31 : BitVec 1 := Scalar.cmpi .sgt c2_i32_8 c0_i32_11
  let v32 : BitVec 32 := Scalar.extui v31
  let c0_i32_12 : BitVec 32 := 0#32
  let v33 : BitVec 1 := Scalar.cmpi .slt c2_i32_8 c0_i32_12
  let v34 : BitVec 32 := Scalar.extui v33
  let v35 : BitVec 32 := Scalar.subi v32 v34
  let v36 : BitVec 1 := Scalar.cmpi .ne v30 v35
  let v37 : BitVec 32 := Scalar.remsi arg0 c2_i32_8
  let c0_i32_13 : BitVec 32 := 0#32
  let v38 : BitVec 1 := Scalar.cmpi .ne v37 c0_i32_13
  let v39 : BitVec 1 := Scalar.andi v36 v38
  let v25 : BitVec 32 := Scalar.divsi arg0 c2_i32_8
  let c1_i32_14 : BitVec 32 := 1#32
  let v40 : BitVec 32 := Scalar.subi v25 c1_i32_14
  let v41 : BitVec 32 := Scalar.select v39 v40 v25
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let v4 : BitVec 32 := Scalar.remsi v3 c4_i32_0
  let v42 : BitVec 1 := Scalar.cmpi .ne v41 v4
  let v43 : BitVec 32 := Scalar.extui v42
  let c0_i32_15 : BitVec 32 := 0#32
  let v44 : BitVec 1 := Scalar.cmpi .ne v43 c0_i32_15
  v44

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x32768, .f32⟩
  | .hbm, ⟨2, _⟩ => ⟨S512x32768, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x32768, .f32⟩
  | .hbm, ⟨7, _⟩ => ⟨S512x32768, .f32⟩
  | .hbm, ⟨8, _⟩ => ⟨S512x32768, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x32768, .f32⟩
  | .hbm, ⟨13, _⟩ => ⟨S512x32768, .f32⟩
  | .hbm, ⟨14, _⟩ => ⟨S512x32768, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Proto.lean ====
/-
The communication protocol of the first kernel: its cells, what each cell's transfers carry, what each
device owes at the start and the order in which it may wait.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic
public import Idealize.ShloMosaic.Lib.Scf
public import Idealize.ShloMosaic.Lib.ValueLayout

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own ghost state: rounds whose duties carry a Boolean name. -/
abbrev UB : Type := URounds (GSem nD τ sig) Bool
/-- The ghost state of the whole run: the pipelines' and the protocol's. -/
abbrev UU : Type := UR sig nD τ × UB

local notation "𝕄" => MT nD τ sig Unit (Elt F) ℕ UU ℕ

/-- The pipelines' part of the ghost state. -/
abbrev EP : Emb (UR sig nD τ) (MT nD τ sig Unit (Elt F) ℕ UU ℕ) := embL
/-- The protocol's part of the ghost state. -/
abbrev ER : Emb UB (MT nD τ sig Unit (Elt F) ℕ UU ℕ) := embR

/-! ## The ring -/

/-- The device after `c` on the ring. -/
abbrev nxt (c : Dev nD) : Dev nD := ⟨(c.val + 1) % 4, Nat.mod_lt _ (by decide)⟩
/-- The device before `c` on the ring. -/
abbrev prv (c : Dev nD) : Dev nD := ⟨(c.val + 3) % 4, Nat.mod_lt _ (by decide)⟩
/-- The device across the ring. -/
abbrev opp (c : Dev nD) : Dev nD := ⟨(c.val + 2) % 4, Nat.mod_lt _ (by decide)⟩

/-- The successor of the predecessor is the device itself. -/
theorem nxt_prv : ∀ c : Dev nD, nxt (prv c) = c := by decide
/-- The predecessor of the successor is the device itself. -/
theorem prv_nxt : ∀ c : Dev nD, prv (nxt c) = c := by decide
/-- Two steps back lead across the ring. -/
theorem prv_prv : ∀ c : Dev nD, prv (prv c) = opp c := by decide
/-- Two steps forward lead across the ring. -/
theorem nxt_nxt : ∀ c : Dev nD, nxt (nxt c) = opp c := by decide
/-- The device across the ring from the successor is the predecessor. -/
theorem opp_nxt : ∀ c : Dev nD, opp (nxt c) = prv c := by decide
/-- The device across the ring from the predecessor is the successor. -/
theorem opp_prv : ∀ c : Dev nD, opp (prv c) = nxt c := by decide

/-! ## Parts of the buffers -/

/-- Column block `j` of width 1024 of device `d`'s column range. -/
def tileS (d j : ℕ) : Finset S512x32768.Idx := Finset.univ.filter fun i => (i 1).val / 1024 = 8 * d + j
/-- Column block `t` of width 2048 of device `d`'s column range. -/
def ptileS (d t : ℕ) : Finset S512x32768.Idx := Finset.univ.filter fun i => (i 1).val / 2048 = 4 * d + t
/-- Device `d`'s column range. -/
def colsS (d : ℕ) : Finset S512x32768.Idx := Finset.univ.filter fun i => (i 1).val / 8192 = d
/-- The upper (`h = 0`) or lower (`h = 1`) half of the rows of device `d`'s column range. -/
def halfS (d h : ℕ) : Finset S512x32768.Idx := Finset.univ.filter fun i => (i 1).val / 8192 = d ∧ (i 0).val / 256 = h
/-- Column block `j` of a device's weight shard. -/
def colW (j : ℕ) : Finset S1024x8192.Idx := Finset.univ.filter fun i => (i 1).val / 1024 = j
/-- One slot of the weight buffer. -/
def slotW (s : ℕ) : Finset S2x1024x1024.Idx := Finset.univ.filter fun i => (i 0).val = s
/-- One slot of the statistics buffer. -/
def slotA (s : ℕ) : Finset S4x512x8.Idx := Finset.univ.filter fun i => (i 0).val = s
/-- One slot of the staging buffer. -/
def slotG (s : ℕ) : Finset S2x512x2048.Idx := Finset.univ.filter fun i => (i 0).val = s

/-! ## Contents -/

variable (m : (ℓ : Loc nD τ sig) → Buf (Elt F) ℓ)

/-- Device `d`'s activations. -/
abbrev xin (d : Dev nD) : S512x1024.Idx → Elt F .f32 := m ((d : Thread nD τ).loc main_arg0)
/-- Device `d`'s weight shard. -/
abbrev win (d : Dev nD) : S1024x8192.Idx → Elt F .f32 := m ((d : Thread nD τ).loc main_arg1)

/-- Device `d`'s activations in the narrow type. -/
def xb (d : Dev nD) : FVec F S512x1024 .bf16 := k0_pay1 (xin m d)
/-- The weight buffer once column block `j` sits in (each of) its slots. -/
def wbuf (d : Dev nD) (j : ℕ) : S2x1024x1024.Idx → Elt F .f32 :=
  fun i => win m d (ix2 (i 1) ⟨(1024 * j + (i 2).val) % 8192, Nat.mod_lt _ (by decide)⟩)
/-- Column block `j` of the weight shard as it is read from a slot. -/
def wslot (d : Dev nD) (j : ℕ) : Vec F S1x1024x1024 .f32 :=
  fun i => win m d (ix2 (i 1) ⟨(1024 * j + (i 2).val) % 8192, Nat.mod_lt _ (by decide)⟩)
/-- Tile `j` of device `d`'s logits, in the wide type. -/
def acc (d : Dev nD) (j : ℕ) : FVec F S512x1024 .f32 := k0_pay2 (xb m d) (wslot m d j)
/-- Tile `j` of device `d`'s logits, in the narrow type. -/
def tile (d : Dev nD) (j : ℕ) : FVec F S512x1024 .bf16 := k0_pay3 (xb m d) (wslot m d j)

/-- The whole logits, every device's tiles side by side. -/
def LG : S512x32768.Idx → Elt F .bf16 := fun i =>
  tile m ⟨(i 1).val / 8192 % 4, Nat.mod_lt _ (by decide)⟩ ((i 1).val % 8192 / 1024)
    (ix2 (i 0) ⟨(i 1).val % 1024, Nat.mod_lt _ (by decide)⟩)

/-- The running row maximum over device `d`'s tiles `0 … n`. -/
def mrec (d : Dev nD) : ℕ → FVec F S512x1 .f32
  | 0 => k0_pay4 (xb m d) (wslot m d 0)
  | n + 1 => k0_pay8 (mrec d n) (acc m d (n + 1))
/-- Device `d`'s row maxima. -/
def mloc (d : Dev nD) : FVec F S512x1 .f32 := mrec m d 7

/-- Block `t` (2048 columns) of device `d`'s logits. -/
def subc (d : Dev nD) (t : ℕ) : Vec F S512x2048 .bf16 :=
  fun i => LG m (ix2 (i 0) ⟨(8192 * d.val + 2048 * t + (i 1).val) % 32768, Nat.mod_lt _ (by decide)⟩)
/-- The running sum of exponentials over device `d`'s blocks `0 … n - 1`. -/
def srec (d : Dev nD) : ℕ → FVec F S512x1 .f32
  | 0 => k0_pay28
  | n + 1 => k0_pay29 (mloc m d) (srec d n) (subc m d n)
/-- Device `d`'s sums of exponentials. -/
def sloc (d : Dev nD) : FVec F S512x1 .f32 := srec m d 4
/-- Device `d`'s statistics: its row maxima in columns 0–3, its sums in columns 4–7. -/
def stat (d : Dev nD) : FVec F S1x512x8 .f32 := k0_pay30 (mloc m d) (sloc m d)
/-- The device whose statistics slot `s` of device `c` receives. -/
def slotDev (c : Dev nD) (s : ℕ) : Dev nD :=
  if s = 0 then c else if s = 1 then prv c else if s = 2 then nxt c else opp c
/-- Device `c`'s statistics buffer once every slot is filled. -/
def SB (c : Dev nD) : S4x512x8.Idx → Elt F .f32 := fun i => stat m (slotDev c (i 0).val) (ix3 0 (i 1) (i 2))
/-- Column `o` of device `d`'s statistics. -/
def scol (d : Dev nD) (o : Fin 8) : Vec F S1x512x1 .f32 := fun i => stat m d (ix3 0 (i 1) o)
/-- The global row maxima, as device `c` computes them. -/
def Mg (c : Dev nD) : FVec F S512x1 .f32 :=
  k0_pay35 (k0_pay31 (scol m c 0)) (k0_pay32 (scol m (prv c) 0)) (scol m (nxt c) 0) (scol m (opp c) 0)
/-- The global sums, as device `c` computes them. -/
def Sg (c : Dev nD) : FVec F S512x1 .f32 :=
  k0_pay36 (k0_pay31 (scol m c 0)) (k0_pay32 (scol m (prv c) 0)) (scol m (nxt c) 0) (scol m (opp c) 0)
    (scol m c 4) (scol m (prv c) 4) (scol m (nxt c) 4) (scol m (opp c) 4)
/-- The first statistics result of device `c`. -/
def Mout (c : Dev nD) : FVec F S512x128 .f32 :=
  k0_pay37 (k0_pay31 (scol m c 0)) (k0_pay32 (scol m (prv c) 0)) (scol m (nxt c) 0) (scol m (opp c) 0)
/-- The second statistics result of device `c`. -/
def Rout (c : Dev nD) : FVec F S512x128 .f32 :=
  k0_pay38 (k0_pay31 (scol m c 0)) (k0_pay32 (scol m (prv c) 0)) (scol m (nxt c) 0) (scol m (opp c) 0)
    (scol m c 4) (scol m (prv c) 4) (scol m (nxt c) 4) (scol m (opp c) 4)
/-- Block `t` of the probabilities of device `d`'s columns, as device `c` computes them. -/
def pblk (c d : Dev nD) (t : ℕ) : FVec F S1x512x2048 .bf16 := k0_pay41 (Mg m c) (Sg m c) (subc m d t)
/-- Device `c`'s first result once the kernel is done: probabilities, and raw logits in the columns of the
    device across the ring. -/
def PR (c : Dev nD) : S512x32768.Idx → Elt F .bf16 := fun i =>
  if (i 1).val / 8192 = (opp c).val then LG m i
  else pblk m c ⟨(i 1).val / 8192 % 4, Nat.mod_lt _ (by decide)⟩ ((i 1).val % 8192 / 2048)
    (ix3 0 (i 0) ⟨(i 1).val % 2048, Nat.mod_lt _ (by decide)⟩)

/-! ## Cells -/

/-- What a DMA semaphore of the first kernel counts: the copy of a weight block into slot `s` (`w`); a
    tile sent clockwise (`sR`, `rR`) and counter-clockwise (`sL`, `rL`); the second hop of half a column
    range (`s2s`, `s2r`); the statistics (`sts`, `str`); the probabilities' staging (`stg`); the copy of the
    logits across the ring (`lg`). -/
inductive KD where
  | w (s : Fin 2) | sR (j : Fin 8) | sL (j : Fin 8) | rR (j : Fin 8) | rL (j : Fin 8)
  | s2s (a : Fin 2) | s2r (a : Fin 2) | sts (a : Fin 3) | str (a : Fin 3) | stg (s : Fin 2) | lg
  deriving DecidableEq

abbrev kw (s : Fin 2) : Fin 47 := ⟨s.val, by omega⟩
abbrev ksR (j : Fin 8) : Fin 47 := ⟨2 + j.val, by omega⟩
abbrev ksL (j : Fin 8) : Fin 47 := ⟨10 + j.val, by omega⟩
abbrev krR (j : Fin 8) : Fin 47 := ⟨18 + j.val, by omega⟩
abbrev krL (j : Fin 8) : Fin 47 := ⟨26 + j.val, by omega⟩
abbrev ks2s (a : Fin 2) : Fin 47 := ⟨34 + a.val, by omega⟩
abbrev ks2r (a : Fin 2) : Fin 47 := ⟨36 + a.val, by omega⟩
abbrev ksts (a : Fin 3) : Fin 47 := ⟨38 + a.val, by omega⟩
abbrev kstr (a : Fin 3) : Fin 47 := ⟨41 + a.val, by omega⟩
abbrev kstg (s : Fin 2) : Fin 47 := ⟨44 + s.val, by omega⟩
abbrev klg : Fin 47 := ⟨46, by decide⟩

/-- The kind of the semaphore at place `k`. -/
def kd (k : Fin 47) : KD :=
  if h : k.val < 2 then .w ⟨k.val, h⟩
  else if h : k.val < 10 then .sR ⟨k.val - 2, by omega⟩
  else if h : k.val < 18 then .sL ⟨k.val - 10, by omega⟩
  else if h : k.val < 26 then .rR ⟨k.val - 18, by omega⟩
  else if h : k.val < 34 then .rL ⟨k.val - 26, by omega⟩
  else if h : k.val < 36 then .s2s ⟨k.val - 34, by omega⟩
  else if h : k.val < 38 then .s2r ⟨k.val - 36, by omega⟩
  else if h : k.val < 41 then .sts ⟨k.val - 38, by omega⟩
  else if h : k.val < 44 then .str ⟨k.val - 41, by omega⟩
  else if h : k.val < 46 then .stg ⟨k.val - 44, by omega⟩
  else .lg

/-- The weight semaphores count weight copies. -/
theorem kd_w (s : Fin 2) : kd (kw s) = .w s := by revert s; decide +kernel
/-- The first eight send semaphores count the tiles sent clockwise. -/
theorem kd_sR (j : Fin 8) : kd (ksR j) = .sR j := by revert j; decide +kernel
/-- The other eight count the tiles sent counter-clockwise. -/
theorem kd_sL (j : Fin 8) : kd (ksL j) = .sL j := by revert j; decide +kernel
/-- The first eight receive semaphores count the tiles that arrive clockwise. -/
theorem kd_rR (j : Fin 8) : kd (krR j) = .rR j := by revert j; decide +kernel
/-- The other eight count the tiles that arrive counter-clockwise. -/
theorem kd_rL (j : Fin 8) : kd (krL j) = .rL j := by revert j; decide +kernel
/-- The second hop's send semaphores. -/
theorem kd_s2s (a : Fin 2) : kd (ks2s a) = .s2s a := by revert a; decide +kernel
/-- The second hop's receive semaphores. -/
theorem kd_s2r (a : Fin 2) : kd (ks2r a) = .s2r a := by revert a; decide +kernel
/-- The statistics' send semaphores. -/
theorem kd_sts (a : Fin 3) : kd (ksts a) = .sts a := by revert a; decide +kernel
/-- The statistics' receive semaphores. -/
theorem kd_str (a : Fin 3) : kd (kstr a) = .str a := by revert a; decide +kernel
/-- The staging slots' semaphores. -/
theorem kd_stg (s : Fin 2) : kd (kstg s) = .stg s := by revert s; decide +kernel
/-- The semaphore of the copy of raw logits. -/
theorem kd_lg : kd klg = .lg := rfl

/-- The semaphore at place `k`. -/
abbrev dsem (k : Fin 47) : DmaSem sig := (⟨3 + k.val, by have := k.isLt; show 3 + k.val < 56; omega⟩ : Fin 56)
/-- The barrier semaphore. -/
abbrev barS : Sem sig := sig.barrier 0 rfl
/-- Device `c`'s cell at place `k`. -/
abbrev cell (c : Dev nD) (k : Fin 47) : GSem nD τ sig := ((c : Thread nD τ), .dma (dsem k))
/-- Device `c`'s barrier cell. -/
abbrev barCell (c : Dev nD) : GSem nD τ sig := ((c : Thread nD τ), .reg barS)

/-- Different numbers name different DMA semaphores. -/
theorem dsem_inj : Function.Injective dsem := fun a b h => by
  have : 3 + a.val = 3 + b.val := congrArg (fun x : Fin 56 => x.val) h
  exact Fin.ext (by omega)

/-- The buffer on which a transfer on a semaphore of a kind lands, and the shape and type of what it carries. -/
def carries : KD → Ref sig .tc × Shape × EltTy
  | .w _ => (cc0_scratch1, S1024x1024, .f32)
  | .sR _ | .sL _ | .rR _ | .rL _ => (cc0_scratch0, S512x1024, .bf16)
  | .s2s _ | .s2r _ => (cc0_scratch0, S256x8192, .bf16)
  | .sts _ | .str _ => (cc0_scratch2, S512x8, .f32)
  | .stg _ => (main_v1_0, S512x2048, .bf16)
  | .lg => (main_v1_0, S512x8192, .bf16)
/-- What one transfer on a semaphore of a kind counts. -/
def amtD (k : KD) : ℕ := Ref.dmaCredit (carries k).1 (carries k).2.1 (carries k).2.2
/-- A transfer of a shape that isn't empty is worth something. -/
theorem credit_pos (b : Ref sig .tc) (s : Shape) (e : EltTy) (h : 0 < s.numel) : 0 < Ref.dmaCredit b s e :=
  RefSig.dmaCredit_pos sig _ _ _ _ _ h
/-- No transfer's shape is empty. -/
theorem carries_pos (k : KD) : 0 < (carries k).2.1.numel := by
  cases k with
  | w _ => exact (by decide : 0 < S1024x1024.numel)
  | sR _ | sL _ | rR _ | rL _ => exact (by decide : 0 < S512x1024.numel)
  | s2s _ | s2r _ => exact (by decide : 0 < S256x8192.numel)
  | sts _ | str _ => exact (by decide : 0 < S512x8.numel)
  | stg _ => exact (by decide : 0 < S512x2048.numel)
  | lg => exact (by decide : 0 < S512x8192.numel)
/-- Every transfer is worth something. -/
theorem amtD_pos (k : KD) : 0 < amtD k := credit_pos _ _ _ (carries_pos k)
/-- How many transfers a semaphore of a kind counts, one after the other. -/
def rounds : KD → ℕ
  | .w _ => 4
  | .stg _ => 6
  | _ => 1
/-- Every DMA semaphore is used at least once. -/
theorem rounds_pos (k : KD) : 0 < rounds k := by cases k <;> simp only [rounds] <;> omega

/-! ## What the transfers carry -/

/-- Part of a buffer of device `c`, at a share and with the given contents. -/
abbrev ptS (c : Dev nD) (b : Ref sig .tc) (S : Finset b.ty.Idx) (q : PosShare TreeShare) (f : b.ty.Contents (Elt F)) : sProp 𝕄 :=
  ((c : Thread nD τ).loc b) ↦[S]{q} f

/-- The share of a tile lent to the clockwise transfer, to the counter-clockwise one, and the share kept. -/
abbrev qR : PosShare TreeShare := fullShare.left
abbrev qL : PosShare TreeShare := fullShare.right.left
abbrev qK : PosShare TreeShare := fullShare.right.right

/-- The region of device `c` on which the transfer of a kind lands, at contents not named. -/
def landR (c : Dev nD) : KD → sProp 𝕄
  | .rR j => iprop(∃ f, ptS c cc0_scratch0 (tileS (prv c).val j.val) fullShare f)
  | .rL j => iprop(∃ f, ptS c cc0_scratch0 (tileS (nxt c).val j.val) fullShare f)
  | .s2r a => iprop(∃ f, ptS c cc0_scratch0 (halfS (opp c).val a.val) fullShare f)
  | .str a => iprop(∃ f, ptS c cc0_scratch2 (slotA (a.val + 1)) fullShare f)
  | _ => iprop(emp)

/-- The three devices whose probabilities device `c` writes, in order. -/
def chunkDev (c : Dev nD) (e : ℕ) : Dev nD := if e = 0 then c else if e = 1 then prv c else nxt c

/-- What the `r`-th transfer on a cell of device `c` hands over when it is done. -/
def payD (c : Dev nD) : KD → ℕ → sProp 𝕄
  | .w s, r => iprop(ptS c cc0_scratch1 (slotW s.val) fullShare (wbuf m c (2 * r + s.val)) ∗ ptS c main_arg1 (colW (2 * r + s.val)) fullShare (win m c))
  | .sR j, _ => ptS c cc0_scratch0 (tileS c.val j.val) qR (LG m)
  | .sL j, _ => ptS c cc0_scratch0 (tileS c.val j.val) qL (LG m)
  | .rR j, _ => ptS c cc0_scratch0 (tileS (prv c).val j.val) fullShare (LG m)
  | .rL j, _ => ptS c cc0_scratch0 (tileS (nxt c).val j.val) fullShare (LG m)
  | .s2s a, _ => ptS c cc0_scratch0 (halfS (if a.val = 0 then prv c else nxt c).val a.val) qR (LG m)
  | .s2r a, _ => ptS c cc0_scratch0 (halfS (opp c).val a.val) fullShare (LG m)
  | .sts a, _ => ptS c cc0_scratch2 (slotA (if a.val = 2 then 1 else 0)) (if a.val = 0 then qR else qL) (SB m c)
  | .str a, _ => ptS c cc0_scratch2 (slotA (a.val + 1)) fullShare (SB m c)
  | .stg s, r => iprop(ptS c main_v1_0 (ptileS (chunkDev c ((2 * r + s.val) / 4)).val ((2 * r + s.val) % 4)) fullShare (PR m c)
      ∗ ∃ f, ptS c cc0_scratch3 (slotG s.val) fullShare f)
  | .lg, _ => iprop(ptS c main_v1_0 (colsS (opp c).val) fullShare (PR m c) ∗ ptS c cc0_scratch0 (colsS (opp c).val) fullShare (LG m))

/-- Device `n`'s landing region at place `k`, and that its cell there is at its first round. -/
def landAt (n : Dev nD) (k : Fin 47) : sProp 𝕄 := iprop(landR n (kd k) ∗ reached ER (cell n k) 0)

/-- What device `c`'s barrier cell receives: from the device after it (`false`) what `c`'s clockwise
    transfers land on, from the device before it (`true`) what its counter-clockwise transfers land on. -/
def barPay (c : Dev nD) : Bool → sProp 𝕄
  | false => iprop(bigSep Finset.univ (fun j : Fin 8 => landAt (nxt c) (krR j)) ∗ landAt (nxt c) (kstr 0) ∗ landAt (nxt c) (kstr 2) ∗ landAt (nxt c) (ks2r 0))
  | true => iprop(bigSep Finset.univ (fun j : Fin 8 => landAt (prv c) (krL j)) ∗ landAt (prv c) (kstr 1) ∗ landAt (prv c) (ks2r 1))

/-! ## The schedule -/

/-- The place of a semaphore among the kernel's own, if it is one of them. -/
def place (s : SemLoc sig) : Option (Fin 47) :=
  match s with
  | .dma i => if h : 3 ≤ i.val ∧ i.val < 50 then some ⟨i.val - 3, by omega⟩ else none
  | .reg _ => none
/-- A DMA semaphore's number is found again. -/
theorem place_dsem (k : Fin 47) : place (.dma (dsem k)) = some k := by
  have hk := k.isLt
  have h : 3 ≤ (dsem k : Fin 56).val ∧ (dsem k : Fin 56).val < 50 := ⟨by show 3 ≤ 3 + k.val; omega, by show 3 + k.val < 50; omega⟩
  show (if h : 3 ≤ (dsem k : Fin 56).val ∧ (dsem k : Fin 56).val < 50 then some (⟨(dsem k : Fin 56).val - 3, by omega⟩ : Fin 47) else none) = some k
  rw [dif_pos h]
  exact congrArg some (Fin.ext (by show 3 + k.val - 3 = k.val; omega))

def dutiesOf (s : SemLoc sig) (r : ℕ) : Finset Bool :=
  match s with
  | .reg i => if i = barS ∧ r = 0 then {false, true} else ∅
  | .dma i => match place (.dma i) with
    | some k => if r < rounds (kd k) then {false} else ∅
    | none => ∅
/-- Of the regular semaphores the barrier alone has duties: two, in its only round. -/
theorem dutiesOf_reg (i : Sem sig) (r : ℕ) : dutiesOf (.reg i) r = if i = barS ∧ r = 0 then {false, true} else ∅ := rfl
/-- A DMA semaphore has one duty in each of its rounds. -/
theorem dutiesOf_dma (k : Fin 47) (r : ℕ) : dutiesOf (.dma (dsem k)) r = if r < rounds (kd k) then {false} else ∅ := by
  show (match place (.dma (dsem k)) with | some k => if r < rounds (kd k) then ({false} : Finset Bool) else ∅ | none => ∅) = _
  rw [place_dsem]
def amountOf' (s : SemLoc sig) : ℕ :=
  match place s with
  | some k => amtD (kd k)
  | none => 1
def payOf (c : Dev nD) (s : SemLoc sig) (r : ℕ) (d : Bool) : sProp 𝕄 :=
  match s with
  | .reg _ => barPay c d
  | .dma i => match place (.dma i) with
    | some k => payD m c (kd k) r
    | none => iprop(emp)

/-- The schedule: each barrier cell has two duties in its first round; each of the kernel's own semaphores
    one duty in each of its rounds. -/
def sched : Rounds.Schedule (GSem nD τ sig) Bool 𝕄 where
  duties g r := if g.1.2 = .tc then dutiesOf g.2 r else ∅
  unitless _ := False
  amount g _ _ := amountOf' g.2
  payload g r d := payOf m g.1.1 g.2 r d
  amount_pos g _ _ _ := by
    show 0 < amountOf' g.2
    unfold amountOf'
    split
    · exact amtD_pos _
    · exact Nat.one_pos

instance landR_storable (c : Dev nD) (k : KD) : BI.Storable (upEmb : UEmb _ 𝕄) (landR (F := F) c k) := by
  cases k <;> (unfold landR; infer_instance)
instance landAt_storable (c : Dev nD) (k : Fin 47) : BI.Storable (upEmb : UEmb _ 𝕄) (landAt (F := F) c k) := by
  unfold landAt; infer_instance
instance barPay_storable (c : Dev nD) (d : Bool) : BI.Storable (upEmb : UEmb _ 𝕄) (barPay (F := F) c d) := by
  cases d <;> (unfold barPay; infer_instance)
instance payD_storable (c : Dev nD) (k : KD) (r : ℕ) : BI.Storable (upEmb : UEmb _ 𝕄) (payD m c k r) := by
  cases k <;> (unfold payD; infer_instance)
instance payOf_storable (c : Dev nD) (s : SemLoc sig) (r : ℕ) (d : Bool) : BI.Storable (upEmb : UEmb _ 𝕄) (payOf m c s r d) := by
  unfold payOf
  (repeat' split) <;> infer_instance
instance sched_storable (g : GSem nD τ sig) (r : ℕ) (d : Bool) :
    BI.Storable (upEmb : UEmb _ 𝕄) ((sched (F := F) m).payload g r d) := payOf_storable m g.1.1 g.2 r d

section Tables
variable (c : Dev nD) (k : Fin 47)

/-- The barrier's duties in its round are one from each neighbour. -/
theorem duties_bar : (sched (F := F) m).duties (barCell c) 0 = {false, true} := by
  show (if (c : Thread nD τ).2 = .tc then dutiesOf (.reg barS) 0 else ∅) = _
  rw [if_pos rfl]; rw [dutiesOf_reg]; rw [if_pos ⟨rfl, rfl⟩]
/-- The one duty of a DMA cell's round. -/
theorem duties_cell {r : ℕ} (hr : r < rounds (kd k)) : (sched (F := F) m).duties (cell c k) r = {false} := by
  show (if (c : Thread nD τ).2 = .tc then dutiesOf (.dma (dsem k)) r else ∅) = _
  rw [if_pos rfl]; rw [dutiesOf_dma]; rw [if_pos hr]
/-- After its last round a DMA cell has no duty. -/
theorem duties_cell_end : ∀ r, rounds (kd k) ≤ r → (sched (F := F) m).duties (cell c k) r = ∅ := fun r hr => by
  show (if (c : Thread nD τ).2 = .tc then dutiesOf (.dma (dsem k)) r else ∅) = _
  rw [if_pos rfl]; rw [dutiesOf_dma]; rw [if_neg (by omega)]
/-- After its round the barrier has no duty. -/
theorem duties_bar_end : ∀ r, 1 ≤ r → (sched (F := F) m).duties (barCell c) r = ∅ := fun r hr => by
  show (if (c : Thread nD τ).2 = .tc then dutiesOf (.reg barS) r else ∅) = _
  rw [if_pos rfl]; rw [dutiesOf_reg]; rw [if_neg (fun h => by omega)]
/-- A barrier signal is one unit. -/
theorem amount_bar (d : Bool) : (sched (F := F) m).amount (barCell c) 0 d = 1 := rfl
/-- A duty on a DMA cell is its transfer's amount. -/
theorem amount_cell (r : ℕ) (d : Bool) : (sched (F := F) m).amount (cell c k) r d = amtD (kd k) := by
  show amountOf' (.dma (dsem k)) = _
  unfold amountOf'; simp only [place_dsem]
/-- What a barrier signal hands over. -/
theorem payload_bar (d : Bool) : (sched (F := F) m).payload (barCell c) 0 d = barPay c d := rfl
/-- What a transfer hands over. -/
theorem payload_cell (r : ℕ) (d : Bool) : (sched (F := F) m).payload (cell c k) r d = payD m c (kd k) r := by
  show payOf m c (.dma (dsem k)) r d = _
  unfold payOf; simp only [place_dsem]
/-- The barrier's round is worth two units. -/
theorem expect_bar : (sched (F := F) m).expect (barCell c) 0 = 2 := by
  unfold Schedule.expect Schedule.amountOf; rw [duties_bar, Finset.sum_pair (by decide), amount_bar, amount_bar]
/-- A DMA cell's round is worth one transfer. -/
theorem expect_cell {r : ℕ} (hr : r < rounds (kd k)) : (sched (F := F) m).expect (cell c k) r = amtD (kd k) := by
  unfold Schedule.expect Schedule.amountOf; rw [duties_cell m c k hr, Finset.sum_singleton, amount_cell]
/-- All that the barrier's round hands over: both neighbours' payloads. -/
theorem rest_bar : bigSep ((sched (F := F) m).duties (barCell c) 0 \ ∅) (fun u => (sched (F := F) m).payload (barCell c) 0 u)
    = iprop(barPay c false ∗ barPay c true) := by
  rw [Finset.sdiff_empty, duties_bar, bigSep_insert (by decide), bigSep_singleton]; rfl
/-- All that a DMA cell's round hands over: its transfer's payload. -/
theorem rest_cell {r : ℕ} (hr : r < rounds (kd k)) :
    bigSep ((sched (F := F) m).duties (cell c k) r \ ∅) (fun u => (sched (F := F) m).payload (cell c k) r u) = payD m c (kd k) r := by
  rw [Finset.sdiff_empty, duties_cell m c k hr, bigSep_singleton, payload_cell]

end Tables

/-! ## What a device owes, and the levels of the cells -/

abbrev aT : ℕ := amtD (.rR 0)
abbrev aS : ℕ := amtD (.str 0)
abbrev aH : ℕ := amtD (.s2r 0)

/-- What device `c` owes at the start, in the order in which it pays: a unit to each neighbour's barrier
    cell, then the amounts of its transfers to the neighbours' cells. -/
def dues (c : Dev nD) : List (GSem nD τ sig × ℕ) :=
  [(barCell (prv c), 1), (barCell (nxt c), 1),
   (cell (nxt c) (krR 0), aT), (cell (prv c) (krL 0), aT), (cell (nxt c) (krR 1), aT), (cell (prv c) (krL 1), aT),
   (cell (nxt c) (krR 2), aT), (cell (prv c) (krL 2), aT), (cell (nxt c) (krR 3), aT), (cell (prv c) (krL 3), aT),
   (cell (nxt c) (krR 4), aT), (cell (prv c) (krL 4), aT), (cell (nxt c) (krR 5), aT), (cell (prv c) (krL 5), aT),
   (cell (nxt c) (krR 6), aT), (cell (prv c) (krL 6), aT), (cell (nxt c) (krR 7), aT), (cell (prv c) (krL 7), aT),
   (cell (nxt c) (kstr 0), aS), (cell (prv c) (kstr 1), aS), (cell (nxt c) (kstr 2), aS),
   (cell (nxt c) (ks2r 0), aH), (cell (prv c) (ks2r 1), aH)]

/-- The amounts of a list, owed together. -/
def owedL : List (GSem nD τ sig × ℕ) → CellTallies nD τ sig Unit
  | [] => 0
  | t :: l => owedL l + tallyAt t.1 () t.2

/-- What device `c` still owes after its first `n` payments. -/
def owed (c : Dev nD) (n : ℕ) : CellTallies nD τ sig Unit := owedL ((dues c).drop n)
/-- One due less is owed once it is paid. -/
theorem owed_step (c : Dev nD) (n : ℕ) (t : GSem nD τ sig × ℕ) (h : (dues c).drop n = t :: (dues c).drop (n + 1)) :
    owed c n = owed c (n + 1) + tallyAt t.1 () t.2 := by unfold owed; rw [h]; rfl
/-- After the last due nothing is owed. -/
theorem owed_end (c : Dev nD) : owed c 23 = 0 := rfl

/-- The cells on which the protocol's accounting is kept: those of the TensorCores. -/
def L (g : GSem nD τ sig) : Finset Unit := if g.1.2 = .tc then {()} else ∅
/-- The level of a semaphore: barrier 1, arrivals of the first hop 2, arrivals of the second hop 3, the rest 0. -/
def lvS : SemLoc sig → ℕ
  | .reg _ => 1
  | .dma i => if 21 ≤ i.val ∧ i.val < 37 then 2 else if 39 ≤ i.val ∧ i.val < 41 then 3
      else if 44 ≤ i.val ∧ i.val < 46 then 2 else if i.val = 46 then 3 else 0
def lv (g : GSem nD τ sig) (_ : Unit) : ℕ := lvS g.2

/-- Cells that aren't a TensorCore's have no levels. -/
theorem L_of_ne (g : GSem nD τ sig) (h : g.1.2 ≠ .tc) : L g = ∅ := if_neg h
/-- A TensorCore's cells have one level. -/
theorem L_tc (c : Dev nD) (sm : SemLoc sig) : L ((c : Thread nD τ), sm) = {()} := if_pos rfl

/-- Only the cells of the dues are owed anything. -/
theorem owedL_pos : ∀ (l : List (GSem nD τ sig × ℕ)) (g : GSem nD τ sig) (u : Unit), 0 < owedL l g u → ∃ t ∈ l, t.1 = g
  | [], g, u, h => absurd h (Nat.lt_irrefl 0)
  | t :: l, g, u, h => by
    by_cases hg : g = t.1
    · exact ⟨t, List.mem_cons_self, hg.symm⟩
    · have h' : 0 < owedL l g u := by
        have e : owedL (t :: l) g u = owedL l g u + tallyAt t.1 () t.2 g u := rfl
        rw [e, tallyAt_apply, if_neg (fun h => hg h.1)] at h
        exact h
      obtain ⟨t', ht', e⟩ := owedL_pos l g u h'
      exact ⟨t', List.mem_cons_of_mem _ ht', e⟩

/-- The number of payments after which a device may wait at a level. -/
def startOf : ℕ → ℕ
  | 0 => 0 | 1 => 2 | 2 => 20 | _ => 23

/-- What is still owed from a stage on lies above that stage's level. -/
theorem dues_levels (c : Dev nD) (l : ℕ) (hl : l ≤ 3) : ∀ t ∈ (dues c).drop (startOf l), t.1.1.2 = .tc ∧ l < lvS t.1.2 := by
  have h : l = 0 ∨ l = 1 ∨ l = 2 ∨ l = 3 := by omega
  rcases h with rfl | rfl | rfl | rfl <;> (unfold startOf dues; simp [List.drop]) <;> decide

/-- At a level whose turn has come, a device may wait while it owes what is left. -/
theorem mayWait (c : Dev nD) (sm : SemLoc sig) (n : ℕ) (hl : lvS sm ≤ 3) (hn : startOf (lvS sm) ≤ n) :
    (levAts L lv : sProp 𝕄) ⊢ MayWait (c : Thread nD τ) sm () (owed c n) := by
  have key : ∀ (g : GSem nD τ sig) (u : Unit), 0 < owed c n g u → g.1.2 = .tc ∧ lvS sm < lvS g.2 := fun g u hg => by
    obtain ⟨t, ht, rfl⟩ := owedL_pos _ g u hg
    refine dues_levels c _ hl t ?_
    obtain ⟨k, rfl⟩ := Nat.exists_eq_add_of_le hn
    rw [← List.drop_drop] at ht
    exact List.mem_of_mem_drop ht
  exact MayOwe.of_cut (L := L) (lev := lv) (lvS sm)
    (fun p hp => by rw [Finset.mem_singleton.mp hp, L_tc]; exact Finset.mem_singleton_self _)
    (fun g u hg => by unfold L; rw [if_pos (key g u hg).1]; exact Finset.mem_singleton_self _)
    (fun p hp => by rw [Finset.mem_singleton.mp hp]; exact le_rfl)
    (fun g u hg => (key g u hg).2)

end Cert.K
-- ==== Proof.Views.lean ====
/-
The regions on which the first kernel's loads, stores and transfers work, as sets of indices, and what they
carry: each region's contents after a transfer or a store, and what a load reads.
-/
module

public import proofs.«01_k».proof.Proof.Proto
public import Idealize.ShloMosaic.Lib.ValueIdxCoords

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Parts as index sets -/

section Sets

/-- A rectangle of a matrix contains the indices between its corners. -/
theorem mem_rect2 {n0 n1 k0 k1 o0 o1 : ℕ} (inb) (i : (⟨2, ![n0, n1]⟩ : Shape).Idx) :
    i ∈ (Rect.unit (s := ⟨2, ![n0, n1]⟩) ![o0, o1] (⟨2, ![k0, k1]⟩ : Shape).size inb).set
      ↔ (o0 ≤ (i 0).val ∧ (i 0).val < o0 + k0) ∧ (o1 ≤ (i 1).val ∧ (i 1).val < o1 + k1) := by
  rw [Rect.mem_set_unit]
  exact Fin.forall_fin_two
/-- A rectangle of a stack of matrices contains the indices between its corners. -/
theorem mem_rect3 {n0 n1 n2 k0 k1 k2 o0 o1 o2 : ℕ} (inb) (i : (⟨3, ![n0, n1, n2]⟩ : Shape).Idx) :
    i ∈ (Rect.unit (s := ⟨3, ![n0, n1, n2]⟩) ![o0, o1, o2] (⟨3, ![k0, k1, k2]⟩ : Shape).size inb).set
      ↔ (o0 ≤ (i 0).val ∧ (i 0).val < o0 + k0) ∧ (o1 ≤ (i 1).val ∧ (i 1).val < o1 + k1) ∧ (o2 ≤ (i 2).val ∧ (i 2).val < o2 + k2) := by
  rw [Rect.mem_set_unit]
  exact ⟨fun h => ⟨h 0, h 1, h 2⟩, fun ⟨h0, h1, h2⟩ a => by fin_cases a <;> assumption⟩

/-- The slice of one tile is the tile's set of indices. -/
theorem set_tile (d j : ℕ) (off : Fin 2 → ℕ) (hoff : off = ![0, 8192 * d + 1024 * j]) (inb) :
    ((View.whole cc0_scratch0).slice (Rect.unit off S512x1024.size inb)).set = tileS d j := by
  subst hoff
  rw [View.set_slice_whole]
  ext i
  have h0 : (i 0).val < 512 := (i 0).isLt
  have h1 : (i 1).val < 32768 := (i 1).isLt
  refine (mem_rect2 _ i).trans ?_
  simp only [tileS, Finset.mem_filter, Finset.mem_univ, true_and]
  omega
/-- The slice of half of a column range is that half. -/
theorem set_half (d h : ℕ) (off : Fin 2 → ℕ) (hoff : off = ![256 * h, 8192 * d]) (inb) :
    ((View.whole cc0_scratch0).slice (Rect.unit off S256x8192.size inb)).set = halfS d h := by
  subst hoff
  rw [View.set_slice_whole]
  ext i
  have h0 : (i 0).val < 512 := (i 0).isLt
  have h1 : (i 1).val < 32768 := (i 1).isLt
  refine (mem_rect2 _ i).trans ?_
  simp only [halfS, Finset.mem_filter, Finset.mem_univ, true_and]
  omega
/-- The slice of a device's columns is its column range, -/
theorem set_cols (d : ℕ) (off : Fin 2 → ℕ) (hoff : off = ![0, 8192 * d]) (inb) :
    ((View.whole cc0_scratch0).slice (Rect.unit off S512x8192.size inb)).set = colsS d := by
  subst hoff
  rw [View.set_slice_whole]
  ext i
  have h0 : (i 0).val < 512 := (i 0).isLt
  have h1 : (i 1).val < 32768 := (i 1).isLt
  refine (mem_rect2 _ i).trans ?_
  simp only [colsS, Finset.mem_filter, Finset.mem_univ, true_and]
  omega
/-- and so it is in the buffer of probabilities. -/
theorem set_colsP (d : ℕ) (off : Fin 2 → ℕ) (hoff : off = ![0, 8192 * d]) (inb) :
    ((View.whole main_v1_0).slice (Rect.unit off S512x8192.size inb)).set = colsS d := by
  subst hoff
  rw [View.set_slice_whole]
  ext i
  have h0 : (i 0).val < 512 := (i 0).isLt
  have h1 : (i 1).val < 32768 := (i 1).isLt
  refine (mem_rect2 _ i).trans ?_
  simp only [colsS, Finset.mem_filter, Finset.mem_univ, true_and]
  omega
/-- The slice of 2048 columns is that column block, -/
theorem set_sub (d t : ℕ) (off : Fin 2 → ℕ) (hoff : off = ![0, 8192 * d + 2048 * t]) (inb) :
    ((View.whole cc0_scratch0).slice (Rect.unit off S512x2048.size inb)).set = ptileS d t := by
  subst hoff
  rw [View.set_slice_whole]
  ext i
  have h0 : (i 0).val < 512 := (i 0).isLt
  have h1 : (i 1).val < 32768 := (i 1).isLt
  refine (mem_rect2 _ i).trans ?_
  simp only [ptileS, Finset.mem_filter, Finset.mem_univ, true_and]
  omega
/-- and so it is in the buffer of probabilities. -/
theorem set_subP (d t : ℕ) (off : Fin 2 → ℕ) (hoff : off = ![0, 8192 * d + 2048 * t]) (inb) :
    ((View.whole main_v1_0).slice (Rect.unit off S512x2048.size inb)).set = ptileS d t := by
  subst hoff
  rw [View.set_slice_whole]
  ext i
  have h0 : (i 0).val < 512 := (i 0).isLt
  have h1 : (i 1).val < 32768 := (i 1).isLt
  refine (mem_rect2 _ i).trans ?_
  simp only [ptileS, Finset.mem_filter, Finset.mem_univ, true_and]
  omega
/-- The slice of 1024 columns of the weights is that column block. -/
theorem set_colW (j : ℕ) (off : Fin 2 → ℕ) (hoff : off = ![0, 1024 * j]) (inb) :
    ((View.whole main_arg1).slice (Rect.unit off S1024x1024.size inb)).set = colW j := by
  subst hoff
  rw [View.set_slice_whole]
  ext i
  have h0 : (i 0).val < 1024 := (i 0).isLt
  have h1 : (i 1).val < 8192 := (i 1).isLt
  refine (mem_rect2 _ i).trans ?_
  simp only [colW, Finset.mem_filter, Finset.mem_univ, true_and]
  omega
/-- The slice of a slot of the weight buffer is the slot. -/
theorem set_slotW (s : ℕ) (inb) :
    ((View.whole cc0_scratch1).slice (Rect.unit ![s, 0, 0] S1x1024x1024.size inb)).set = slotW s := by
  rw [View.set_slice_whole]
  ext i
  have h1 : (i 1).val < 1024 := (i 1).isLt
  have h2 : (i 2).val < 1024 := (i 2).isLt
  refine (mem_rect3 _ i).trans ?_
  simp only [slotW, Finset.mem_filter, Finset.mem_univ, true_and]
  omega
/-- The slice of a slot of the statistics is the slot. -/
theorem set_slotA (s : ℕ) (inb) :
    ((View.whole cc0_scratch2).slice (Rect.unit ![s, 0, 0] S1x512x8.size inb)).set = slotA s := by
  rw [View.set_slice_whole]
  ext i
  have h1 : (i 1).val < 512 := (i 1).isLt
  have h2 : (i 2).val < 8 := (i 2).isLt
  refine (mem_rect3 _ i).trans ?_
  simp only [slotA, Finset.mem_filter, Finset.mem_univ, true_and]
  omega
/-- The slice of a staging slot is the slot. -/
theorem set_slotG (s : ℕ) (inb) :
    ((View.whole cc0_scratch3).slice (Rect.unit ![s, 0, 0] S1x512x2048.size inb)).set = slotG s := by
  rw [View.set_slice_whole]
  ext i
  have h1 : (i 1).val < 512 := (i 1).isLt
  have h2 : (i 2).val < 2048 := (i 2).isLt
  refine (mem_rect3 _ i).trans ?_
  simp only [slotG, Finset.mem_filter, Finset.mem_univ, true_and]
  omega
/-- A column of a slot's statistics lies in the slot. -/
theorem set_statcol (s o : ℕ) (inb) :
    ((View.whole cc0_scratch2).slice (Rect.unit ![s, 0, o] S1x512x1.size inb)).set ⊆ slotA s := by
  rw [View.set_slice_whole]
  intro i hi
  have h := (mem_rect3 _ i).mp hi
  simp only [slotA, Finset.mem_filter, Finset.mem_univ, true_and]
  omega

end Sets

/-! ## Contents -/

section Contents

variable (m : (ℓ : Loc nD τ sig) → Buf (Elt F) ℓ)

/-- Where a rectangle of a matrix sends an index. -/
theorem emb_rect2 {n0 n1 k0 k1 o0 o1 : ℕ} (inb) (x : (⟨2, ![k0, k1]⟩ : Shape).Idx) (h0 : o0 + (x 0).val < n0) (h1 : o1 + (x 1).val < n1) :
    (Rect.unit (s := ⟨2, ![n0, n1]⟩) ![o0, o1] (⟨2, ![k0, k1]⟩ : Shape).size inb).emb x = ix2 ⟨o0 + (x 0).val, h0⟩ ⟨o1 + (x 1).val, h1⟩ := by
  funext a
  refine Fin.ext ?_
  rw [Rect.emb_apply]
  match a with
  | ⟨0, _⟩ => show o0 + 1 * (x 0).val = o0 + (x 0).val; rw [Nat.one_mul]
  | ⟨1, _⟩ => show o1 + 1 * (x 1).val = o1 + (x 1).val; rw [Nat.one_mul]
/-- Where a rectangle of a stack of matrices sends an index. -/
theorem emb_rect3 {n0 n1 n2 k0 k1 k2 o0 o1 o2 : ℕ} (inb) (x : (⟨3, ![k0, k1, k2]⟩ : Shape).Idx) (h0 : o0 + (x 0).val < n0) (h1 : o1 + (x 1).val < n1)
    (h2 : o2 + (x 2).val < n2) :
    (Rect.unit (s := ⟨3, ![n0, n1, n2]⟩) ![o0, o1, o2] (⟨3, ![k0, k1, k2]⟩ : Shape).size inb).emb x
      = ix3 ⟨o0 + (x 0).val, h0⟩ ⟨o1 + (x 1).val, h1⟩ ⟨o2 + (x 2).val, h2⟩ := by
  funext a
  refine Fin.ext ?_
  rw [Rect.emb_apply]
  match a with
  | ⟨0, _⟩ => show o0 + 1 * (x 0).val = o0 + (x 0).val; rw [Nat.one_mul]
  | ⟨1, _⟩ => show o1 + 1 * (x 1).val = o1 + (x 1).val; rw [Nat.one_mul]
  | ⟨2, _⟩ => show o2 + 1 * (x 2).val = o2 + (x 2).val; rw [Nat.one_mul]

/-- Writing what a region of `g` reads leaves `g` on the region. -/
theorem write_agree {sp : Space} {s : Shape} {e : EltTy} (v : View sig .tc sp s e) (fd g : v.ty.Contents (Elt F)) (w : s.Idx → Elt F e)
    (h : v.read (Elt F) g = w) : ∀ i ∈ v.set, v.write (Elt F) fd w Finset.univ i = g i := fun i hi => by
  obtain ⟨x, -, rfl⟩ := Finset.mem_map.mp hi
  rw [View.write_emb_of_mem _ _ (Finset.mem_univ _), ← h, View.read_apply, cast_cast, cast_eq]

/-- The gathered logits at a device's tile are that tile. -/
theorem LG_at (d j r k : ℕ) (hd : d < 4) (hj : j < 8) (hk : k < 1024) (hr : r < 512) (h : 8192 * d + 1024 * j + k < 32768) :
    LG m (ix2 ⟨r, hr⟩ ⟨8192 * d + 1024 * j + k, h⟩) = tile m ⟨d, hd⟩ j (ix2 ⟨r, hr⟩ ⟨k, hk⟩) := by
  have e1 : (8192 * d + 1024 * j + k) / 8192 % 4 = d := by omega
  have e2 : (8192 * d + 1024 * j + k) % 8192 / 1024 = j := by omega
  have e3 : (8192 * d + 1024 * j + k) % 1024 = k := by omega
  show tile m ⟨(8192 * d + 1024 * j + k) / 8192 % 4, _⟩ ((8192 * d + 1024 * j + k) % 8192 / 1024) (ix2 _ ⟨(8192 * d + 1024 * j + k) % 1024, _⟩) = _
  simp only [e1, e2, e3]

/-- Reading a tile's slice of the gathered logits yields the tile. -/
theorem rd_tile (d : Dev nD) (j : ℕ) (hj : j < 8) (off : Fin 2 → ℕ) (hoff : off = ![0, 8192 * d.val + 1024 * j]) (inb) :
    ((View.whole cc0_scratch0).slice (Rect.unit off S512x1024.size inb)).read (Elt F) (LG m) = tile m d j := by
  subst hoff
  funext x
  have hd : d.val < 4 := d.isLt
  have h0 : (x 0).val < 512 := (x 0).isLt
  have h1 : (x 1).val < 1024 := (x 1).isLt
  refine (congrArg (LG m) (emb_rect2 inb x (by omega) (by omega))).trans ?_
  refine Eq.trans ?_ ((LG_at m d.val j (x 0).val (x 1).val hd hj h1 h0 (by omega)).trans (congrArg (tile m d j) (eq_ix2 x).symm))
  refine congrArg (LG m) ?_
  simp only [Nat.zero_add]

/-- Reading 2048 columns of the gathered logits yields the device's block. -/
theorem rd_sub (d : Dev nD) (t : ℕ) (ht : t < 4) (off : Fin 2 → ℕ) (hoff : off = ![0, 8192 * d.val + 2048 * t]) (inb) :
    ((View.whole cc0_scratch0).slice (Rect.unit off S512x2048.size inb)).read (Elt F) (LG m) = subc m d t := by
  subst hoff
  funext x
  have hd : d.val < 4 := d.isLt
  have h0 : (x 0).val < 512 := (x 0).isLt
  have h1 : (x 1).val < 2048 := (x 1).isLt
  refine (congrArg (LG m) (emb_rect2 inb x (by omega) (by omega))).trans ?_
  unfold subc
  refine congrArg (LG m) ?_
  have e : (8192 * d.val + 2048 * t + (x 1).val) % 32768 = 8192 * d.val + 2048 * t + (x 1).val := by omega
  simp only [Nat.zero_add, e]
  rfl

/-- Reading a slot of the filled weight buffer yields the column block. -/
theorem rd_wslot (c : Dev nD) (s j : ℕ) (hs : s < 2) (inb) :
    ((View.whole cc0_scratch1).slice (Rect.unit ![s, 0, 0] S1x1024x1024.size inb)).read (Elt F) (wbuf m c j) = wslot m c j := by
  funext x
  have h0 : (x 0).val < 1 := (x 0).isLt
  have h1 : (x 1).val < 1024 := (x 1).isLt
  have h2 : (x 2).val < 1024 := (x 2).isLt
  refine (congrArg (wbuf m c j) (emb_rect3 inb x (by omega) (by omega) (by omega))).trans ?_
  unfold wbuf wslot
  refine congrArg (win m c) ?_
  simp only [ix3_1, ix3_2, Nat.zero_add]
  rfl

/-- Reading a column block of the weights yields what a slot is to hold. -/
theorem rd_wcol (c : Dev nD) (j : ℕ) (hj : j < 8) (off : Fin 2 → ℕ) (hoff : off = ![0, 1024 * j]) (inb) (x : S1024x1024.Idx) :
    ((View.whole main_arg1).slice (Rect.unit off S1024x1024.size inb)).read (Elt F) (win m c) x = wslot m c j (ix3 0 (x 0) (x 1)) := by
  subst hoff
  have h0 : (x 0).val < 1024 := (x 0).isLt
  have h1 : (x 1).val < 1024 := (x 1).isLt
  refine (congrArg (win m c) (emb_rect2 inb x (by omega) (by omega))).trans ?_
  unfold wslot
  refine congrArg (win m c) ?_
  have e : (1024 * j + (x 1).val) % 8192 = 1024 * j + (x 1).val := by omega
  simp only [ix3_2, Nat.zero_add, e]
  rfl

/-- Reading through a view with its leading axis of length one dropped. -/
theorem read_squeeze {sp : Space} {a b : ℕ} {e : EltTy} (v : View sig .tc sp ⟨3, ![1, a, b]⟩ e) (h : (⟨2, ![a, b]⟩ : Shape).numel = (⟨3, ![1, a, b]⟩ : Shape).numel)
    (f : v.ty.Contents (Elt F)) (x : (⟨2, ![a, b]⟩ : Shape).Idx) :
    (v.reshape ⟨2, ![a, b]⟩ h).read (Elt F) f x = v.read (Elt F) f (ix3 0 (x 0) (x 1)) := by
  have e : Shape.reshapeEquiv h x = ix3 (0 : Fin 1) (x 0) (x 1) := by
    conv_lhs => rw [eq_ix2 x]
    exact reshapeEquiv_ix2_1ab h (x 0) (x 1)
  exact congrArg (v.read (Elt F) f) e

/-- Reading a slot of the statistics yields the statistics of the device that filled it. -/
theorem rd_stat (c : Dev nD) (s : ℕ) (hs : s < 4) (inb) :
    ((View.whole cc0_scratch2).slice (Rect.unit ![s, 0, 0] S1x512x8.size inb)).read (Elt F) (SB m c) = stat m (slotDev c s) := by
  funext x
  have h0 : (x 0).val < 1 := (x 0).isLt
  have h1 : (x 1).val < 512 := (x 1).isLt
  have h2 : (x 2).val < 8 := (x 2).isLt
  refine (congrArg (SB m c) (emb_rect3 inb x (by omega) (by omega) (by omega))).trans ?_
  have e : s + (x 0).val = s := by omega
  show stat m (slotDev c (s + (x 0).val)) (ix3 0 ⟨0 + (x 1).val, _⟩ ⟨0 + (x 2).val, _⟩) = _
  rw [e]
  refine congrArg (stat m (slotDev c s)) ?_
  have e0 : (0 : Fin 1) = x 0 := Fin.ext (by show 0 = (x 0).val; omega)
  refine Eq.trans ?_ (eq_ix3 x).symm
  simp only [Nat.zero_add, e0]
  rfl

/-- Reading a column of a slot yields that column of the device's statistics. -/
theorem rd_statcol (c : Dev nD) (s o : ℕ) (hs : s < 4) (ho : o < 8) (inb) :
    ((View.whole cc0_scratch2).slice (Rect.unit ![s, 0, o] S1x512x1.size inb)).read (Elt F) (SB m c) = scol m (slotDev c s) ⟨o, ho⟩ := by
  funext x
  have h0 : (x 0).val < 1 := (x 0).isLt
  have h1 : (x 1).val < 512 := (x 1).isLt
  have h2 : (x 2).val < 1 := (x 2).isLt
  refine (congrArg (SB m c) (emb_rect3 inb x (by omega) (by omega) (by omega))).trans ?_
  have e : s + (x 0).val = s := by omega
  have e2 : o + (x 2).val = o := by omega
  show stat m (slotDev c (s + (x 0).val)) (ix3 0 ⟨0 + (x 1).val, _⟩ ⟨o + (x 2).val, _⟩) = stat m (slotDev c s) (ix3 0 (x 1) ⟨o, ho⟩)
  simp only [e, e2, Nat.zero_add]
  rfl

/-- Off the columns across the ring, the first result holds blocks of probabilities. -/
theorem rd_PR (c d : Dev nD) (hdc : d ≠ opp c) (t : ℕ) (ht : t < 4) (off : Fin 2 → ℕ) (hoff : off = ![0, 8192 * d.val + 2048 * t]) (inb) (x : S512x2048.Idx) :
    ((View.whole main_v1_0).slice (Rect.unit off S512x2048.size inb)).read (Elt F) (PR m c) x = pblk m c d t (ix3 0 (x 0) (x 1)) := by
  subst hoff
  have hd : d.val < 4 := d.isLt
  have h0 : (x 0).val < 512 := (x 0).isLt
  have h1 : (x 1).val < 2048 := (x 1).isLt
  refine (congrArg (PR m c) (emb_rect2 inb x (by omega) (by omega))).trans ?_
  have e1 : (8192 * d.val + 2048 * t + (x 1).val) / 8192 = d.val := by omega
  have e2 : (8192 * d.val + 2048 * t + (x 1).val) % 8192 / 2048 = t := by omega
  have e3 : (8192 * d.val + 2048 * t + (x 1).val) % 2048 = (x 1).val := by omega
  have e4 : d.val % 4 = d.val := by omega
  have hne : ¬ d.val = (opp c).val := fun h => hdc (Fin.ext h)
  show (if (8192 * d.val + 2048 * t + (x 1).val) / 8192 = (opp c).val then _
    else pblk m c ⟨(8192 * d.val + 2048 * t + (x 1).val) / 8192 % 4, _⟩ ((8192 * d.val + 2048 * t + (x 1).val) % 8192 / 2048)
      (ix3 0 ⟨0 + (x 0).val, _⟩ ⟨(8192 * d.val + 2048 * t + (x 1).val) % 2048, _⟩)) = _
  simp only [e1, e2, e3, e4, if_neg hne, Nat.zero_add]
  rfl

/-- In the columns across the ring, the first result holds the gathered logits. -/
theorem rd_PRopp (c : Dev nD) (off : Fin 2 → ℕ) (hoff : off = ![0, 8192 * (opp c).val]) (inb inb') :
    ((View.whole main_v1_0).slice (Rect.unit off S512x8192.size inb)).read (Elt F) (PR m c)
      = ((View.whole cc0_scratch0).slice (Rect.unit off S512x8192.size inb')).read (Elt F) (LG m) := by
  subst hoff
  funext x
  have hd : (opp c).val < 4 := (opp c).isLt
  have h0 : (x 0).val < 512 := (x 0).isLt
  have h1 : (x 1).val < 8192 := (x 1).isLt
  refine (congrArg (PR m c) (emb_rect2 inb x (by omega) (by omega))).trans (Eq.trans ?_ (congrArg (LG m) (emb_rect2 inb' x (by omega) (by omega))).symm)
  have e1 : (8192 * (opp c).val + (x 1).val) / 8192 = (opp c).val := by omega
  exact if_pos e1

end Contents

/-! ## Parts joined -/

section Parts

/-- Eight tiles make a device's column range. -/
theorem tiles_cols (d : ℕ) : Finset.univ.biUnion (fun j : Fin 8 => tileS d j.val) = colsS d := by
  ext i
  simp only [tileS, colsS, Finset.mem_biUnion, Finset.mem_filter, Finset.mem_univ, true_and]
  exact ⟨fun ⟨j, h⟩ => by have := j.isLt; omega, fun h => ⟨⟨(i 1).val / 1024 - 8 * d, by omega⟩, by show _ = 8 * d + ((i 1).val / 1024 - 8 * d); omega⟩⟩
/-- Four blocks of 2048 columns make it. -/
theorem ptiles_cols (d : ℕ) : Finset.univ.biUnion (fun t : Fin 4 => ptileS d t.val) = colsS d := by
  ext i
  simp only [ptileS, colsS, Finset.mem_biUnion, Finset.mem_filter, Finset.mem_univ, true_and]
  exact ⟨fun ⟨j, h⟩ => by have := j.isLt; omega, fun h => ⟨⟨(i 1).val / 2048 - 4 * d, by omega⟩, by show _ = 4 * d + ((i 1).val / 2048 - 4 * d); omega⟩⟩
/-- Two halves make it. -/
theorem halves_cols (d : ℕ) : Finset.univ.biUnion (fun h : Fin 2 => halfS d h.val) = colsS d := by
  ext i
  have h0 : (i 0).val < 512 := (i 0).isLt
  simp only [halfS, colsS, Finset.mem_biUnion, Finset.mem_filter, Finset.mem_univ, true_and]
  exact ⟨fun ⟨j, h⟩ => h.1, fun h => ⟨⟨(i 0).val / 256, by omega⟩, h, rfl⟩⟩
/-- Four column ranges make the whole. -/
theorem cols_all : Finset.univ.biUnion (fun d : Fin 4 => colsS d.val) = Finset.univ := by
  ext i
  have h1 : (i 1).val < 32768 := (i 1).isLt
  simp only [colsS, Finset.mem_biUnion, Finset.mem_filter, Finset.mem_univ, true_and, iff_true]
  exact ⟨⟨(i 1).val / 8192, by omega⟩, rfl⟩
/-- Eight column blocks make a weight shard. -/
theorem colW_all : Finset.univ.biUnion (fun j : Fin 8 => colW j.val) = Finset.univ := by
  ext i
  have h1 : (i 1).val < 8192 := (i 1).isLt
  simp only [colW, Finset.mem_biUnion, Finset.mem_filter, Finset.mem_univ, true_and, iff_true]
  exact ⟨⟨(i 1).val / 1024, by omega⟩, rfl⟩
/-- Two slots make the weight buffer. -/
theorem slotW_all : Finset.univ.biUnion (fun s : Fin 2 => slotW s.val) = Finset.univ := by
  ext i
  simp only [slotW, Finset.mem_biUnion, Finset.mem_filter, Finset.mem_univ, true_and, iff_true]
  exact ⟨i 0, rfl⟩
/-- Four slots make the statistics. -/
theorem slotA_all : Finset.univ.biUnion (fun s : Fin 4 => slotA s.val) = Finset.univ := by
  ext i
  simp only [slotA, Finset.mem_biUnion, Finset.mem_filter, Finset.mem_univ, true_and, iff_true]
  exact ⟨i 0, rfl⟩
/-- Two slots make the staging buffer. -/
theorem slotG_all : Finset.univ.biUnion (fun s : Fin 2 => slotG s.val) = Finset.univ := by
  ext i
  simp only [slotG, Finset.mem_biUnion, Finset.mem_filter, Finset.mem_univ, true_and, iff_true]
  exact ⟨i 0, rfl⟩

/-- A part of a buffer held as its disjoint parts, told apart by a function of the index. -/
theorem pt_parts {ℓ : Loc nD τ sig} {n : ℕ} (P : Fin n → Finset (Idx ℓ)) (S : Finset (Idx ℓ)) (q : PosShare TreeShare) (f : Buf (Elt F) ℓ)
    (fn : Idx ℓ → ℕ) (g : Fin n → ℕ) (hg : Function.Injective g) (h : ∀ k, ∀ i ∈ P k, fn i = g k) (hS : Finset.univ.biUnion P = S) :
    (ℓ ↦[S]{q} f : sProp 𝕄) = bigSep Finset.univ fun k => ℓ ↦[P k]{q} f := by
  subst hS
  exact pointsTo_biUnion Finset.univ P (fun k _ k' _ hk => Finset.disjoint_left.mpr fun i hi hi' =>
    hk (hg ((h k i hi).symm.trans (h k' i hi'))))

variable (c : Dev nD) (q : PosShare TreeShare)

/-- Owning a column range is owning its tiles. -/
theorem pt_tiles (d : ℕ) (f) : (ptS c cc0_scratch0 (colsS d) q f : sProp 𝕄) = bigSep Finset.univ fun j : Fin 8 => ptS c cc0_scratch0 (tileS d j.val) q f :=
  pt_parts (ℓ := (c : Thread nD τ).loc cc0_scratch0) (fun j : Fin 8 => tileS d j.val) _ q f (fun i : S512x32768.Idx => (i 1).val / 1024) (fun j => 8 * d + j.val)
    (fun a b h => Fin.ext (by have : 8 * d + a.val = 8 * d + b.val := h; omega)) (fun k i hi => (Finset.mem_filter.mp hi).2) (tiles_cols d)
/-- Owning a column range is owning its halves. -/
theorem pt_halves (d : ℕ) (f) : (ptS c cc0_scratch0 (colsS d) q f : sProp 𝕄) = bigSep Finset.univ fun j : Fin 2 => ptS c cc0_scratch0 (halfS d j.val) q f :=
  pt_parts (ℓ := (c : Thread nD τ).loc cc0_scratch0) (fun j : Fin 2 => halfS d j.val) _ q f (fun i : S512x32768.Idx => (i 0).val / 256) (fun j => j.val)
    Fin.val_injective (fun k i hi => (Finset.mem_filter.mp hi).2.2) (halves_cols d)
/-- Owning the logits is owning every device's column range. -/
theorem pt_cols (f) : (ptS c cc0_scratch0 Finset.univ q f : sProp 𝕄) = bigSep Finset.univ fun d : Fin 4 => ptS c cc0_scratch0 (colsS d.val) q f :=
  pt_parts (ℓ := (c : Thread nD τ).loc cc0_scratch0) (fun d : Fin 4 => colsS d.val) _ q f (fun i : S512x32768.Idx => (i 1).val / 8192) (fun d => d.val)
    Fin.val_injective (fun k i hi => (Finset.mem_filter.mp hi).2) cols_all
/-- Owning the probabilities is owning every device's column range. -/
theorem pt_colsP (f) : (ptS c main_v1_0 Finset.univ q f : sProp 𝕄) = bigSep Finset.univ fun d : Fin 4 => ptS c main_v1_0 (colsS d.val) q f :=
  pt_parts (ℓ := (c : Thread nD τ).loc main_v1_0) (fun d : Fin 4 => colsS d.val) _ q f (fun i : S512x32768.Idx => (i 1).val / 8192) (fun d => d.val)
    Fin.val_injective (fun k i hi => (Finset.mem_filter.mp hi).2) cols_all
/-- Owning a column range of the probabilities is owning its four blocks. -/
theorem pt_ptilesP (d : ℕ) (f) : (ptS c main_v1_0 (colsS d) q f : sProp 𝕄) = bigSep Finset.univ fun t : Fin 4 => ptS c main_v1_0 (ptileS d t.val) q f :=
  pt_parts (ℓ := (c : Thread nD τ).loc main_v1_0) (fun t : Fin 4 => ptileS d t.val) _ q f (fun i : S512x32768.Idx => (i 1).val / 2048) (fun j => 4 * d + j.val)
    (fun a b h => Fin.ext (by have : 4 * d + a.val = 4 * d + b.val := h; omega)) (fun k i hi => (Finset.mem_filter.mp hi).2) (ptiles_cols d)
/-- Owning the weights is owning their column blocks. -/
theorem pt_colW (f) : (ptS c main_arg1 Finset.univ q f : sProp 𝕄) = bigSep Finset.univ fun j : Fin 8 => ptS c main_arg1 (colW j.val) q f :=
  pt_parts (ℓ := (c : Thread nD τ).loc main_arg1) (fun j : Fin 8 => colW j.val) _ q f (fun i : S1024x8192.Idx => (i 1).val / 1024) (fun j => j.val)
    Fin.val_injective (fun k i hi => (Finset.mem_filter.mp hi).2) colW_all
/-- Owning the weight buffer is owning its slots. -/
theorem pt_slotW (f) : (ptS c cc0_scratch1 Finset.univ q f : sProp 𝕄) = bigSep Finset.univ fun s : Fin 2 => ptS c cc0_scratch1 (slotW s.val) q f :=
  pt_parts (ℓ := (c : Thread nD τ).loc cc0_scratch1) (fun s : Fin 2 => slotW s.val) _ q f (fun i : S2x1024x1024.Idx => (i 0).val) (fun j => j.val)
    Fin.val_injective (fun k i hi => (Finset.mem_filter.mp hi).2) slotW_all
/-- Owning the statistics is owning their slots. -/
theorem pt_slotA (f) : (ptS c cc0_scratch2 Finset.univ q f : sProp 𝕄) = bigSep Finset.univ fun s : Fin 4 => ptS c cc0_scratch2 (slotA s.val) q f :=
  pt_parts (ℓ := (c : Thread nD τ).loc cc0_scratch2) (fun s : Fin 4 => slotA s.val) _ q f (fun i : S4x512x8.Idx => (i 0).val) (fun j => j.val)
    Fin.val_injective (fun k i hi => (Finset.mem_filter.mp hi).2) slotA_all
/-- Owning the staging buffer is owning its slots. -/
theorem pt_slotG (f) : (ptS c cc0_scratch3 Finset.univ q f : sProp 𝕄) = bigSep Finset.univ fun s : Fin 2 => ptS c cc0_scratch3 (slotG s.val) q f :=
  pt_parts (ℓ := (c : Thread nD τ).loc cc0_scratch3) (fun s : Fin 2 => slotG s.val) _ q f (fun i : S2x512x2048.Idx => (i 0).val) (fun j => j.val)
    Fin.val_injective (fun k i hi => (Finset.mem_filter.mp hi).2) slotG_all

end Parts

end Cert.K
-- ==== Proof.Steps.lean ====
/-
One lemma per kind of step of the first kernel: a signal, a transfer to a neighbour, a copy on the device, a
wait, a load, a store.
-/
module

public import proofs.«01_k».proof.Proof.Views
public import Idealize.ShloMosaic.Lib.ValueIdxCoords

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- What a program does on device `c` before `Q` holds. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariants of all cells, the levels, and that each barrier cell is at its first round. -/
def recs (K : GSem nD τ sig → ℕ) : sProp 𝕄 :=
  iprop((bigSep Finset.univ fun p : Dev nD × Fin 47 => cellInv ER (sched m) (K (cell p.1 p.2)) (cell p.1 p.2))
    ∗ (bigSep Finset.univ fun d : Dev nD => iprop(cellInv ER (sched m) (K (barCell d)) (barCell d) ∗ reached ER (barCell d) 0))
    ∗ levAts L lv)
/-- What stays known on device `c` throughout: the above, and that its own cells are at their first round. -/
def ctx (K : GSem nD τ sig → ℕ) (c : Dev nD) : sProp 𝕄 :=
  iprop(recs m K ∗ bigSep Finset.univ fun k : Fin 47 => reached ER (cell c k) 0)
instance recs_persistent (K : GSem nD τ sig → ℕ) : BI.Persistent (recs m K) := by unfold recs; infer_instance
instance ctx_persistent (K : GSem nD τ sig → ℕ) (c : Dev nD) : BI.Persistent (ctx m K c) := by unfold ctx; infer_instance

/-- What device `c` owes after its first `n` payments. -/
def owesE (c : Dev nD) (n : ℕ) : sProp 𝕄 := iprop(∃ W, owes (c : Thread nD τ) (owed c n) W)

/-- A separating conjunction yields any one of its parts. -/
theorem bigSep_at {I : Type} [DecidableEq I] [Fintype I] (Φ : I → sProp 𝕄) (i : I) : bigSep Finset.univ Φ ⊢ Φ i := by
  exact (Entails.of_eq (bigSep_erase (Finset.mem_univ i))).trans sep_elim_left

section Ctx
variable (K : GSem nD τ sig → ℕ) (c : Dev nD)
/-- Every DMA cell's invariant is known. -/
theorem ctx_inv (d : Dev nD) (k : Fin 47) : ctx m K c ⊢ cellInv ER (sched m) (K (cell d k)) (cell d k) := by
  unfold ctx recs
  iintro ⟨⟨H, -, -⟩, -⟩
  iapply (bigSep_at (fun p : Dev nD × Fin 47 => cellInv ER (sched m) (K (cell p.1 p.2)) (cell p.1 p.2)) (d, k))
  iexact H
/-- Every barrier's invariant is known, and that its round is reached. -/
theorem ctx_bar (d : Dev nD) : ctx m K c ⊢ iprop(cellInv ER (sched m) (K (barCell d)) (barCell d) ∗ reached ER (barCell d) 0) := by
  unfold ctx recs
  iintro ⟨⟨-, H, -⟩, -⟩
  iapply (bigSep_at (fun d : Dev nD => iprop(cellInv ER (sched m) (K (barCell d)) (barCell d) ∗ reached ER (barCell d) 0)) d)
  iexact H
/-- The levels are known. -/
theorem ctx_lev : ctx m K c ⊢ levAts L lv := by
  unfold ctx recs
  iintro ⟨⟨-, -, H⟩, -⟩
  iexact H
/-- A device's own cells are known to be in their first round. -/
theorem ctx_reached (k : Fin 47) : ctx m K c ⊢ reached ER (cell c k) 0 := by
  unfold ctx
  iintro ⟨-, H⟩
  iapply (bigSep_at (fun k : Fin 47 => reached ER (cell c k) 0) k)
  iexact H
end Ctx

/-! ## Amounts -/

/-- A slice's amount depends on its shape alone. -/
theorem credit_slice (b : Ref sig .tc) (r : Rect b.ty.shape) (h) : ((Memref.whole b).slice r h).view.dmaCredit = Ref.dmaCredit b r.shape b.ty.elt := rfl

/-! ## Waits -/

section Steps
variable (K : GSem nD τ sig → ℕ) (c : Dev nD) {α : Type} {Q : α → sProp (MT nD τ sig Unit (Elt F) ℕ UU ℕ)}

/-- A wait for the one transfer of round `r` on the device's own cell at place `k`. -/
theorem wait_step (k : Fin 47) {κd : KD} (hκ : kd k = κd) (r : ℕ) (hr : r < rounds κd) (n : ℕ)
    (hl : lvS (.dma (dsem k)) ≤ 3) (hn : startOf (lvS (.dma (dsem k))) ≤ n)
    {sp sp' : Space} {s s' : Shape} {e e' : EltTy} {sem : DmaSem sig} {src : Memref sig .tc sp' s' e'} {dst : Memref sig .tc sp s e}
    {h1 : src.view.WordExact} {h2 : dst.view.WordExact} {k' : PUnit → Prog (TpuEff nD τ sig (Elt F) Λ₀ .tc) α}
    (hs : sem = dsem k) (hN : dst.view.dmaCredit = amtD κd) :
    (ctx m K c : sProp 𝕄) ⊢ cred (tallyAt (cell c k) () (amtD κd)) -∗ owesE c n -∗ atPos ER (cell c k) r ∅ 0
      -∗ ((owesE c n ∗ atPos ER (cell c k) (r + 1) ∅ 0 ∗ reached ER (cell c k) (r + 1) ∗ payD m c κd r) -∗ WP c (k' ⟨⟩) Q)
      -∗ WP c (.op (.waitDma2 sem src dst h1 h2) k') Q := by
  subst hs hκ
  iintro #Hctx Hcr HO Hat Hk
  unfold owesE
  icases HO with ⟨%W, HO⟩
  rw [← hN]
  iapply (Rounds.wp_wait_rest_token 𝒱₀ ER (sched m) (c : Thread nD τ) none (κ := K (cell c k)) (sm := .dma (dsem k))
      (wpE_waitDma2_eq 𝒱₀ (c : Thread nD τ) none Set.univ) (Set.mem_univ _) () (O := owed c n) (W := W) (R := r) (m := 0) (T := ∅)
      ((Nat.zero_add _).trans (hN.trans (expect_cell m c k hr).symm))) $$ [Hcr HO Hat]
  · isplitr; · iapply (ctx_inv m K c c k); iexact Hctx
    isplitl [Hcr]; · iexact Hcr
    isplitl [HO]; · iexact HO
    isplitr; · iapply (mayWait c (.dma (dsem k)) n hl hn); iapply (ctx_lev m K c); iexact Hctx
    iexact Hat
  iintro ⟨HO, Hat, Hr, Hp⟩
  ihave Hp := (Entails.of_eq (rest_cell m c k hr)) $$ Hp
  iapply Hk
  isplitl [HO]; · iexists _; iexact HO
  isplitl [Hat]; · iexact Hat
  isplitl [Hr]; · iexact Hr
  iexact Hp

/-- A signal to a neighbour's barrier cell. -/
theorem signal_step (n : Dev nD) (d : Bool) (i : ℕ) (hi : (dues c).drop i = (barCell n, 1) :: (dues c).drop (i + 1))
    {dst : Thread nD τ} {sem : Sem sig} {z : ℤ} {k' : PUnit → Prog (TpuEff nD τ sig (Elt F) Λ₀ .tc) α}
    (hn : dst = (n : Thread nD τ)) (hs : sem = barS) (hz : z = ((1 : ℕ) : ℤ)) (hd : d ∈ (sched (F := F) m).duties (barCell n) 0) :
    (ctx m K c : sProp 𝕄) ⊢ owesE c i -∗ dutyTok ER (barCell n) 0 d -∗ barPay n d
      -∗ (owesE c (i + 1) -∗ WP c (k' ⟨⟩) Q) -∗ WP c (.op (.semSignal dst sem z) k') Q := by
  subst hn hs hz
  iintro #Hctx HO Ht Hp Hk
  unfold owesE
  icases HO with ⟨%W, HO⟩
  ihave ⟨#Hi, #Hr⟩ := (ctx_bar m K c n) $$ Hctx
  iapply (Rounds.wp_signal 𝒱₀ ER (sched m) (c : Thread nD τ) none (dst := (n : Thread nD τ)) (sem := barS) (r := 0) (d := d) (κ := K (barCell n))
      hd (amount_bar m n d) () (owed c (i + 1)) (owed_step c i _ hi)) $$ [HO Ht Hp]
  · isplitr; · iexact Hi
    isplitl [HO]; · iexact HO
    isplitl [Ht]; · iexact Ht
    isplitl [Hp]; · rw [payload_bar]; iexact Hp
    iexact Hr
  iintro HO
  iapply Hk
  iexists _; iexact HO

/-- The wait on the device's own barrier cell: the neighbours' landing regions arrive. -/
theorem barrier_step {sem : Sem sig} {z : ℤ} {k' : PUnit → Prog (TpuEff nD τ sig (Elt F) Λ₀ .tc) α} (hs : sem = barS) (hz : z = ((2 : ℕ) : ℤ)) :
    (ctx m K c : sProp 𝕄) ⊢ cred (tallyAt (barCell c) () 2) -∗ owesE c 2 -∗ atPos ER (barCell c) 0 ∅ 0
      -∗ ((owesE c 2 ∗ atPos ER (barCell c) 1 ∅ 0 ∗ barPay c false ∗ barPay c true) -∗ WP c (k' ⟨⟩) Q)
      -∗ WP c (.op (.semWait sem z) k') Q := by
  subst hs hz
  iintro #Hctx Hcr HO Hat Hk
  unfold owesE
  icases HO with ⟨%W, HO⟩
  ihave ⟨#Hi, -⟩ := (ctx_bar m K c c) $$ Hctx
  iapply (Rounds.wp_wait_rest_token 𝒱₀ ER (sched m) (c : Thread nD τ) none (κ := K (barCell c))
      (wpE_semWait_eq 𝒱₀ (c : Thread nD τ) none Set.univ) (Set.mem_univ _) () (O := owed c 2) (W := W) (R := 0) (m := 0) (T := ∅)
      ((Nat.zero_add 2).trans (expect_bar m c).symm)) $$ [Hcr HO Hat]
  · isplitr; · iexact Hi
    isplitl [Hcr]; · iexact Hcr
    isplitl [HO]; · iexact HO
    isplitr; · iapply (mayWait c (.reg barS) 2 (by decide) (by decide)); iapply (ctx_lev m K c); iexact Hctx
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-- A copy on the device on the cell at place `k`, in round `r`. -/
theorem copy_step (k : Fin 47) {κd : KD} (hκ : kd k = κd) (r : ℕ) (hr : r < rounds κd) (q : PosShare TreeShare)
    {sp sp' : Space} {s : Shape} {e : EltTy} {sem : SemLoc sig} {src : Memref sig .tc sp s e} {dst : Memref sig .tc sp' s e}
    {h1 : src.view.WordExact} {h2 : dst.view.WordExact} {h3 : (DmaTarget.here dst : DmaTarget nD τ sig .tc sp' s e).Typed sp sem}
    {fs : Buf (Elt F) (src.view.loc (c : Thread nD τ))} {fd : Buf (Elt F) (dst.view.loc (c : Thread nD τ))}
    {k' : PUnit → Prog (TpuEff nD τ sig (Elt F) Λ₀ .tc) α}
    (hs : sem = .dma (dsem k)) (hN : dst.view.dmaCredit = amtD κd)
    (hpay : iprop((dst.view.loc (c : Thread nD τ) ↦[dst.view.set]{fullShare} (dst.view.write (Elt F) fd (src.view.read (Elt F) fs) Finset.univ))
      ∗ (src.view.loc (c : Thread nD τ) ↦[src.view.set]{q} fs)) ⊢ payD m c κd r) :
    (ctx m K c : sProp 𝕄) ⊢ (src.view.loc (c : Thread nD τ) ↦[src.view.set]{q} fs) -∗ (dst.view.loc (c : Thread nD τ) ↦[dst.view.set]{fullShare} fd)
      -∗ dutyTok ER (cell c k) r false -∗ reached ER (cell c k) r
      -∗ (cred (tallyAt (cell c k) () (amtD κd)) -∗ WP c (k' ⟨⟩) Q)
      -∗ WP c (.op (.enqueueDma src (.here dst) sem h1 h2 h3) k') Q := by
  subst hs hκ
  iintro #Hctx Hs Hd Ht Hr Hk
  iapply (Rounds.wp_copy_pointsTo 𝒱₀ ER (sched m) (c : Thread nD τ) none (src := src) (dst := dst) (sem := .dma (dsem k)) (q := q)
      (fs := fs) (fd := fd) (r := r) (d := false) (κ := K (cell c k))
      (by rw [duties_cell m c k hr]; exact Finset.mem_singleton_self _) () (amtD (kd k)) hN (amount_cell m c k r false)
      (by rw [payload_cell]; exact hpay)) $$ [Hs Hd Ht Hr]
  · isplitr; · iapply (ctx_inv m K c c k); iexact Hctx
    isplitl [Hs]; · iexact Hs
    isplitl [Hd]; · iexact Hd
    isplitl [Ht]; · iexact Ht
    iexact Hr
  iexact Hk

/-- A transfer to device `n`, paying the sender's cell at place `ks` and the receiver's at place `kr`. -/
theorem send_step (n : Dev nD) (ks kr : Fin 47) {κs κr : KD} (hκs : kd ks = κs) (hκr : kd kr = κr) (hrs : 0 < rounds κs) (hrr : 0 < rounds κr)
    (i : ℕ) (N : ℕ) (hi : (dues c).drop i = (cell n kr, N) :: (dues c).drop (i + 1)) (q : PosShare TreeShare)
    {sp sp' : Space} {s : Shape} {e : EltTy} {dv : Thread nD τ} {sS sR : SemLoc sig} {src : Memref sig .tc sp s e} {dst : Memref sig dv.2.kind sp' s e}
    {hsc : dst.view.ref.isScScratch = false}
    {h1 : src.view.WordExact} {h2 : dst.view.WordExact} {h3 : (DmaTarget.remote dv dst sS hsc : DmaTarget nD τ sig .tc sp' s e).Typed sp sR}
    {fs : Buf (Elt F) (src.view.loc (c : Thread nD τ))} {fd : Buf (Elt F) (dst.view.loc dv)}
    {k' : PUnit → Prog (TpuEff nD τ sig (Elt F) Λ₀ .tc) α}
    (hn : dv = (n : Thread nD τ)) (hS : sS = .dma (dsem ks)) (hR : sR = .dma (dsem kr))
    (hN : dst.view.dmaCredit = N) (hNs : amtD κs = N) (hNr : amtD κr = N)
    (hpay₁ : (src.view.loc (c : Thread nD τ) ↦[src.view.set]{q} fs) ⊢ payD m c κs 0)
    (hpay₂ : (dst.view.loc dv ↦[dst.view.set]{fullShare} dst.view.write (Elt F) fd (src.view.read (Elt F) fs) Finset.univ) ⊢ payD m n κr 0) :
    (ctx m K c : sProp 𝕄) ⊢ (src.view.loc (c : Thread nD τ) ↦[src.view.set]{q} fs) -∗ (dst.view.loc dv ↦[dst.view.set]{fullShare} fd)
      -∗ owesE c i -∗ dutyTok ER (cell c ks) 0 false -∗ dutyTok ER (cell n kr) 0 false -∗ reached ER (cell n kr) 0
      -∗ ((cred (tallyAt (cell c ks) () (amtD κs)) ∗ owesE c (i + 1)) -∗ WP c (k' ⟨⟩) Q)
      -∗ WP c (.op (.enqueueDma src (.remote dv dst sS hsc) sR h1 h2 h3) k') Q := by
  subst hn hS hR hκs hκr
  rw [hNs]
  iintro #Hctx Hs Hd HO Ht Htr Hrr Hk
  unfold owesE
  icases HO with ⟨%W, HO⟩
  iapply (Rounds.wp_send_pointsTo 𝒱₀ ER (sched m) (c : Thread nD τ) none (c' := (n : Thread nD τ)) (src := src) (dst := dst)
      (sS := .dma (dsem ks)) (sem := .dma (dsem kr)) (q := q) (fs := fs) (κ₁ := K (cell c ks)) (κ₂ := K (cell n kr))
      (r₁ := 0) (r₂ := 0) (d₁ := false) (d₂ := false) (fd := fd)
      (by rw [duties_cell m c ks hrs]; exact Finset.mem_singleton_self _) (by rw [duties_cell m n kr hrr]; exact Finset.mem_singleton_self _)
      () () N hN ((amount_cell m c ks 0 false).trans hNs) ((amount_cell m n kr 0 false).trans hNr)
      (owed c (i + 1)) (owed_step c i _ hi) (W := W)
      (by rw [payload_cell]; exact hpay₁) (by rw [payload_cell]; exact hpay₂)) $$ [Hs Hd HO Ht Htr Hrr]
  · isplitr; · iapply (ctx_inv m K c c ks); iexact Hctx
    isplitr; · iapply (ctx_inv m K c n kr); iexact Hctx
    isplitl [Hs]; · iexact Hs
    isplitl [Hd]; · iexact Hd
    isplitl [HO]; · iexact HO
    isplitl [Ht]; · iexact Ht
    isplitr; · iapply (ctx_reached m K c ks); iexact Hctx
    isplitl [Htr]; · iexact Htr
    iexact Hrr
  iintro ⟨Hc, HO⟩
  iapply Hk
  isplitl [Hc]; · iexact Hc
  iexists _; iexact HO

end Steps

end Cert.K
-- ==== Proof.Ops.lean ====
/-
The steps of the first kernel at its own buffers: weight copies, tiles, statistics, second hop, staging.
-/
module

public import proofs.«01_k».proof.Proof.Steps
public import Idealize.ShloMosaic.Lib.ValueIdxCoords

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Equal sets of indices are owned alike. -/
theorem pt_set {ℓ : Loc nD τ sig} {S T : Finset (Idx ℓ)} (h : S = T) (q : PosShare TreeShare) (f : Buf (Elt F) ℓ) :
    (ℓ ↦[S]{q} f : sProp 𝕄) ⊢ (ℓ ↦[T]{q} f) := by rw [h]

/-- A region written with what a region of `g` reads holds `g`. -/
theorem pt_written (t : Dev nD) {sp : Space} {s : Shape} {e : EltTy} (v : View sig .tc sp s e) (fd g : v.ty.Contents (Elt F)) (w : s.Idx → Elt F e)
    (h : v.read (Elt F) g = w) {T : Finset v.ty.Idx} (hS : v.set = T) :
    (v.loc (t : Thread nD τ) ↦[v.set]{fullShare} v.write (Elt F) fd w Finset.univ : sProp 𝕄) ⊢ (v.loc (t : Thread nD τ) ↦[T]{fullShare} g) := by
  subst hS
  exact Entails.of_eq (pointsTo_congr fun i hi => write_agree v fd g w h i hi)

section Amounts
variable (b : Ref sig .tc) (s : Shape)
/-- The amount of a slice by its sizes. -/
theorem credit_unit (off : Fin b.ty.shape.rank → ℕ) (size inb h) :
    ((Memref.whole b).slice (Rect.unit off size inb) h).view.dmaCredit = Ref.dmaCredit b ⟨_, size⟩ b.ty.elt := rfl
/-- The amount of a slice of which axes of size one are dropped. -/
theorem credit_squeeze (off : Fin b.ty.shape.rank → ℕ) (size inb h h') :
    (((Memref.whole b).slice (Rect.unit off size inb) h).squeeze s h').view.dmaCredit = Ref.dmaCredit b s b.ty.elt := rfl
end Amounts
/-- A tile's amount. -/
theorem amt_t : Ref.dmaCredit cc0_scratch0 S512x1024 .bf16 = aT := rfl
/-- The amount of half of a column range. -/
theorem amt_h : Ref.dmaCredit cc0_scratch0 S256x8192 .bf16 = aH := rfl
/-- The amount of a device's statistics. -/
theorem amt_s : Ref.dmaCredit cc0_scratch2 S512x8 .f32 = aS := rfl
/-- A tile sent clockwise counts a tile's amount. -/
theorem amt_sR (j) : amtD (.sR j) = aT := rfl
/-- A tile sent counter-clockwise counts a tile's amount. -/
theorem amt_sL (j) : amtD (.sL j) = aT := rfl
/-- A tile received clockwise counts a tile's amount. -/
theorem amt_rR (j) : amtD (.rR j) = aT := rfl
/-- A tile received counter-clockwise counts a tile's amount. -/
theorem amt_rL (j) : amtD (.rL j) = aT := rfl
/-- A second hop sent counts half a column range. -/
theorem amt_s2s (a) : amtD (.s2s a) = aH := rfl
/-- A second hop received counts half a column range. -/
theorem amt_s2r (a) : amtD (.s2r a) = aH := rfl
/-- Statistics sent count their amount. -/
theorem amt_sts (a) : amtD (.sts a) = aS := rfl
/-- Statistics received count their amount. -/
theorem amt_str (a) : amtD (.str a) = aS := rfl
/-- A weight block counts its amount. -/
theorem amt_w (s) : Ref.dmaCredit cc0_scratch1 S1024x1024 .f32 = amtD (.w s) := rfl

section Steps
variable (K : GSem nD τ sig → ℕ) (c : Dev nD) {α : Type} {Q : α → sProp (MT nD τ sig Unit (Elt F) ℕ UU ℕ)}

/-- The copy of a weight block into its slot, started: the block and the slot go in, the wait's claim comes out. -/
theorem wcopy (s : Fin 2) (r j : ℕ) (hr : r < 4) (hj : j = 2 * r + s.val) {off : Fin 2 → ℕ} (hoff : off = ![0, 1024 * j]) {off' : Fin 3 → ℕ} (hoff' : off' = ![s.val, 0, 0])
    {inb hone inb' hone' hsq} {sem : SemLoc sig} (hs : sem = .dma (dsem (kw s)))
    {h1 h2 h3} {k' : PUnit → Prog (TpuEff nD τ sig (Elt F) Λ₀ .tc) α} :
    (ctx m K c : sProp 𝕄) ⊢ ptS c main_arg1 (colW j) fullShare (win m c) -∗ (∃ f, ptS c cc0_scratch1 (slotW s.val) fullShare f)
      -∗ dutyTok ER (cell c (kw s)) r false -∗ reached ER (cell c (kw s)) r
      -∗ (cred (tallyAt (cell c (kw s)) () (amtD (.w s))) -∗ WP c (k' ⟨⟩) Q)
      -∗ WP c (.op (.enqueueDma ((Memref.whole main_arg1).slice (Rect.unit off S1024x1024.size inb) hone)
        (.here (((Memref.whole cc0_scratch1).slice (Rect.unit off' S1x1024x1024.size inb') hone').squeeze S1024x1024 hsq)) sem h1 h2 h3) k') Q := by
  subst hoff' hj
  iintro #Hctx Hs ⟨%f, Hd⟩ Ht Hr
  have hS : ((Memref.whole main_arg1).slice (Rect.unit off S1024x1024.size inb) hone).view.set = colW (2 * r + s.val) := set_colW _ off hoff inb
  have hD : (((Memref.whole cc0_scratch1).slice (Rect.unit ![s.val, 0, 0] S1x1024x1024.size inb') hone').squeeze S1024x1024 hsq).view.set = slotW s.val :=
    (View.set_reshape _ _).trans (set_slotW s.val inb')
  iapply (copy_step m K c (kw s) (kd_w s) r hr fullShare (fs := win m c) (fd := f) hs ((credit_squeeze cc0_scratch1 S1024x1024 _ _ _ _ _).trans (amt_w s)) ?_) $$ Hctx [Hs] [Hd] Ht Hr
  · unfold payD
    refine BIClass.sep_mono ?_ (pt_set hS _ _)
    refine (Entails.of_eq (pointsTo_congr fun i hi => ?_)).trans (pt_set hD _ _)
    refine write_agree (((Memref.whole cc0_scratch1).slice (Rect.unit ![s.val, 0, 0] S1x1024x1024.size inb') hone').squeeze S1024x1024 hsq).view f _ _ ?_ i hi
    funext x
    refine (read_squeeze _ _ _ x).trans ?_
    exact (congrFun (rd_wslot m c s.val _ s.isLt inb') _).trans (rd_wcol m c _ (by omega) off hoff inb x).symm
  · iapply (pt_set hS.symm); iexact Hs
  · iapply (pt_set hD.symm); iexact Hd

/-- A transfer to device `n` whose payloads are named. -/
theorem send_gen (n : Dev nD) (ks kr : Fin 47) {κs κr : KD} (hκs : kd ks = κs) (hκr : kd kr = κr) (hrs : 0 < rounds κs) (hrr : 0 < rounds κr)
    (i : ℕ) (N : ℕ) (hi : (dues c).drop i = (cell n kr, N) :: (dues c).drop (i + 1)) (q : PosShare TreeShare)
    {sp sp' : Space} {s : Shape} {e : EltTy} {d' : Dev nD} {sS sR : SemLoc sig} {src : Memref sig .tc sp s e} {dst : Memref sig .tc sp' s e}
    {hsc : dst.view.ref.isScScratch = false}
    {h1 : src.view.WordExact} {h2 : dst.view.WordExact} {h3 : (DmaTarget.remote (Dev.tc d') dst sS hsc : DmaTarget nD τ sig .tc sp' s e).Typed sp sR}
    {k' : PUnit → Prog (TpuEff nD τ sig (Elt F) Λ₀ .tc) α}
    (hn : d' = n) (hS : sS = .dma (dsem ks)) (hR : sR = .dma (dsem kr))
    (hN : dst.view.dmaCredit = N) (hNs : amtD κs = N) (hNr : amtD κr = N)
    {S : Finset src.view.ty.Idx} {T : Finset dst.view.ty.Idx} (hsS : src.view.set = S) (hdT : dst.view.set = T)
    (fs : src.view.ty.Contents (Elt F)) (g : dst.view.ty.Contents (Elt F)) (hread : dst.view.read (Elt F) g = src.view.read (Elt F) fs)
    (hps : (src.view.loc (c : Thread nD τ) ↦[S]{q} fs) ⊢ payD m c κs 0)
    (hpr : (dst.view.loc (n : Thread nD τ) ↦[T]{fullShare} g) ⊢ payD m n κr 0)
    (hland : (landR n κr : sProp 𝕄) ⊢ iprop(∃ f, dst.view.loc (n : Thread nD τ) ↦[T]{fullShare} f)) :
    (ctx m K c : sProp 𝕄) ⊢ (src.view.loc (c : Thread nD τ) ↦[S]{q} fs) -∗ landAt n kr
      -∗ owesE c i -∗ dutyTok ER (cell c ks) 0 false -∗ dutyTok ER (cell n kr) 0 false
      -∗ ((cred (tallyAt (cell c ks) () (amtD κs)) ∗ owesE c (i + 1)) -∗ WP c (k' ⟨⟩) Q)
      -∗ WP c (.op (.enqueueDma src (.remote (Dev.tc d') dst sS hsc) sR h1 h2 h3) k') Q := by
  subst hn
  unfold landAt
  rw [hκr]
  iintro #Hctx Hs ⟨Hl, Hrr⟩ HO Ht Htr
  ihave ⟨%f, Hd⟩ := hland $$ Hl
  iapply (send_step m K c d' ks kr hκs hκr hrs hrr i N hi q (fs := fs) (fd := f) rfl hS hR hN hNs hNr
    ((pt_set hsS _ _).trans hps) ((pt_written d' dst.view f g _ hread hdT).trans hpr)) $$ Hctx [Hs] [Hd] HO Ht Htr Hrr
  · iapply (pt_set hsS.symm); iexact Hs
  · iapply (pt_set hdT.symm); iexact Hd

/-- A tile sent to the next device. -/
theorem send_R (j : Fin 8) (i : ℕ) (hi : (dues c).drop i = (cell (nxt c) (krR j), aT) :: (dues c).drop (i + 1))
    {off : Fin 2 → ℕ} (hoff : off = ![0, 8192 * c.val + 1024 * j.val]) {inb hone inb' hone'} {d' : Dev nD} (hn : d' = nxt c)
    {sS sR : SemLoc sig} (hS : sS = .dma (dsem (ksR j))) (hR : sR = .dma (dsem (krR j)))
    {hsc h1 h2 h3} {k' : PUnit → Prog (TpuEff nD τ sig (Elt F) Λ₀ .tc) α} :
    (ctx m K c : sProp 𝕄) ⊢ ptS c cc0_scratch0 (tileS c.val j.val) qR (LG m) -∗ landAt (nxt c) (krR j)
      -∗ owesE c i -∗ dutyTok ER (cell c (ksR j)) 0 false -∗ dutyTok ER (cell (nxt c) (krR j)) 0 false
      -∗ ((cred (tallyAt (cell c (ksR j)) () (amtD (.sR j))) ∗ owesE c (i + 1)) -∗ WP c (k' ⟨⟩) Q)
      -∗ WP c (.op (.enqueueDma ((Memref.whole cc0_scratch0).slice (Rect.unit off S512x1024.size inb) hone)
        (.remote (Dev.tc d') ((Memref.whole cc0_scratch0).slice (Rect.unit off S512x1024.size inb') hone') sS hsc) sR h1 h2 h3) k') Q := by
  refine send_gen m K c (Q := Q) (nxt c) (ksR j) (krR j) (kd_sR j) (kd_rR j) Nat.one_pos Nat.one_pos i aT hi qR (h1 := h1) (h2 := h2) (h3 := h3) (k' := k') hn hS hR
    ((credit_unit cc0_scratch0 off S512x1024.size inb' hone').trans amt_t) (amt_sR j) (amt_rR j) (set_tile c.val j.val off hoff inb) (set_tile c.val j.val off hoff inb') (LG m) (LG m) rfl ?_ ?_ ?_
  · unfold payD; exact .rfl
  · unfold payD; rw [prv_nxt]; exact .rfl
  · unfold landR; rw [prv_nxt]; exact .rfl

/-- A tile sent to the device before. -/
theorem send_L (j : Fin 8) (i : ℕ) (hi : (dues c).drop i = (cell (prv c) (krL j), aT) :: (dues c).drop (i + 1))
    {off : Fin 2 → ℕ} (hoff : off = ![0, 8192 * c.val + 1024 * j.val]) {inb hone inb' hone'} {d' : Dev nD} (hn : d' = prv c)
    {sS sR : SemLoc sig} (hS : sS = .dma (dsem (ksL j))) (hR : sR = .dma (dsem (krL j)))
    {hsc h1 h2 h3} {k' : PUnit → Prog (TpuEff nD τ sig (Elt F) Λ₀ .tc) α} :
    (ctx m K c : sProp 𝕄) ⊢ ptS c cc0_scratch0 (tileS c.val j.val) qL (LG m) -∗ landAt (prv c) (krL j)
      -∗ owesE c i -∗ dutyTok ER (cell c (ksL j)) 0 false -∗ dutyTok ER (cell (prv c) (krL j)) 0 false
      -∗ ((cred (tallyAt (cell c (ksL j)) () (amtD (.sL j))) ∗ owesE c (i + 1)) -∗ WP c (k' ⟨⟩) Q)
      -∗ WP c (.op (.enqueueDma ((Memref.whole cc0_scratch0).slice (Rect.unit off S512x1024.size inb) hone)
        (.remote (Dev.tc d') ((Memref.whole cc0_scratch0).slice (Rect.unit off S512x1024.size inb') hone') sS hsc) sR h1 h2 h3) k') Q := by
  refine send_gen m K c (Q := Q) (prv c) (ksL j) (krL j) (kd_sL j) (kd_rL j) Nat.one_pos Nat.one_pos i aT hi qL (h1 := h1) (h2 := h2) (h3 := h3) (k' := k') hn hS hR
    ((credit_unit cc0_scratch0 off S512x1024.size inb' hone').trans amt_t) (amt_sL j) (amt_rL j) (set_tile c.val j.val off hoff inb) (set_tile c.val j.val off hoff inb') (LG m) (LG m) rfl ?_ ?_ ?_
  · unfold payD; exact .rfl
  · unfold payD; rw [nxt_prv]; exact .rfl
  · unfold landR; rw [nxt_prv]; exact .rfl

/-- The second hop of the upper half of the columns received from the device before, to the device after. -/
theorem send_R2 (i : ℕ) (hi : (dues c).drop i = (cell (nxt c) (ks2r 0), aH) :: (dues c).drop (i + 1))
    {off : Fin 2 → ℕ} (hoff : off = ![256 * 0, 8192 * (prv c).val]) {inb hone inb' hone'} {d' : Dev nD} (hn : d' = nxt c)
    {sS sR : SemLoc sig} (hS : sS = .dma (dsem (ks2s 0))) (hR : sR = .dma (dsem (ks2r 0)))
    {hsc h1 h2 h3} {k' : PUnit → Prog (TpuEff nD τ sig (Elt F) Λ₀ .tc) α} :
    (ctx m K c : sProp 𝕄) ⊢ ptS c cc0_scratch0 (halfS (prv c).val 0) qR (LG m) -∗ landAt (nxt c) (ks2r 0)
      -∗ owesE c i -∗ dutyTok ER (cell c (ks2s 0)) 0 false -∗ dutyTok ER (cell (nxt c) (ks2r 0)) 0 false
      -∗ ((cred (tallyAt (cell c (ks2s 0)) () (amtD (.s2s 0))) ∗ owesE c (i + 1)) -∗ WP c (k' ⟨⟩) Q)
      -∗ WP c (.op (.enqueueDma ((Memref.whole cc0_scratch0).slice (Rect.unit off S256x8192.size inb) hone)
        (.remote (Dev.tc d') ((Memref.whole cc0_scratch0).slice (Rect.unit off S256x8192.size inb') hone') sS hsc) sR h1 h2 h3) k') Q := by
  refine send_gen m K c (Q := Q) (nxt c) (ks2s 0) (ks2r 0) (kd_s2s 0) (kd_s2r 0) Nat.one_pos Nat.one_pos i aH hi qR (h1 := h1) (h2 := h2) (h3 := h3) (k' := k') hn hS hR
    ((credit_unit cc0_scratch0 off S256x8192.size inb' hone').trans amt_h) (amt_s2s 0) (amt_s2r 0) (set_half (prv c).val 0 off hoff inb) (set_half (prv c).val 0 off hoff inb') (LG m) (LG m) rfl ?_ ?_ ?_
  · unfold payD; exact .rfl
  · unfold payD; rw [opp_nxt]; exact .rfl
  · unfold landR; rw [opp_nxt]; exact .rfl

/-- The second hop of the lower half of the columns received from the device after, to the device before. -/
theorem send_L2 (i : ℕ) (hi : (dues c).drop i = (cell (prv c) (ks2r 1), aH) :: (dues c).drop (i + 1))
    {off : Fin 2 → ℕ} (hoff : off = ![256 * 1, 8192 * (nxt c).val]) {inb hone inb' hone'} {d' : Dev nD} (hn : d' = prv c)
    {sS sR : SemLoc sig} (hS : sS = .dma (dsem (ks2s 1))) (hR : sR = .dma (dsem (ks2r 1)))
    {hsc h1 h2 h3} {k' : PUnit → Prog (TpuEff nD τ sig (Elt F) Λ₀ .tc) α} :
    (ctx m K c : sProp 𝕄) ⊢ ptS c cc0_scratch0 (halfS (nxt c).val 1) qR (LG m) -∗ landAt (prv c) (ks2r 1)
      -∗ owesE c i -∗ dutyTok ER (cell c (ks2s 1)) 0 false -∗ dutyTok ER (cell (prv c) (ks2r 1)) 0 false
      -∗ ((cred (tallyAt (cell c (ks2s 1)) () (amtD (.s2s 1))) ∗ owesE c (i + 1)) -∗ WP c (k' ⟨⟩) Q)
      -∗ WP c (.op (.enqueueDma ((Memref.whole cc0_scratch0).slice (Rect.unit off S256x8192.size inb) hone)
        (.remote (Dev.tc d') ((Memref.whole cc0_scratch0).slice (Rect.unit off S256x8192.size inb') hone') sS hsc) sR h1 h2 h3) k') Q := by
  refine send_gen m K c (Q := Q) (prv c) (ks2s 1) (ks2r 1) (kd_s2s 1) (kd_s2r 1) Nat.one_pos Nat.one_pos i aH hi qR (h1 := h1) (h2 := h2) (h3 := h3) (k' := k') hn hS hR
    ((credit_unit cc0_scratch0 off S256x8192.size inb' hone').trans amt_h) (amt_s2s 1) (amt_s2r 1) (set_half (nxt c).val 1 off hoff inb) (set_half (nxt c).val 1 off hoff inb') (LG m) (LG m) rfl ?_ ?_ ?_
  · unfold payD; exact .rfl
  · unfold payD; rw [opp_prv]; exact .rfl
  · unfold landR; rw [opp_prv]; exact .rfl

/-- One slot of the statistics sent into slot `a + 1` of device `n`. -/
theorem send_A (n : Dev nD) (a : Fin 3) (s : ℕ) (hs : s < 4) (hslot : slotDev n (a.val + 1) = slotDev c s) (q : PosShare TreeShare)
    (hs' : s = if a.val = 2 then 1 else 0) (hq : q = if a.val = 0 then qR else qL)
    (i : ℕ) (hi : (dues c).drop i = (cell n (kstr a), aS) :: (dues c).drop (i + 1))
    {off off' : Fin 3 → ℕ} (hoff : off = ![s, 0, 0]) (hoff' : off' = ![a.val + 1, 0, 0]) {inb hone hsq inb' hone' hsq'} {d' : Dev nD} (hn : d' = n)
    {sS sR : SemLoc sig} (hS : sS = .dma (dsem (ksts a))) (hR : sR = .dma (dsem (kstr a)))
    {hsc h1 h2 h3} {k' : PUnit → Prog (TpuEff nD τ sig (Elt F) Λ₀ .tc) α} :
    (ctx m K c : sProp 𝕄) ⊢ ptS c cc0_scratch2 (slotA s) q (SB m c) -∗ landAt n (kstr a)
      -∗ owesE c i -∗ dutyTok ER (cell c (ksts a)) 0 false -∗ dutyTok ER (cell n (kstr a)) 0 false
      -∗ ((cred (tallyAt (cell c (ksts a)) () (amtD (.sts a))) ∗ owesE c (i + 1)) -∗ WP c (k' ⟨⟩) Q)
      -∗ WP c (.op (.enqueueDma (((Memref.whole cc0_scratch2).slice (Rect.unit off S1x512x8.size inb) hone).squeeze S512x8 hsq)
        (.remote (Dev.tc d') (((Memref.whole cc0_scratch2).slice (Rect.unit off' S1x512x8.size inb') hone').squeeze S512x8 hsq') sS hsc) sR h1 h2 h3) k') Q := by
  subst hoff hoff'
  have hA : ∀ (s : ℕ) (inb hone hsq), (((Memref.whole cc0_scratch2).slice (Rect.unit ![s, 0, 0] S1x512x8.size inb) hone).squeeze S512x8 hsq).view.set = slotA s :=
    fun s inb hone hsq => (View.set_reshape _ _).trans (set_slotA s inb)
  refine send_gen m K c (Q := Q) n (ksts a) (kstr a) (kd_sts a) (kd_str a) Nat.one_pos Nat.one_pos i aS hi q (h1 := h1) (h2 := h2) (h3 := h3) (k' := k') hn hS hR
    ((credit_squeeze cc0_scratch2 S512x8 ![a.val + 1, 0, 0] S1x512x8.size inb' hone' hsq').trans amt_s) (amt_sts a) (amt_str a) (hA s inb hone hsq)
    (hA (a.val + 1) inb' hone' hsq') (SB m c) (SB m n) ?_ ?_ ?_ ?_
  · funext x
    refine (read_squeeze _ _ _ x).trans (Eq.trans ?_ (read_squeeze _ _ _ x).symm)
    have ha := a.isLt
    refine (congrFun (rd_stat m n (a.val + 1) (by omega) inb') _).trans (Eq.trans ?_ (congrFun (rd_stat m c s hs inb) _).symm)
    rw [hslot]
  · subst hs' hq; unfold payD; exact .rfl
  · unfold payD; exact .rfl
  · unfold landR; exact .rfl

/-- A load from a part of a buffer. -/
theorem load_at {cs : CoreSpace} {s : Shape} {e : EltTy} (M : Memref sig .tc (.core cs) s e) {r : Rect s} {S : Finset M.view.ty.Idx} {q : PosShare TreeShare}
    {f : M.view.ty.Contents (Elt F)} {v : r.shape.Idx → Elt F e}
    (hS : (M.access r).set ⊆ S) (hv : (M.access r).read (Elt F) f = v)
    {hl : M.view.LoadsAt r.toLoadRect} {k' : (r.shape.Idx → Elt F e) → Prog (TpuEff nD τ sig (Elt F) Λ₀ .tc) α} :
    (M.view.loc (c : Thread nD τ) ↦[S]{q} f : sProp 𝕄) ⊢ ((M.view.loc (c : Thread nD τ) ↦[S]{q} f) -∗ WP c (k' v) Q)
      -∗ WP c (.op (.load M r.toLoadRect hl) k') Q := by
  subst hv
  exact wp_load_rect 𝒱₀ (c : Thread nD τ) none Set.univ (m := M) (r := r) (f := f) hS

/-- A store over a part of a buffer. -/
theorem store_at {cs : CoreSpace} {s : Shape} {e : EltTy} (M : Memref sig .tc (.core cs) s e) {r : Rect s} {S : Finset M.view.ty.Idx}
    {f : M.view.ty.Contents (Elt F)} (g : M.view.ty.Contents (Elt F)) {w : r.shape.Idx → Elt F e}
    (hS : (M.access r).set = S) (hv : (M.access r).read (Elt F) g = w) {hx : (M.access r).Stores Finset.univ} {hm : Finset.univ = Finset.univ ∨ ∀ a, r.stride a = 1}
    {k' : PUnit → Prog (TpuEff nD τ sig (Elt F) Λ₀ .tc) α} :
    (M.view.loc (c : Thread nD τ) ↦[S]{fullShare} f : sProp 𝕄) ⊢ ((M.view.loc (c : Thread nD τ) ↦[S]{fullShare} g) -∗ WP c (k' ⟨⟩) Q)
      -∗ WP c (.op (.store M r w Finset.univ hx hm) k') Q := by
  iintro H Hk
  iapply (wp_store 𝒱₀ (c : Thread nD τ) none Set.univ (m := M) (r := r) (f := f) (S := S) (Mk := Finset.univ) (subset_of_eq hS)) $$ H
  iintro H
  iapply Hk
  subst hS
  iapply (Entails.of_eq (pointsTo_congr fun i hi => write_agree (M.access r) f g w hv i hi))
  iexact H

end Steps

end Cert.K
-- ==== Proof.Ops2.lean ====
/-
The steps of the first kernel over bundles of what they use: tiles, weight slots, staging slots, statistics.
-/
module

public import proofs.«01_k».proof.Proof.Ops

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Bundles
variable (c : Dev nD)

/-- The one transfer on a cell is under way. -/
def pend (k : Fin 47) : sProp 𝕄 := iprop(cred (tallyAt (cell c k) () (amtD (kd k))) ∗ atPos ER (cell c k) 0 ∅ 0)
/-- Every transfer on a cell is done. -/
def fin (k : Fin 47) : sProp 𝕄 := atPos ER (cell c k) (rounds (kd k)) ∅ 0
/-- What sending tile `j` clockwise takes. -/
def needR (j : Fin 8) : sProp 𝕄 := iprop(dutyTok ER (cell c (ksR j)) 0 false ∗ dutyTok ER (cell (nxt c) (krR j)) 0 false ∗ atPos ER (cell c (ksR j)) 0 ∅ 0)
/-- What sending tile `j` counter-clockwise takes. -/
def needL (j : Fin 8) : sProp 𝕄 := iprop(dutyTok ER (cell c (ksL j)) 0 false ∗ dutyTok ER (cell (prv c) (krL j)) 0 false ∗ atPos ER (cell c (ksL j)) 0 ∅ 0)
/-- Tile `j` before it is computed. -/
def tl0 (j : Fin 8) : sProp 𝕄 := iprop((∃ f, ptS c cc0_scratch0 (tileS c.val j.val) fullShare f) ∗ needR c j ∗ needL c j)
/-- Tile `j` computed. -/
def tl1 (j : Fin 8) : sProp 𝕄 := iprop(ptS c cc0_scratch0 (tileS c.val j.val) qR (LG m) ∗ ptS c cc0_scratch0 (tileS c.val j.val) qL (LG m)
  ∗ ptS c cc0_scratch0 (tileS c.val j.val) qK (LG m) ∗ needR c j ∗ needL c j)
/-- Tile `j` sent clockwise. -/
def tl2 (j : Fin 8) : sProp 𝕄 := iprop(pend c (ksR j) ∗ ptS c cc0_scratch0 (tileS c.val j.val) qL (LG m)
  ∗ ptS c cc0_scratch0 (tileS c.val j.val) qK (LG m) ∗ needL c j)
/-- Tile `j` sent both ways. -/
def tl3 (j : Fin 8) : sProp 𝕄 := iprop(ptS c cc0_scratch0 (tileS c.val j.val) qK (LG m) ∗ pend c (ksR j) ∗ pend c (ksL j))

/-- Column block `j` of the weights before it is copied into slot `s`. -/
def wk (s : Fin 2) (r j : ℕ) : sProp 𝕄 := iprop(ptS c main_arg1 (colW j) fullShare (win m c) ∗ dutyTok ER (cell c (kw s)) r false)
/-- Slot `s` of the weights is free, `r` copies done. -/
def wfree (s : Fin 2) (r : ℕ) : sProp 𝕄 := iprop((∃ f, ptS c cc0_scratch1 (slotW s.val) fullShare f) ∗ atPos ER (cell c (kw s)) r ∅ 0 ∗ reached ER (cell c (kw s)) r)
/-- A copy into slot `s` of the weights is under way. -/
def wpend (s : Fin 2) (r : ℕ) : sProp 𝕄 := iprop(cred (tallyAt (cell c (kw s)) () (amtD (.w s))) ∗ atPos ER (cell c (kw s)) r ∅ 0)
/-- Slot `s` of the weights holds column block `j`. -/
def wfull (s : Fin 2) (r j : ℕ) : sProp 𝕄 := iprop(ptS c cc0_scratch1 (slotW s.val) fullShare (wbuf m c j) ∗ atPos ER (cell c (kw s)) r ∅ 0 ∗ reached ER (cell c (kw s)) r)

/-- The staging buffer once block `t` of device `d`'s probabilities sits in its slots. -/
def gbuf (d : Dev nD) (t : ℕ) : S2x512x2048.Idx → Elt F .bf16 := fun i => pblk m c d t (ix3 0 (i 1) (i 2))
/-- Block `t` of device `d`'s probabilities before it is written out. -/
def gk (s : Fin 2) (r : ℕ) (d : Dev nD) (t : ℕ) : sProp 𝕄 := iprop((∃ f, ptS c main_v1_0 (ptileS d.val t) fullShare f) ∗ dutyTok ER (cell c (kstg s)) r false)
/-- Slot `s` of the staging buffer is free, `r` copies done. -/
def gfree (s : Fin 2) (r : ℕ) : sProp 𝕄 := iprop((∃ f, ptS c cc0_scratch3 (slotG s.val) fullShare f) ∗ atPos ER (cell c (kstg s)) r ∅ 0 ∗ reached ER (cell c (kstg s)) r)
/-- Slot `s` of the staging buffer holds block `t` of device `d`'s probabilities. -/
def gfull (s : Fin 2) (r : ℕ) (d : Dev nD) (t : ℕ) : sProp 𝕄 := iprop(ptS c cc0_scratch3 (slotG s.val) fullShare (gbuf m c d t) ∗ atPos ER (cell c (kstg s)) r ∅ 0 ∗ reached ER (cell c (kstg s)) r)
/-- A copy out of slot `s` of the staging buffer is under way. -/
def gpend (s : Fin 2) (r : ℕ) : sProp 𝕄 := iprop(cred (tallyAt (cell c (kstg s)) () (amtD (.stg s))) ∗ atPos ER (cell c (kstg s)) r ∅ 0)
end Bundles

/-- Reading a filled staging slot yields the block of probabilities. -/
theorem rd_gslot (c d : Dev nD) (t s : ℕ) (hs : s < 2) (inb) :
    ((View.whole cc0_scratch3).slice (Rect.unit ![s, 0, 0] S1x512x2048.size inb)).read (Elt F) (gbuf m c d t) = pblk m c d t := by
  funext x
  have h0 : (x 0).val < 1 := (x 0).isLt
  have h1 : (x 1).val < 512 := (x 1).isLt
  have h2 : (x 2).val < 2048 := (x 2).isLt
  refine (congrArg (gbuf m c d t) (emb_rect3 inb x (by omega) (by omega) (by omega))).trans ?_
  unfold gbuf
  show pblk m c d t (ix3 0 ⟨0 + (x 1).val, _⟩ ⟨0 + (x 2).val, _⟩) = _
  generalize pblk m c d t = P
  refine congrArg P ?_
  have e0 : (0 : Fin 1) = x 0 := Fin.ext (by show 0 = (x 0).val; omega)
  refine Eq.trans ?_ (eq_ix3 x).symm
  simp only [Nat.zero_add, e0]
  rfl

/-- A block of 2048 columns lies in its device's column range. -/
theorem ptile_sub (d t : ℕ) (ht : t < 4) : ptileS d t ⊆ colsS d := by
  intro i hi
  have h : (i 1).val / 2048 = 4 * d + t := (Finset.mem_filter.mp hi).2
  exact Finset.mem_filter.mpr ⟨Finset.mem_univ _, by omega⟩

/-- No DMA semaphore's level is above three. -/
theorem lvS_le (k : Fin 47) : lvS (.dma (dsem k)) ≤ 3 := by revert k; decide +kernel

/-- The weight semaphores are at the lowest level. -/
theorem lvS_w (s : Fin 2) : lvS (.dma (dsem (kw s))) = 0 := by revert s; decide +kernel
/-- The staging semaphores are at the lowest level. -/
theorem lvS_g (s : Fin 2) : lvS (.dma (dsem (kstg s))) = 0 := by revert s; decide +kernel

/-- A rectangle that starts at zero and has a whole buffer's extents reads the whole buffer. -/
theorem whole_read (b : Ref sig .tc) {off : Fin b.ty.shape.rank → ℕ} (hz : off = fun _ => 0) (inb) (f : b.ty.Contents (Elt F)) :
    ((Memref.whole b).access (Rect.unit off b.ty.shape.size inb)).read (Elt F) f = f := by
  subst hz; exact Memref.read_access_whole (Elt F) b f
/-- A rectangle as large as the buffer is the whole buffer. -/
theorem whole_rect (b : Ref sig .tc) {off : Fin b.ty.shape.rank → ℕ} (hz : off = fun _ => 0) (inb) :
    ((Memref.whole b).access (Rect.unit off b.ty.shape.size inb)).set = Finset.univ := by
  subst hz
  refine Finset.eq_univ_iff_forall.mpr fun i => ?_
  exact Finset.mem_map.mpr ⟨i, Finset.mem_univ _, Rect.emb_whole_apply _ i⟩
/-- Two zero offsets. -/
theorem zero2 : (![0, 0] : Fin 2 → ℕ) = fun _ => 0 := by decide

section Steps
variable (K : GSem nD τ sig → ℕ) (c : Dev nD) {α : Type} {Q : α → sProp (MT nD τ sig Unit (Elt F) ℕ UU ℕ)}

/-- A wait for the one transfer on a cell. -/
theorem wait_one (k : Fin 47) {κd : KD} (hκ : kd k = κd) (hr : rounds κd = 1) (n : ℕ) (hn : startOf (lvS (.dma (dsem k))) ≤ n)
    {sp sp' : Space} {s s' : Shape} {e e' : EltTy} {sem : DmaSem sig} {src : Memref sig .tc sp' s' e'} {dst : Memref sig .tc sp s e}
    {h1 : src.view.WordExact} {h2 : dst.view.WordExact} {k' : PUnit → Prog (TpuEff nD τ sig (Elt F) Λ₀ .tc) α}
    (hs : sem = dsem k) (hN : dst.view.dmaCredit = amtD κd) :
    (ctx m K c : sProp 𝕄) ⊢ pend c k -∗ owesE c n
      -∗ ((owesE c n ∗ fin c k ∗ payD m c κd 0) -∗ WP c (k' ⟨⟩) Q)
      -∗ WP c (.op (.waitDma2 sem src dst h1 h2) k') Q := by
  unfold pend fin
  rw [hκ, hr]
  iintro #Hctx ⟨Hcr, Hat⟩ HO Hk
  iapply (wait_step m K c k hκ 0 (by omega) n (lvS_le k) hn hs hN) $$ Hctx Hcr HO Hat
  iintro ⟨HO, Hat, -, Hp⟩
  iapply Hk
  iframe

/-- A load of a tile not yet computed. -/
theorem load_tl0 (j : Fin 8) {off : Fin 2 → ℕ} (hoff : off = ![0, 8192 * c.val + 1024 * j.val]) {inb hl}
    {k' : (S512x1024.Idx → Elt F .bf16) → Prog (TpuEff nD τ sig (Elt F) Λ₀ .tc) α} :
    (tl0 c j : sProp 𝕄) ⊢ (∀ v, tl0 c j -∗ WP c (k' v) Q)
      -∗ WP c (.op (.load (Memref.whole cc0_scratch0) (Rect.unit (s := S512x32768) off S512x1024.size inb).toLoadRect hl) k') Q := by
  unfold tl0
  iintro ⟨⟨%f, Hd⟩, HR, HL⟩ Hk
  iapply (load_at c (Memref.whole cc0_scratch0) (subset_of_eq (set_tile c.val j.val off hoff inb)) rfl) $$ Hd
  iintro Hd
  iapply Hk
  isplitl [Hd]
  · iexists f; iexact Hd
  · iframe

/-- A buffer owned in full is owned in three shares, and the three shares make it again. -/
theorem pt_three (b : Ref sig .tc) (S : Finset b.ty.Idx) (f) :
    (ptS c b S fullShare f : sProp 𝕄) ⊣⊢ iprop(ptS c b S qR f ∗ ptS c b S qL f ∗ ptS c b S qK f) := by
  refine ⟨?_, ?_⟩
  · iintro H
    ihave H := (pointsTo_share (PosShare.mem_left_op_right fullShare)).1 $$ H
    icases H with ⟨H1, H⟩
    ihave H := (pointsTo_share (PosShare.mem_left_op_right fullShare.right)).1 $$ H
    icases H with ⟨H2, H3⟩
    iframe
  · iintro ⟨H1, H2, H3⟩
    iapply (pointsTo_share (PosShare.mem_left_op_right fullShare)).2
    isplitl [H1]; · iexact H1
    iapply (pointsTo_share (PosShare.mem_left_op_right fullShare.right)).2
    iframe

/-- A tile computed and stored. -/
theorem store_tl (j : Fin 8) {off : Fin 2 → ℕ} (hoff : off = ![0, 8192 * c.val + 1024 * j.val]) {inb} {w : S512x1024.Idx → Elt F .bf16} (hw : w = tile m c j.val)
    {hx hm} {k' : PUnit → Prog (TpuEff nD τ sig (Elt F) Λ₀ .tc) α} :
    (tl0 c j : sProp 𝕄) ⊢ (tl1 m c j -∗ WP c (k' ⟨⟩) Q)
      -∗ WP c (.op (.store (Memref.whole cc0_scratch0) (Rect.unit (s := S512x32768) off S512x1024.size inb) w Finset.univ hx hm) k') Q := by
  unfold tl0 tl1
  iintro ⟨⟨%f, Hd⟩, HR, HL⟩ Hk
  iapply (store_at c (Memref.whole cc0_scratch0) (LG m) (set_tile c.val j.val off hoff inb) ((rd_tile m c j.val j.isLt off hoff inb).trans hw.symm)) $$ Hd
  iintro Hd
  iapply Hk
  ihave Hd := (pt_three c cc0_scratch0 (tileS c.val j.val) (LG m)).1 $$ Hd
  icases Hd with ⟨H1, H2, H3⟩
  iframe

/-- Tile `j` sent clockwise. -/
theorem sendR (j : Fin 8) (i : ℕ) (hi : (dues c).drop i = (cell (nxt c) (krR j), aT) :: (dues c).drop (i + 1))
    {off : Fin 2 → ℕ} (hoff : off = ![0, 8192 * c.val + 1024 * j.val]) {inb hone inb' hone'} {d' : Dev nD} (hn : d' = nxt c)
    {sS sR : SemLoc sig} (hS : sS = .dma (dsem (ksR j))) (hR : sR = .dma (dsem (krR j)))
    {hsc h1 h2 h3} {k' : PUnit → Prog (TpuEff nD τ sig (Elt F) Λ₀ .tc) α} :
    (ctx m K c : sProp 𝕄) ⊢ tl1 m c j -∗ landAt (nxt c) (krR j) -∗ owesE c i
      -∗ ((tl2 m c j ∗ owesE c (i + 1)) -∗ WP c (k' ⟨⟩) Q)
      -∗ WP c (.op (.enqueueDma ((Memref.whole cc0_scratch0).slice (Rect.unit off S512x1024.size inb) hone)
        (.remote (Dev.tc d') ((Memref.whole cc0_scratch0).slice (Rect.unit off S512x1024.size inb') hone') sS hsc) sR h1 h2 h3) k') Q := by
  unfold tl1 tl2 needR pend
  rw [kd_sR]
  iintro #Hctx ⟨H1, H2, H3, ⟨Ht, Ht', Ha⟩, HL⟩ Hl HO Hk
  iapply (send_R m K c j i hi hoff hn hS hR) $$ Hctx H1 Hl HO Ht Ht'
  iintro ⟨Hc, HO⟩
  iapply Hk
  iframe

/-- Tile `j` sent counter-clockwise. -/
theorem sendL (j : Fin 8) (i : ℕ) (hi : (dues c).drop i = (cell (prv c) (krL j), aT) :: (dues c).drop (i + 1))
    {off : Fin 2 → ℕ} (hoff : off = ![0, 8192 * c.val + 1024 * j.val]) {inb hone inb' hone'} {d' : Dev nD} (hn : d' = prv c)
    {sS sR : SemLoc sig} (hS : sS = .dma (dsem (ksL j))) (hR : sR = .dma (dsem (krL j)))
    {hsc h1 h2 h3} {k' : PUnit → Prog (TpuEff nD τ sig (Elt F) Λ₀ .tc) α} :
    (ctx m K c : sProp 𝕄) ⊢ tl2 m c j -∗ landAt (prv c) (krL j) -∗ owesE c i
      -∗ ((tl3 m c j ∗ owesE c (i + 1)) -∗ WP c (k' ⟨⟩) Q)
      -∗ WP c (.op (.enqueueDma ((Memref.whole cc0_scratch0).slice (Rect.unit off S512x1024.size inb) hone)
        (.remote (Dev.tc d') ((Memref.whole cc0_scratch0).slice (Rect.unit off S512x1024.size inb') hone') sS hsc) sR h1 h2 h3) k') Q := by
  unfold tl2 tl3 needL pend
  rw [kd_sL]
  iintro #Hctx ⟨Hp, H2, H3, ⟨Ht, Ht', Ha⟩⟩ Hl HO Hk
  iapply (send_L m K c j i hi hoff hn hS hR) $$ Hctx H2 Hl HO Ht Ht'
  iintro ⟨Hc, HO⟩
  iapply Hk
  iframe

/-- A column block of the weights copied into a slot. -/
theorem wload (s : Fin 2) (r j : ℕ) (hr : r < 4) (hj : j = 2 * r + s.val) {off : Fin 2 → ℕ} (hoff : off = ![0, 1024 * j]) {off' : Fin 3 → ℕ} (hoff' : off' = ![s.val, 0, 0])
    {inb hone inb' hone' hsq} {sem : SemLoc sig} (hs : sem = .dma (dsem (kw s)))
    {h1 h2 h3} {k' : PUnit → Prog (TpuEff nD τ sig (Elt F) Λ₀ .tc) α} :
    (ctx m K c : sProp 𝕄) ⊢ wk m c s r j -∗ wfree c s r -∗ (wpend c s r -∗ WP c (k' ⟨⟩) Q)
      -∗ WP c (.op (.enqueueDma ((Memref.whole main_arg1).slice (Rect.unit off S1024x1024.size inb) hone)
        (.here (((Memref.whole cc0_scratch1).slice (Rect.unit off' S1x1024x1024.size inb') hone').squeeze S1024x1024 hsq)) sem h1 h2 h3) k') Q := by
  unfold wk wfree wpend
  iintro #Hctx ⟨Hs, Ht⟩ ⟨Hd, Ha, #Hr⟩ Hk
  iapply (wcopy m K c s r j hr hj hoff hoff' hs) $$ Hctx Hs Hd Ht Hr
  iintro Hc
  iapply Hk
  iframe

/-- A wait for a column block of the weights. -/
theorem wwait (s : Fin 2) (r j : ℕ) (hr : r < 4) (hj : j = 2 * r + s.val) (n : ℕ)
    {off : Fin 3 → ℕ} {inb hone hsq} {sp' : Space} {s' : Shape} {e' : EltTy} {sem : DmaSem sig} {src : Memref sig .tc sp' s' e'} {h1 h2}
    {k' : PUnit → Prog (TpuEff nD τ sig (Elt F) Λ₀ .tc) α} (hs : sem = dsem (kw s)) :
    (ctx m K c : sProp 𝕄) ⊢ wpend c s r -∗ owesE c n
      -∗ ((owesE c n ∗ wfull m c s (r + 1) j ∗ ptS c main_arg1 (colW j) fullShare (win m c)) -∗ WP c (k' ⟨⟩) Q)
      -∗ WP c (.op (.waitDma2 sem src (((Memref.whole cc0_scratch1).slice (Rect.unit off S1x1024x1024.size inb) hone).squeeze S1024x1024 hsq) h1 h2) k') Q := by
  subst hj
  unfold wpend wfull
  iintro #Hctx ⟨Hcr, Hat⟩ HO Hk
  iapply (wait_step m K c (kw s) (kd_w s) r hr n (lvS_le _) (by rw [lvS_w]; exact Nat.zero_le _) hs
    ((credit_squeeze cc0_scratch1 S1024x1024 off _ inb hone hsq).trans (amt_w s))) $$ Hctx Hcr HO Hat
  unfold payD
  iintro ⟨HO, Hat, Hr, H1, H2⟩
  iapply Hk
  iframe

/-- A load of a weight slot. -/
theorem wread (s : Fin 2) (r j : ℕ) {inb hl}
    {k' : (S1x1024x1024.Idx → Elt F .f32) → Prog (TpuEff nD τ sig (Elt F) Λ₀ .tc) α} :
    (wfull m c s r j : sProp 𝕄) ⊢ (wfree c s r -∗ WP c (k' (wslot m c j)) Q)
      -∗ WP c (.op (.load (Memref.whole cc0_scratch1) (Rect.unit (s := S2x1024x1024) ![s.val, 0, 0] S1x1024x1024.size inb).toLoadRect hl) k') Q := by
  unfold wfull wfree
  iintro ⟨Hd, Ha, Hr⟩ Hk
  iapply (load_at c (Memref.whole cc0_scratch1) (subset_of_eq (set_slotW s.val inb)) (rd_wslot m c s.val j s.isLt inb)) $$ Hd
  iintro Hd
  iapply Hk
  isplitl [Hd]
  · iexists _; iexact Hd
  · iframe

/-- A load of a staging slot, of which nothing is used. -/
theorem gread (s : Fin 2) (r : ℕ) {inb hl}
    {k' : (S1x512x2048.Idx → Elt F .bf16) → Prog (TpuEff nD τ sig (Elt F) Λ₀ .tc) α} :
    (gfree c s r : sProp 𝕄) ⊢ (∀ v, gfree c s r -∗ WP c (k' v) Q)
      -∗ WP c (.op (.load (Memref.whole cc0_scratch3) (Rect.unit (s := S2x512x2048) ![s.val, 0, 0] S1x512x2048.size inb).toLoadRect hl) k') Q := by
  unfold gfree
  iintro ⟨⟨%f, Hd⟩, Ha, Hr⟩ Hk
  iapply (load_at c (Memref.whole cc0_scratch3) (subset_of_eq (set_slotG s.val inb)) rfl) $$ Hd
  iintro Hd
  iapply Hk
  isplitl [Hd]
  · iexists f; iexact Hd
  · iframe

/-- A block of probabilities stored in a staging slot. -/
theorem gstore (s : Fin 2) (r : ℕ) (d : Dev nD) (t : ℕ) {inb} {w : S1x512x2048.Idx → Elt F .bf16} (hw : w = pblk m c d t)
    {hx hm} {k' : PUnit → Prog (TpuEff nD τ sig (Elt F) Λ₀ .tc) α} :
    (gfree c s r : sProp 𝕄) ⊢ (gfull m c s r d t -∗ WP c (k' ⟨⟩) Q)
      -∗ WP c (.op (.store (Memref.whole cc0_scratch3) (Rect.unit (s := S2x512x2048) ![s.val, 0, 0] S1x512x2048.size inb) w Finset.univ hx hm) k') Q := by
  unfold gfree gfull
  iintro ⟨⟨%f, Hd⟩, Ha, Hr⟩ Hk
  iapply (store_at c (Memref.whole cc0_scratch3) (gbuf m c d t) (set_slotG s.val inb) ((rd_gslot m c d t s.val s.isLt inb).trans hw.symm)) $$ Hd
  iintro Hd
  iapply Hk
  iframe

/-- A block of probabilities counts its amount. -/
theorem amt_g (s) : Ref.dmaCredit main_v1_0 S512x2048 .bf16 = amtD (.stg s) := rfl
/-- The raw logits of a column range count their amount. -/
theorem amt_lg : Ref.dmaCredit main_v1_0 S512x8192 .bf16 = amtD .lg := rfl

/-- A staging slot copied out. -/
theorem gcopy (s : Fin 2) (r : ℕ) (d : Dev nD) (t : ℕ) (hr : r < 6) (ht : t < 4) (hd : d = chunkDev c ((2 * r + s.val) / 4)) (ht' : t = (2 * r + s.val) % 4) (hdc : d ≠ opp c)
    {off : Fin 2 → ℕ} (hoff : off = ![0, 8192 * d.val + 2048 * t]) {inb hone hsq inb' hone'} {sem : SemLoc sig} (hs : sem = .dma (dsem (kstg s)))
    {h1 h2 h3} {k' : PUnit → Prog (TpuEff nD τ sig (Elt F) Λ₀ .tc) α} :
    (ctx m K c : sProp 𝕄) ⊢ gfull m c s r d t -∗ gk c s r d t -∗ (gpend c s r -∗ WP c (k' ⟨⟩) Q)
      -∗ WP c (.op (.enqueueDma (((Memref.whole cc0_scratch3).slice (Rect.unit (s := S2x512x2048) ![s.val, 0, 0] S1x512x2048.size inb) hone).squeeze S512x2048 hsq)
        (.here ((Memref.whole main_v1_0).slice (Rect.unit off S512x2048.size inb') hone')) sem h1 h2 h3) k') Q := by
  subst hd ht'
  unfold gfull gk gpend
  iintro #Hctx ⟨Hs, Ha, #Hr⟩ ⟨⟨%f, Hd⟩, Ht⟩ Hk
  have hD := set_subP (chunkDev c ((2 * r + s.val) / 4)).val ((2 * r + s.val) % 4) off hoff inb'
  have hS : (((Memref.whole cc0_scratch3).slice (Rect.unit (s := S2x512x2048) ![s.val, 0, 0] S1x512x2048.size inb) hone).squeeze S512x2048 hsq).view.set = slotG s.val :=
    (View.set_reshape _ _).trans (set_slotG s.val inb)
  iapply (copy_step m K c (kstg s) (kd_stg s) r hr fullShare (fs := gbuf m c (chunkDev c ((2 * r + s.val) / 4)) ((2 * r + s.val) % 4)) (fd := f) hs ((credit_unit main_v1_0 off _ inb' hone').trans (amt_g s)) ?_) $$ Hctx [Hs] [Hd] Ht Hr
  · unfold payD
    refine BIClass.sep_mono ?_ ((pt_set hS _ _).trans ?_)
    · refine (Entails.of_eq (pointsTo_congr fun i hi => ?_)).trans (pt_set hD _ _)
      refine write_agree ((Memref.whole main_v1_0).slice (Rect.unit off S512x2048.size inb') hone').view f _ _ ?_ i hi
      funext x
      refine (rd_PR m c _ hdc _ ht off hoff inb' x).trans ?_
      exact (congrFun (rd_gslot m c _ _ s.val s.isLt inb) _).symm.trans (read_squeeze _ _ _ x).symm
    · iintro H; iexists _; iexact H
  · iapply (pt_set hS.symm); iexact Hs
  · iapply (pt_set hD.symm); iexact Hd
  iintro Hc
  iapply Hk
  iframe

/-- A wait for a staging slot. -/
theorem gwait (s : Fin 2) (r : ℕ) (d : Dev nD) (t : ℕ) (hr : r < 6) (hd : d = chunkDev c ((2 * r + s.val) / 4)) (ht' : t = (2 * r + s.val) % 4) (n : ℕ)
    {off : Fin 2 → ℕ} {inb hone} {sp' : Space} {s' : Shape} {e' : EltTy} {sem : DmaSem sig} {src : Memref sig .tc sp' s' e'} {h1 h2}
    {k' : PUnit → Prog (TpuEff nD τ sig (Elt F) Λ₀ .tc) α} (hs : sem = dsem (kstg s)) :
    (ctx m K c : sProp 𝕄) ⊢ gpend c s r -∗ owesE c n
      -∗ ((owesE c n ∗ gfree c s (r + 1) ∗ ptS c main_v1_0 (ptileS d.val t) fullShare (PR m c)) -∗ WP c (k' ⟨⟩) Q)
      -∗ WP c (.op (.waitDma2 sem src ((Memref.whole main_v1_0).slice (Rect.unit off S512x2048.size inb) hone) h1 h2) k') Q := by
  subst hd ht'
  unfold gpend gfree
  iintro #Hctx ⟨Hcr, Hat⟩ HO Hk
  iapply (wait_step m K c (kstg s) (kd_stg s) r hr n (lvS_le _) (by rw [lvS_g]; exact Nat.zero_le _) hs
    ((credit_unit main_v1_0 off _ inb hone).trans (amt_g s))) $$ Hctx Hcr HO Hat
  unfold payD
  iintro ⟨HO, Hat, Hr, H1, H2⟩
  iapply Hk
  iframe

/-- The logits across the ring copied out. -/
theorem lcopy {off : Fin 2 → ℕ} (hoff : off = ![0, 8192 * (opp c).val]) {inb hone inb' hone'} {sem : SemLoc sig} (hs : sem = .dma (dsem klg))
    {h1 h2 h3} {k' : PUnit → Prog (TpuEff nD τ sig (Elt F) Λ₀ .tc) α} :
    (ctx m K c : sProp 𝕄) ⊢ ptS c cc0_scratch0 (colsS (opp c).val) fullShare (LG m) -∗ (∃ f, ptS c main_v1_0 (colsS (opp c).val) fullShare f)
      -∗ dutyTok ER (cell c klg) 0 false -∗ atPos ER (cell c klg) 0 ∅ 0 -∗ reached ER (cell c klg) 0 -∗ (pend c klg -∗ WP c (k' ⟨⟩) Q)
      -∗ WP c (.op (.enqueueDma ((Memref.whole cc0_scratch0).slice (Rect.unit off S512x8192.size inb) hone)
        (.here ((Memref.whole main_v1_0).slice (Rect.unit off S512x8192.size inb') hone')) sem h1 h2 h3) k') Q := by
  unfold pend
  iintro #Hctx Hs ⟨%f, Hd⟩ Ht Ha #Hr Hk
  have hD : ((Memref.whole main_v1_0).slice (Rect.unit off S512x8192.size inb') hone').view.set = colsS (opp c).val := set_colsP (opp c).val off hoff inb'
  have hS : ((Memref.whole cc0_scratch0).slice (Rect.unit off S512x8192.size inb) hone).view.set = colsS (opp c).val := set_cols (opp c).val off hoff inb
  iapply (copy_step m K c klg kd_lg 0 Nat.one_pos fullShare (fs := LG m) (fd := f) hs ((credit_unit main_v1_0 off _ inb' hone').trans amt_lg) ?_) $$ Hctx [Hs] [Hd] Ht Hr
  · unfold payD
    refine BIClass.sep_mono ?_ (pt_set hS _ _)
    refine (Entails.of_eq (pointsTo_congr fun i hi => ?_)).trans (pt_set hD _ _)
    exact write_agree ((Memref.whole main_v1_0).slice (Rect.unit off S512x8192.size inb') hone').view f _ _ (rd_PRopp m c off hoff inb' inb) i hi
  · iapply (pt_set hS.symm); iexact Hs
  · iapply (pt_set hD.symm); iexact Hd
  iintro Hc
  iapply Hk
  rw [kd_lg]
  iframe

/-- A load of a block of received or computed logits. -/
theorem lread (d : Dev nD) (t : ℕ) (ht : t < 4) (q : PosShare TreeShare) {off : Fin 2 → ℕ} (hoff : off = ![0, 8192 * d.val + 2048 * t]) {inb hl}
    {k' : (S512x2048.Idx → Elt F .bf16) → Prog (TpuEff nD τ sig (Elt F) Λ₀ .tc) α} :
    (ptS c cc0_scratch0 (colsS d.val) q (LG m) : sProp 𝕄) ⊢ (ptS c cc0_scratch0 (colsS d.val) q (LG m) -∗ WP c (k' (subc m d t)) Q)
      -∗ WP c (.op (.load (Memref.whole cc0_scratch0) (Rect.unit (s := S512x32768) off S512x2048.size inb).toLoadRect hl) k') Q :=
  load_at c (Memref.whole cc0_scratch0) ((subset_of_eq (set_sub d.val t off hoff inb)).trans (ptile_sub d.val t ht)) (rd_sub m d t ht off hoff inb)

/-- A load of a column of a filled slot of the statistics. -/
theorem aread (s o : ℕ) (hs : s < 4) (ho : o < 8) (q : PosShare TreeShare) {inb hl}
    {k' : (S1x512x1.Idx → Elt F .f32) → Prog (TpuEff nD τ sig (Elt F) Λ₀ .tc) α} :
    (ptS c cc0_scratch2 (slotA s) q (SB m c) : sProp 𝕄) ⊢ (ptS c cc0_scratch2 (slotA s) q (SB m c) -∗ WP c (k' (scol m (slotDev c s) ⟨o, ho⟩)) Q)
      -∗ WP c (.op (.load (Memref.whole cc0_scratch2) (Rect.unit (s := S4x512x8) ![s, 0, o] S1x512x1.size inb).toLoadRect hl) k') Q :=
  load_at c (Memref.whole cc0_scratch2) (set_statcol s o inb) (rd_statcol m c s o hs ho inb)

/-- The own slot of the statistics read before it is filled. -/
theorem aread0 {inb hl} {k' : (S1x512x8.Idx → Elt F .f32) → Prog (TpuEff nD τ sig (Elt F) Λ₀ .tc) α} :
    (iprop(∃ f, ptS c cc0_scratch2 (slotA 0) fullShare f) : sProp 𝕄) ⊢ (∀ v, (∃ f, ptS c cc0_scratch2 (slotA 0) fullShare f) -∗ WP c (k' v) Q)
      -∗ WP c (.op (.load (Memref.whole cc0_scratch2) (Rect.unit (s := S4x512x8) ![0, 0, 0] S1x512x8.size inb).toLoadRect hl) k') Q := by
  iintro ⟨%f, Hd⟩ Hk
  iapply (load_at c (Memref.whole cc0_scratch2) (subset_of_eq (set_slotA 0 inb)) rfl) $$ Hd
  iintro Hd
  iapply Hk
  iexists f; iexact Hd

/-- The own slot of the statistics filled. -/
theorem astore {inb} {w : S1x512x8.Idx → Elt F .f32} (hw : w = stat m c) {hx hm} {k' : PUnit → Prog (TpuEff nD τ sig (Elt F) Λ₀ .tc) α} :
    (iprop(∃ f, ptS c cc0_scratch2 (slotA 0) fullShare f) : sProp 𝕄) ⊢ (ptS c cc0_scratch2 (slotA 0) fullShare (SB m c) -∗ WP c (k' ⟨⟩) Q)
      -∗ WP c (.op (.store (Memref.whole cc0_scratch2) (Rect.unit (s := S4x512x8) ![0, 0, 0] S1x512x8.size inb) w Finset.univ hx hm) k') Q := by
  iintro ⟨%f, Hd⟩ Hk
  iapply (store_at c (Memref.whole cc0_scratch2) (SB m c) (set_slotA 0 inb) ((rd_stat m c 0 (by decide) inb).trans hw.symm)) $$ Hd
  iexact Hk

/-- A wait for the one transfer of a tile on a cell. -/
theorem wait_t (k : Fin 47) {κd : KD} (hκ : kd k = κd) (hA : amtD κd = aT) (hr : rounds κd = 1) (n : ℕ) (hn : startOf (lvS (.dma (dsem k))) ≤ n)
    {off : Fin 2 → ℕ} {inb hone} {sp' : Space} {s' : Shape} {e' : EltTy} {sem : DmaSem sig} {src : Memref sig .tc sp' s' e'} {h1 h2}
    {k' : PUnit → Prog (TpuEff nD τ sig (Elt F) Λ₀ .tc) α} (hs : sem = dsem k) :
    (ctx m K c : sProp 𝕄) ⊢ pend c k -∗ owesE c n -∗ ((owesE c n ∗ fin c k ∗ payD m c κd 0) -∗ WP c (k' ⟨⟩) Q)
      -∗ WP c (.op (.waitDma2 sem src ((Memref.whole cc0_scratch0).slice (Rect.unit off S512x1024.size inb) hone) h1 h2) k') Q :=
  wait_one m K c k hκ hr n hn hs ((credit_unit cc0_scratch0 off S512x1024.size inb hone).trans (amt_t.trans hA.symm))
/-- A wait for the one transfer of half a column range on a cell. -/
theorem wait_h (k : Fin 47) {κd : KD} (hκ : kd k = κd) (hA : amtD κd = aH) (hr : rounds κd = 1) (n : ℕ) (hn : startOf (lvS (.dma (dsem k))) ≤ n)
    {off : Fin 2 → ℕ} {inb hone} {sp' : Space} {s' : Shape} {e' : EltTy} {sem : DmaSem sig} {src : Memref sig .tc sp' s' e'} {h1 h2}
    {k' : PUnit → Prog (TpuEff nD τ sig (Elt F) Λ₀ .tc) α} (hs : sem = dsem k) :
    (ctx m K c : sProp 𝕄) ⊢ pend c k -∗ owesE c n -∗ ((owesE c n ∗ fin c k ∗ payD m c κd 0) -∗ WP c (k' ⟨⟩) Q)
      -∗ WP c (.op (.waitDma2 sem src ((Memref.whole cc0_scratch0).slice (Rect.unit off S256x8192.size inb) hone) h1 h2) k') Q :=
  wait_one m K c k hκ hr n hn hs ((credit_unit cc0_scratch0 off S256x8192.size inb hone).trans (amt_h.trans hA.symm))
/-- A wait for the one transfer of statistics on a cell. -/
theorem wait_a (k : Fin 47) {κd : KD} (hκ : kd k = κd) (hA : amtD κd = aS) (hr : rounds κd = 1) (n : ℕ) (hn : startOf (lvS (.dma (dsem k))) ≤ n)
    {off : Fin 3 → ℕ} {inb hone hsq} {sp' : Space} {s' : Shape} {e' : EltTy} {sem : DmaSem sig} {src : Memref sig .tc sp' s' e'} {h1 h2}
    {k' : PUnit → Prog (TpuEff nD τ sig (Elt F) Λ₀ .tc) α} (hs : sem = dsem k) :
    (ctx m K c : sProp 𝕄) ⊢ pend c k -∗ owesE c n -∗ ((owesE c n ∗ fin c k ∗ payD m c κd 0) -∗ WP c (k' ⟨⟩) Q)
      -∗ WP c (.op (.waitDma2 sem src (((Memref.whole cc0_scratch2).slice (Rect.unit off S1x512x8.size inb) hone).squeeze S512x8 hsq) h1 h2) k') Q :=
  wait_one m K c k hκ hr n hn hs ((credit_squeeze cc0_scratch2 S512x8 off S1x512x8.size inb hone hsq).trans (amt_s.trans hA.symm))
/-- A wait for the copy of the logits across the ring. -/
theorem wait_l (n : ℕ) {off : Fin 2 → ℕ} {inb hone} {sp' : Space} {s' : Shape} {e' : EltTy} {sem : DmaSem sig} {src : Memref sig .tc sp' s' e'} {h1 h2}
    {k' : PUnit → Prog (TpuEff nD τ sig (Elt F) Λ₀ .tc) α} (hs : sem = dsem klg) :
    (ctx m K c : sProp 𝕄) ⊢ pend c klg -∗ owesE c n -∗ ((owesE c n ∗ fin c klg ∗ payD m c .lg 0) -∗ WP c (k' ⟨⟩) Q)
      -∗ WP c (.op (.waitDma2 sem src ((Memref.whole main_v1_0).slice (Rect.unit off S512x8192.size inb) hone) h1 h2) k') Q :=
  wait_one m K c klg kd_lg rfl n (by rw [show lvS (.dma (dsem klg)) = 0 from by decide]; exact Nat.zero_le _) hs ((credit_unit main_v1_0 off S512x8192.size inb hone).trans amt_lg)

/-- The activations loaded. -/
theorem xread {inb hl} {k' : (S512x1024.Idx → Elt F .f32) → Prog (TpuEff nD τ sig (Elt F) Λ₀ .tc) α} {f : S512x1024.Idx → Elt F .f32} :
    (ptS c cc0_stg0_0 Finset.univ fullShare f : sProp 𝕄) ⊢ (ptS c cc0_stg0_0 Finset.univ fullShare f -∗ WP c (k' f) Q)
      -∗ WP c (.op (.load (Memref.whole cc0_stg0_0) (Rect.unit (s := S512x1024) ![0, 0] S512x1024.size inb).toLoadRect hl) k') Q := by
  have hS : ((Memref.whole cc0_stg0_0).access (Rect.unit (s := S512x1024) ![0, 0] S512x1024.size inb)).set ⊆ (Finset.univ : Finset S512x1024.Idx) := fun i _ => Finset.mem_univ i
  exact load_at c (Memref.whole cc0_stg0_0) hS (whole_read cc0_stg0_0 zero2 inb f)

/-- The first statistics result read before it is written. -/
theorem mread {inb hl} {k' : (S512x128.Idx → Elt F .f32) → Prog (TpuEff nD τ sig (Elt F) Λ₀ .tc) α} :
    (iprop(∃ f, ptS c cc0_stg1_0 Finset.univ fullShare f) : sProp 𝕄) ⊢ (∀ v, (∃ f, ptS c cc0_stg1_0 Finset.univ fullShare f) -∗ WP c (k' v) Q)
      -∗ WP c (.op (.load (Memref.whole cc0_stg1_0) (Rect.unit (s := S512x128) ![0, 0] S512x128.size inb).toLoadRect hl) k') Q := by
  iintro ⟨%f, Hd⟩ Hk
  have hS : ((Memref.whole cc0_stg1_0).access (Rect.unit (s := S512x128) ![0, 0] S512x128.size inb)).set ⊆ (Finset.univ : Finset S512x128.Idx) := fun i _ => Finset.mem_univ i
  iapply (load_at c (Memref.whole cc0_stg1_0) hS rfl) $$ Hd
  iintro Hd
  iapply Hk
  iexists f; iexact Hd
/-- The first statistics result written. -/
theorem mstore {inb} {w : S512x128.Idx → Elt F .f32} {hx hm} {k' : PUnit → Prog (TpuEff nD τ sig (Elt F) Λ₀ .tc) α} :
    (iprop(∃ f, ptS c cc0_stg1_0 Finset.univ fullShare f) : sProp 𝕄) ⊢ (ptS c cc0_stg1_0 Finset.univ fullShare w -∗ WP c (k' ⟨⟩) Q)
      -∗ WP c (.op (.store (Memref.whole cc0_stg1_0) (Rect.unit (s := S512x128) ![0, 0] S512x128.size inb) w Finset.univ hx hm) k') Q := by
  iintro ⟨%f, Hd⟩ Hk
  iapply (store_at c (Memref.whole cc0_stg1_0) w (whole_rect cc0_stg1_0 zero2 inb) (whole_read cc0_stg1_0 zero2 inb w)) $$ Hd
  iexact Hk
/-- The second statistics result read before it is written. -/
theorem rread {inb hl} {k' : (S512x128.Idx → Elt F .f32) → Prog (TpuEff nD τ sig (Elt F) Λ₀ .tc) α} :
    (iprop(∃ f, ptS c cc0_stg2_0 Finset.univ fullShare f) : sProp 𝕄) ⊢ (∀ v, (∃ f, ptS c cc0_stg2_0 Finset.univ fullShare f) -∗ WP c (k' v) Q)
      -∗ WP c (.op (.load (Memref.whole cc0_stg2_0) (Rect.unit (s := S512x128) ![0, 0] S512x128.size inb).toLoadRect hl) k') Q := by
  iintro ⟨%f, Hd⟩ Hk
  have hS : ((Memref.whole cc0_stg2_0).access (Rect.unit (s := S512x128) ![0, 0] S512x128.size inb)).set ⊆ (Finset.univ : Finset S512x128.Idx) := fun i _ => Finset.mem_univ i
  iapply (load_at c (Memref.whole cc0_stg2_0) hS rfl) $$ Hd
  iintro Hd
  iapply Hk
  iexists f; iexact Hd
/-- The second statistics result written. -/
theorem rstore {inb} {w : S512x128.Idx → Elt F .f32} {hx hm} {k' : PUnit → Prog (TpuEff nD τ sig (Elt F) Λ₀ .tc) α} :
    (iprop(∃ f, ptS c cc0_stg2_0 Finset.univ fullShare f) : sProp 𝕄) ⊢ (ptS c cc0_stg2_0 Finset.univ fullShare w -∗ WP c (k' ⟨⟩) Q)
      -∗ WP c (.op (.store (Memref.whole cc0_stg2_0) (Rect.unit (s := S512x128) ![0, 0] S512x128.size inb) w Finset.univ hx hm) k') Q := by
  iintro ⟨%f, Hd⟩ Hk
  iapply (store_at c (Memref.whole cc0_stg2_0) w (whole_rect cc0_stg2_0 zero2 inb) (whole_read cc0_stg2_0 zero2 inb w)) $$ Hd
  iexact Hk

end Steps

end Cert.K
-- ==== Proof.Body.lean ====
/-
The body of the first kernel at its buffers, cut into four stages.
-/
module

public import proofs.«01_k».proof.Proof.Ops2

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The last stage of the body: the probabilities are computed block by block and written out. -/
def restC (d0 : Dev nD) (v2 v4 v6 : BitVec 32) (v705 v722 : FVec F S512x1 .f32) (v729 : FVec F S512x128 .f32) : Prog (TpuEff nD τ sig (Elt F) Λ₀ .tc) PUnit := do
  let ⟨v731, v734⟩ : Σ' (v731 : FVec F S512x1 .bf16), FVec F S512x1 .bf16 ← k0_part25 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v705 v722 v729
  k0_part26 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v731 v734
  let v829 : FVec F S1x512x2048 .bf16 ← k0_part27 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v731 v734
  k0_part28 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v731 v734 v829
  let v892 : FVec F S512x2048 .bf16 ← k0_part29 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v731 v734
  k0_part30 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v6 v731 v734 v892
  let v958 : FVec F S512x2048 .bf16 ← k0_part31 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v6 v731 v734
  k0_part32 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v6 v731 v734 v958
  k0_part33 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v6
  k0_part34 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2
  let v1040 : DmaSems sig S1 := cc0_scratch11.slice (Rect.unit (s := S2) ![1] S1.size inb_S2_S1_1)
  let v1041 : DmaSems sig S_ := v1040.squeeze S_ squeezes_S1_S_
  let v1042 : Memref sig .tc .hbm S512x2048 .bf16 := (Memref.whole main_v1_0).slice (Rect.unit (s := S512x32768) (k0_off9 d0 1#32 6144#32) S512x2048.size (k0_off9_inb d0 0 3)) (fun _ => rfl)
  let v1043 : Memref sig .tc .vmem S1x512x2048 .bf16 := (Memref.whole cc0_scratch3).slice (Rect.unit (s := S2x512x2048) ![1, 0, 0] S1x512x2048.size inb_S2x512x2048_S1x512x2048_1_0_0) (fun _ => rfl)
  let v1044 : Memref sig .tc .vmem S512x2048 .bf16 := v1043.squeeze S512x2048 squeezes_S1x512x2048_S512x2048
  Prog.lift (.waitDma2 v1041.sem v1044 v1042 (((Memref.isWhole_whole cc0_scratch3).wordExact_slice rfl _ wordsbf16_S2x512x2048_S1x512x2048_1_0_0).reshape _ _) ((Memref.isWhole_whole main_v1_0).wordExact_slice rfl _ (k0_off9_wordsbf16 d0 0 3)))
  let v1045 : Memref sig .tc .hbm S512x8192 .bf16 := (Memref.whole main_v1_0).slice (Rect.unit (s := S512x32768) (k0_off10 d0) S512x8192.size (k0_off10_inb d0)) (fun _ => rfl)
  let v1046 : Memref sig .tc .vmem S512x8192 .bf16 := (Memref.whole cc0_scratch0).slice (Rect.unit (s := S512x32768) (k0_off10 d0) S512x8192.size (k0_off10_inb d0)) (fun _ => rfl)
  Prog.lift (.waitDma2 cc0_scratch12.sem v1046 v1045 ((Memref.isWhole_whole cc0_scratch0).wordExact_slice rfl _ (k0_off10_wordsbf16 d0)) ((Memref.isWhole_whole main_v1_0).wordExact_slice rfl _ (k0_off10_wordsbf16 d0)))
  pure ⟨⟩

/-- The body from the exchange of the statistics on. -/
def restB (d0 : Dev nD) (v2 v4 v6 : BitVec 32) : Prog (TpuEff nD τ sig (Elt F) Λ₀ .tc) PUnit := do
  k0_part15 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v6
  k0_part16 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v6
  k0_part17 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v6
  k0_part18 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v6
  let v589 : BitVec 32 ← k0_part19 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4
  k0_part20 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v6 v589
  k0_part21 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0
  k0_part22 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0
  let ⟨v688, v690⟩ : Σ' (v688 : FVec F S512x1 .f32), FVec F S512x1 .f32 ← k0_part23 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v4 v6
  let ⟨v705, v722, v729⟩ : Σ' (v705 : FVec F S512x1 .f32) (v722 : FVec F S512x1 .f32), FVec F S512x128 .f32 ← k0_part24 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 v688 v690
  restC d0 v2 v4 v6 v705 v722 v729

/-- The body from the fifth tile on. -/
def restA (d0 : Dev nD) (v2 v4 v6 : BitVec 32) (v19 : FVec F S512x1024 .bf16) (v202 : FVec F S512x1 .f32) : Prog (TpuEff nD τ sig (Elt F) Λ₀ .tc) PUnit := do
  let ⟨v244, v245⟩ : Σ' (v244 : FVec F S512x1024 .f32), FVec F S512x1024 .bf16 ← k0_part8 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v19
  let v255 : FVec F S512x1 .f32 ← k0_part9 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v6 v202 v244 v245
  let ⟨v308, c8192_i32_227⟩ : Σ' (v308 : FVec F S512x1 .f32), BitVec 32 ← k0_part10 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v19 v255
  k0_part11 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v6 c8192_i32_227
  let ⟨v361, c1_i32_272⟩ : Σ' (v361 : FVec F S512x1 .f32), BitVec 32 ← k0_part12 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v6 v19 v308
  let ⟨v409, v416⟩ : Σ' (v409 : FVec F S512x1 .f32), BitVec 32 ← k0_part13 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v19 v361 c1_i32_272
  k0_part14 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v6 v409 v416
  restB d0 v2 v4 v6

/-- The whole body. -/
def bodyAll  : Prog (TpuEff nD τ sig (Elt F) Λ₀ .tc) PUnit := do
  let ⟨d0, v2, v4, v6, v19⟩ : Σ' (d0 : Dev nD) (v2 : BitVec 32) (v4 : BitVec 32) (v6 : BitVec 32), FVec F S512x1024 .bf16 ← k0_part1 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12
  let v43 : FVec F S512x1 .f32 ← k0_part2 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v6 v19
  let ⟨v85, v86, v87, c1024_i32_66⟩ : Σ' (v85 : FVec F S512x1024 .f32) (v86 : FVec F S512x1024 .bf16) (v87 : BitVec 32), BitVec 32 ← k0_part3 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v19
  let v96 : FVec F S512x1 .f32 ← k0_part4 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v6 v43 v85 v86 v87 c1024_i32_66
  let v149 : FVec F S512x1 .f32 ← k0_part5 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v19 v96
  k0_part6 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v4 v6
  let v202 : FVec F S512x1 .f32 ← k0_part7 (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 d0 v2 v6 v19 v149
  restA d0 v2 v4 v6 v19 v202

/-- The first kernel's body is its stages one after the other. -/
theorem body_eq (t : Fin cfg0.N) : (bodyAt0 t : Prog (TpuEff nD τ sig (Elt F) Λ₀ .tc) PUnit) = bodyAll := rfl

end Cert.K
-- ==== Proof.BodyC.lean ====
/-
The last stage of the first kernel: the probabilities computed block by block and written out.
-/
module

public import proofs.«01_k».proof.Proof.Body

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Bundles
variable (c : Dev nD)

/-- What writing the twelve blocks of probabilities takes. -/
def gks : sProp 𝕄 := iprop(gk c 0 0 c 0 ∗ gk c 1 0 c 1 ∗ gk c 0 1 c 2 ∗ gk c 1 1 c 3
  ∗ gk c 0 2 (prv c) 0 ∗ gk c 1 2 (prv c) 1 ∗ gk c 0 3 (prv c) 2 ∗ gk c 1 3 (prv c) 3
  ∗ gk c 0 4 (nxt c) 0 ∗ gk c 1 4 (nxt c) 1 ∗ gk c 0 5 (nxt c) 2 ∗ gk c 1 5 (nxt c) 3)
/-- Four blocks of probabilities written. -/
def gouts (d : Dev nD) : sProp 𝕄 := iprop(ptS c main_v1_0 (ptileS d.val 0) fullShare (PR m c) ∗ ptS c main_v1_0 (ptileS d.val 1) fullShare (PR m c)
  ∗ ptS c main_v1_0 (ptileS d.val 2) fullShare (PR m c) ∗ ptS c main_v1_0 (ptileS d.val 3) fullShare (PR m c))
/-- The three column ranges whose probabilities device `c` computes, each at some share. -/
def lgs (q : PosShare TreeShare) (q' : PosShare TreeShare) : sProp 𝕄 := iprop(ptS c cc0_scratch0 (colsS c.val) q (LG m) ∗ ptS c cc0_scratch0 (colsS (prv c).val) q' (LG m)
  ∗ ptS c cc0_scratch0 (colsS (nxt c).val) q' (LG m))
/-- The second hops and the statistics' transfers under way. -/
def tails : sProp 𝕄 := iprop((pend c (ks2r 0) ∗ pend c (ks2r 1) ∗ pend c (ks2s 0) ∗ pend c (ks2s 1)) ∗ pend c (ksts 0) ∗ pend c (ksts 1) ∗ pend c (ksts 2))
/-- What the copy of the logits across the ring takes. -/
def lneed : sProp 𝕄 := iprop((∃ f, ptS c main_v1_0 (colsS (opp c).val) fullShare f) ∗ dutyTok ER (cell c klg) 0 false ∗ atPos ER (cell c klg) 0 ∅ 0)
/-- What the last stage leaves. -/
def outC (q q' : PosShare TreeShare) : sProp 𝕄 := iprop((owesE c 23 ∗ ptS c cc0_stg2_0 Finset.univ fullShare (Rout m c) ∗ lgs m c q q')
  ∗ (gouts m c c ∗ gouts m c (prv c) ∗ gouts m c (nxt c)) ∗ (gfree c 0 6 ∗ gfree c 1 6)
  ∗ ((fin c (ks2r 0) ∗ fin c (ks2r 1) ∗ fin c (ks2s 0) ∗ fin c (ks2s 1)) ∗ (fin c (ksts 0) ∗ fin c (ksts 1) ∗ fin c (ksts 2)) ∗ fin c klg)
  ∗ (payD m c (.s2s 0) 0 ∗ payD m c (.s2s 1) 0) ∗ (payD m c (.sts 0) 0 ∗ payD m c (.sts 1) 0 ∗ payD m c (.sts 2) 0) ∗ payD m c .lg 0)
end Bundles

/-- Neither a device nor its neighbours lie across the ring from it. -/
theorem ne_opp : ∀ c : Dev nD, c ≠ opp c ∧ prv c ≠ opp c ∧ nxt c ≠ opp c := by decide

/-- Where a block of the device's own logits is read. -/
theorem off6 (c : Dev nD) (t : Fin 4) : k0_off6 c (BitVec.ofNat 32 (2048 * t.val)) = ![0, 8192 * c.val + 2048 * t.val] := k0_off6_eq c t
/-- Where a block of the device's own probabilities is written. -/
theorem off7 (c : Dev nD) (t : Fin 4) : k0_off7 c (BitVec.ofNat 32 (2048 * t.val)) = ![0, 8192 * c.val + 2048 * t.val] := k0_off7_eq c t
/-- Where a block of the predecessor's logits is read. -/
theorem off8p (c : Dev nD) (t : Fin 4) : k0_off8 c 3#32 (BitVec.ofNat 32 (2048 * t.val)) = ![0, 8192 * (prv c).val + 2048 * t.val] := k0_off8_eq c 1 t
/-- Where a block of the successor's logits is read. -/
theorem off8n (c : Dev nD) (t : Fin 4) : k0_off8 c 1#32 (BitVec.ofNat 32 (2048 * t.val)) = ![0, 8192 * (nxt c).val + 2048 * t.val] := k0_off8_eq c 0 t
/-- Where a block of the predecessor's probabilities is written. -/
theorem off9p (c : Dev nD) (t : Fin 4) : k0_off9 c 3#32 (BitVec.ofNat 32 (2048 * t.val)) = ![0, 8192 * (prv c).val + 2048 * t.val] := k0_off9_eq c 1 t
/-- Where a block of the successor's probabilities is written. -/
theorem off9n (c : Dev nD) (t : Fin 4) : k0_off9 c 1#32 (BitVec.ofNat 32 (2048 * t.val)) = ![0, 8192 * (nxt c).val + 2048 * t.val] := k0_off9_eq c 0 t

/-- A program after a program. -/
theorem bind_wp {c : Dev nD} {α β : Type} {p : Prog (TpuEff nD τ sig (Elt F) Λ₀ .tc) α} {k : α → Prog (TpuEff nD τ sig (Elt F) Λ₀ .tc) β}
    {Q : β → sProp (MT nD τ sig Unit (Elt F) ℕ UU ℕ)} : (WP c p (fun a => WP c (k a) Q) : sProp 𝕄) ⊢ WP c (p >>= k) Q :=
  Entails.of_eq (wp_bind ..).symm

/-- A program that returns at once. -/
theorem ret_wp {c : Dev nD} {α : Type} {a : α} {Q : α → sProp (MT nD τ sig Unit (Elt F) ℕ UU ℕ)} : (Q a : sProp 𝕄) ⊢ WP c (Prog.ret a) Q := by
  iintro H
  iapply (Entails.of_eq (wp_ret ..).symm)
  imodintro
  iexact H

/-- The two halves of the column range across the ring, received, are the whole range. -/
theorem pt_halves_join (c : Dev nD) : (iprop(payD m c (.s2r 0) 0 ∗ payD m c (.s2r 1) 0) : sProp 𝕄) ⊢ ptS c cc0_scratch0 (colsS (opp c).val) fullShare (LG m) := by
  rw [pt_halves c fullShare (opp c).val (LG m), bigSep_fin_two]
  unfold payD
  exact .rfl

section Stage
variable (K : GSem nD τ sig → ℕ) (c : Dev nD) {Q : PUnit → sProp (MT nD τ sig Unit (Elt F) ℕ UU ℕ)}

set_option maxHeartbeats 1600000 in
/-- The last stage of the body. -/
theorem stageC (v2 v4 v6 : BitVec 32) (q q' : PosShare TreeShare) :
    (ctx m K c : sProp 𝕄) ⊢ owesE c 23 -∗ (∃ f, ptS c cc0_stg2_0 Finset.univ fullShare f) -∗ lgs m c q q' -∗ gfree c 0 0 -∗ gfree c 1 0
      -∗ gks c -∗ tails c -∗ lneed c -∗ (outC m c q q' -∗ Q ⟨⟩) -∗ WP c (restC c v2 v4 v6 (Mg m c) (Sg m c) (Rout m c)) Q := by
  unfold gks tails lneed lgs
  iintro #Hctx HO Hr ⟨Hl0, Hl1, Hl2⟩ Hg0 Hg1 ⟨G0, G1, G2, G3, G4, G5, G6, G7, G8, G9, G10, G11⟩ ⟨⟨P0, P1, P2, P3⟩, P4, P5, P6⟩ ⟨HV, HT, HA⟩ Hk
  unfold restC
  iapply bind_wp
  rw [k0_part25_eq_skeleton]; unfold k0_part25_skel
  simp only [Prog.lift, Prog.bind_op, Prog.bind_ret]
  iapply (rread c) $$ Hr
  iintro %_ Hr
  iapply (rstore c) $$ Hr
  iintro Hr
  iapply (lread m c c 0 (by decide) q (show k0_off6 c 0#32 = _ from off6 c 0)) $$ Hl0
  iintro Hl0
  iapply (gread c 0 0) $$ Hg0
  iintro %_ Hg0
  iapply (gstore m c 0 0 c 0 rfl) $$ Hg0
  iintro Hg0
  iapply (gcopy m K c 0 0 c 0 (by decide) (by decide) rfl rfl (ne_opp c).1 (show k0_off7 c 0#32 = _ from off7 c 0) rfl) $$ Hctx Hg0 G0
  iintro Hg0
  iapply (lread m c c 1 (by decide) q (show k0_off6 c 2048#32 = _ from off6 c 1)) $$ Hl0
  iintro Hl0
  iapply (gread c 1 0) $$ Hg1
  iintro %_ Hg1
  iapply (gstore m c 1 0 c 1 rfl) $$ Hg1
  iintro Hg1
  iapply ret_wp
  iapply bind_wp
  rw [k0_part26_eq_skeleton]; unfold k0_part26_skel
  simp only [Prog.lift, Prog.bind_op, Prog.bind_ret]
  iapply (gcopy m K c 1 0 c 1 (by decide) (by decide) rfl rfl (ne_opp c).1 (show k0_off7 c 2048#32 = _ from off7 c 1) rfl) $$ Hctx Hg1 G1
  iintro Hg1
  iapply (gwait m K c 0 0 c 0 (by decide) rfl rfl 23 rfl) $$ Hctx Hg0 HO
  iintro ⟨HO, Hg0, O0⟩
  iapply (lread m c c 2 (by decide) q (show k0_off6 c 4096#32 = _ from off6 c 2)) $$ Hl0
  iintro Hl0
  iapply (gread c 0 1) $$ Hg0
  iintro %_ Hg0
  iapply (gstore m c 0 1 c 2 rfl) $$ Hg0
  iintro Hg0
  iapply (gcopy m K c 0 1 c 2 (by decide) (by decide) rfl rfl (ne_opp c).1 (show k0_off7 c 4096#32 = _ from off7 c 2) rfl) $$ Hctx Hg0 G2
  iintro Hg0
  iapply ret_wp
  iapply bind_wp
  rw [k0_part27_eq_skeleton]; unfold k0_part27_skel
  simp only [Prog.lift, Prog.bind_op, Prog.bind_ret]
  iapply (gwait m K c 1 0 c 1 (by decide) rfl rfl 23 rfl) $$ Hctx Hg1 HO
  iintro ⟨HO, Hg1, O1⟩
  iapply (lread m c c 3 (by decide) q (show k0_off6 c 6144#32 = _ from off6 c 3)) $$ Hl0
  iintro Hl0
  iapply (gread c 1 1) $$ Hg1
  iintro %_ Hg1
  iapply (gstore m c 1 1 c 3 rfl) $$ Hg1
  iintro Hg1
  iapply (gcopy m K c 1 1 c 3 (by decide) (by decide) rfl rfl (ne_opp c).1 (show k0_off7 c 6144#32 = _ from off7 c 3) rfl) $$ Hctx Hg1 G3
  iintro Hg1
  iapply (gwait m K c 0 1 c 2 (by decide) rfl rfl 23 rfl) $$ Hctx Hg0 HO
  iintro ⟨HO, Hg0, O2⟩
  iapply (lread m c (prv c) 0 (by decide) q' (show k0_off8 c 3#32 0#32 = _ from off8p c 0)) $$ Hl1
  iintro Hl1
  iapply (gread c 0 2) $$ Hg0
  iintro %_ Hg0
  iapply ret_wp
  iapply bind_wp
  rw [k0_part28_eq_skeleton]; unfold k0_part28_skel
  simp only [Prog.lift, Prog.bind_op, Prog.bind_ret]
  iapply (gstore m c 0 2 (prv c) 0 rfl) $$ Hg0
  iintro Hg0
  iapply (gcopy m K c 0 2 (prv c) 0 (by decide) (by decide) rfl rfl (ne_opp c).2.1 (show k0_off9 c 3#32 0#32 = _ from off9p c 0) rfl) $$ Hctx Hg0 G4
  iintro Hg0
  iapply (gwait m K c 1 1 c 3 (by decide) rfl rfl 23 rfl) $$ Hctx Hg1 HO
  iintro ⟨HO, Hg1, O3⟩
  iapply (lread m c (prv c) 1 (by decide) q' (show k0_off8 c 3#32 2048#32 = _ from off8p c 1)) $$ Hl1
  iintro Hl1
  iapply (gread c 1 2) $$ Hg1
  iintro %_ Hg1
  iapply (gstore m c 1 2 (prv c) 1 rfl) $$ Hg1
  iintro Hg1
  iapply (gcopy m K c 1 2 (prv c) 1 (by decide) (by decide) rfl rfl (ne_opp c).2.1 (show k0_off9 c 3#32 2048#32 = _ from off9p c 1) rfl) $$ Hctx Hg1 G5
  iintro Hg1
  iapply ret_wp
  iapply bind_wp
  rw [k0_part29_eq_skeleton]; unfold k0_part29_skel
  simp only [Prog.lift, Prog.bind_op, Prog.bind_ret]
  iapply (gwait m K c 0 2 (prv c) 0 (by decide) rfl rfl 23 rfl) $$ Hctx Hg0 HO
  iintro ⟨HO, Hg0, O4⟩
  iapply (lread m c (prv c) 2 (by decide) q' (show k0_off8 c 3#32 4096#32 = _ from off8p c 2)) $$ Hl1
  iintro Hl1
  iapply (gread c 0 3) $$ Hg0
  iintro %_ Hg0
  iapply (gstore m c 0 3 (prv c) 2 rfl) $$ Hg0
  iintro Hg0
  iapply (gcopy m K c 0 3 (prv c) 2 (by decide) (by decide) rfl rfl (ne_opp c).2.1 (show k0_off9 c 3#32 4096#32 = _ from off9p c 2) rfl) $$ Hctx Hg0 G6
  iintro Hg0
  iapply (gwait m K c 1 2 (prv c) 1 (by decide) rfl rfl 23 rfl) $$ Hctx Hg1 HO
  iintro ⟨HO, Hg1, O5⟩
  iapply (lread m c (prv c) 3 (by decide) q' (show k0_off8 c 3#32 6144#32 = _ from off8p c 3)) $$ Hl1
  iintro Hl1
  iapply ret_wp
  iapply bind_wp
  rw [k0_part30_eq_skeleton]; unfold k0_part30_skel
  simp only [Prog.lift, Prog.bind_op, Prog.bind_ret]
  iapply (gread c 1 3) $$ Hg1
  iintro %_ Hg1
  iapply (gstore m c 1 3 (prv c) 3 rfl) $$ Hg1
  iintro Hg1
  iapply (gcopy m K c 1 3 (prv c) 3 (by decide) (by decide) rfl rfl (ne_opp c).2.1 (show k0_off9 c 3#32 6144#32 = _ from off9p c 3) rfl) $$ Hctx Hg1 G7
  iintro Hg1
  iapply (gwait m K c 0 3 (prv c) 2 (by decide) rfl rfl 23 rfl) $$ Hctx Hg0 HO
  iintro ⟨HO, Hg0, O6⟩
  iapply (lread m c (nxt c) 0 (by decide) q' (show k0_off8 c 1#32 0#32 = _ from off8n c 0)) $$ Hl2
  iintro Hl2
  iapply (gread c 0 4) $$ Hg0
  iintro %_ Hg0
  iapply (gstore m c 0 4 (nxt c) 0 rfl) $$ Hg0
  iintro Hg0
  iapply (gcopy m K c 0 4 (nxt c) 0 (by decide) (by decide) rfl rfl (ne_opp c).2.2 (show k0_off9 c 1#32 0#32 = _ from off9n c 0) rfl) $$ Hctx Hg0 G8
  iintro Hg0
  iapply ret_wp
  iapply bind_wp
  rw [k0_part31_eq_skeleton]; unfold k0_part31_skel
  simp only [Prog.lift, Prog.bind_op, Prog.bind_ret]
  iapply (gwait m K c 1 3 (prv c) 3 (by decide) rfl rfl 23 rfl) $$ Hctx Hg1 HO
  iintro ⟨HO, Hg1, O7⟩
  iapply (lread m c (nxt c) 1 (by decide) q' (show k0_off8 c 1#32 2048#32 = _ from off8n c 1)) $$ Hl2
  iintro Hl2
  iapply (gread c 1 4) $$ Hg1
  iintro %_ Hg1
  iapply (gstore m c 1 4 (nxt c) 1 rfl) $$ Hg1
  iintro Hg1
  iapply (gcopy m K c 1 4 (nxt c) 1 (by decide) (by decide) rfl rfl (ne_opp c).2.2 (show k0_off9 c 1#32 2048#32 = _ from off9n c 1) rfl) $$ Hctx Hg1 G9
  iintro Hg1
  iapply (gwait m K c 0 4 (nxt c) 0 (by decide) rfl rfl 23 rfl) $$ Hctx Hg0 HO
  iintro ⟨HO, Hg0, O8⟩
  iapply (lread m c (nxt c) 2 (by decide) q' (show k0_off8 c 1#32 4096#32 = _ from off8n c 2)) $$ Hl2
  iintro Hl2
  iapply ret_wp
  iapply bind_wp
  rw [k0_part32_eq_skeleton]; unfold k0_part32_skel
  simp only [Prog.lift, Prog.bind_op, Prog.bind_ret]
  iapply (gread c 0 5) $$ Hg0
  iintro %_ Hg0
  iapply (gstore m c 0 5 (nxt c) 2 rfl) $$ Hg0
  iintro Hg0
  iapply (gcopy m K c 0 5 (nxt c) 2 (by decide) (by decide) rfl rfl (ne_opp c).2.2 (show k0_off9 c 1#32 4096#32 = _ from off9n c 2) rfl) $$ Hctx Hg0 G10
  iintro Hg0
  iapply (gwait m K c 1 4 (nxt c) 1 (by decide) rfl rfl 23 rfl) $$ Hctx Hg1 HO
  iintro ⟨HO, Hg1, O9⟩
  iapply (lread m c (nxt c) 3 (by decide) q' (show k0_off8 c 1#32 6144#32 = _ from off8n c 3)) $$ Hl2
  iintro Hl2
  iapply (gread c 1 5) $$ Hg1
  iintro %_ Hg1
  iapply (gstore m c 1 5 (nxt c) 3 rfl) $$ Hg1
  iintro Hg1
  iapply (gcopy m K c 1 5 (nxt c) 3 (by decide) (by decide) rfl rfl (ne_opp c).2.2 (show k0_off9 c 1#32 6144#32 = _ from off9n c 3) rfl) $$ Hctx Hg1 G11
  iintro Hg1
  iapply ret_wp
  iapply bind_wp
  rw [k0_part33_eq_skeleton]; unfold k0_part33_skel
  simp only [Prog.lift, Prog.bind_op, Prog.bind_ret]
  iapply (wait_h m K c (ks2r 0) (kd_s2r 0) (amt_s2r 0) rfl 23 (by decide) rfl) $$ Hctx P0 HO
  iintro ⟨HO, P0, D0⟩
  iapply (wait_h m K c (ks2r 1) (kd_s2r 1) (amt_s2r 1) rfl 23 (by decide) rfl) $$ Hctx P1 HO
  iintro ⟨HO, P1, D1⟩
  iapply (wait_h m K c (ks2s 0) (kd_s2s 0) (amt_s2s 0) rfl 23 (by decide) rfl) $$ Hctx P2 HO
  iintro ⟨HO, P2, D2⟩
  iapply (wait_h m K c (ks2s 1) (kd_s2s 1) (amt_s2s 1) rfl 23 (by decide) rfl) $$ Hctx P3 HO
  iintro ⟨HO, P3, D3⟩
  iapply ret_wp
  ihave HC := (pt_halves_join m c) $$ [D0 D1]
  · iframe
  iapply bind_wp
  rw [k0_part34_eq_skeleton]; unfold k0_part34_skel
  simp only [Prog.lift, Prog.bind_op, Prog.bind_ret]
  iapply (wait_a m K c (ksts 0) (kd_sts 0) (amt_sts 0) rfl 23 (by decide) rfl) $$ Hctx P4 HO
  iintro ⟨HO, P4, D4⟩
  iapply (wait_a m K c (ksts 1) (kd_sts 1) (amt_sts 1) rfl 23 (by decide) rfl) $$ Hctx P5 HO
  iintro ⟨HO, P5, D5⟩
  iapply (wait_a m K c (ksts 2) (kd_sts 2) (amt_sts 2) rfl 23 (by decide) rfl) $$ Hctx P6 HO
  iintro ⟨HO, P6, D6⟩
  ihave #Hre := (ctx_reached m K c klg) $$ Hctx
  iapply (lcopy m K c (k0_off10_eq c) rfl) $$ Hctx HC HV HT HA Hre
  iintro HL
  iapply (gwait m K c 0 5 (nxt c) 2 (by decide) rfl rfl 23 rfl) $$ Hctx Hg0 HO
  iintro ⟨HO, Hg0, O10⟩
  iapply ret_wp
  simp only [Prog.lift, Prog.bind_op, Prog.bind_ret]
  iapply (gwait m K c 1 5 (nxt c) 3 (by decide) rfl rfl 23 rfl) $$ Hctx Hg1 HO
  iintro ⟨HO, Hg1, O11⟩
  iapply (wait_l m K c 23 rfl) $$ Hctx HL HO
  iintro ⟨HO, HL, D7⟩
  iapply ret_wp
  iapply Hk
  unfold outC gouts lgs
  iframe

end Stage

end Cert.K
-- ==== Proof.BodyB.lean ====
/-
The third stage of the first kernel: statistics exchanged, second hops, waits.
-/
module

public import proofs.«01_k».proof.Proof.BodyC

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Eight things side by side. -/
theorem eight (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A separating conjunction over four. -/
theorem four (Φ : Fin 4 → sProp (MT nD τ sig Unit (Elt F) ℕ UU ℕ)) :
    bigSep Finset.univ Φ = iprop(Φ 0 ∗ Φ 1 ∗ Φ 2 ∗ Φ 3) :=
  bigSep_univ_eq_bigSepL [0, 1, 2, 3] (by decide) (by decide) Φ

section Bundles
variable (c : Dev nD)

/-- What a statistics transfer from slot to slot takes, beside its source. -/
def needA (a : Fin 3) (n : Dev nD) : sProp 𝕄 := iprop(landAt n (kstr a) ∗ dutyTok ER (cell c (ksts a)) 0 false ∗ dutyTok ER (cell n (kstr a)) 0 false ∗ atPos ER (cell c (ksts a)) 0 ∅ 0)
/-- What a second hop takes, beside its source. -/
def needH (a : Fin 2) (n : Dev nD) : sProp 𝕄 := iprop(landAt n (ks2r a) ∗ dutyTok ER (cell c (ks2s a)) 0 false ∗ dutyTok ER (cell n (ks2r a)) 0 false ∗ atPos ER (cell c (ks2s a)) 0 ∅ 0)
/-- Eight transfers of one kind under way. -/
def pends (k : Fin 8 → Fin 47) : sProp 𝕄 := iprop(pend c (k 0) ∗ pend c (k 1) ∗ pend c (k 2) ∗ pend c (k 3) ∗ pend c (k 4) ∗ pend c (k 5) ∗ pend c (k 6) ∗ pend c (k 7))
/-- Eight transfers of one kind done. -/
def fins (k : Fin 8 → Fin 47) : sProp 𝕄 := iprop(fin c (k 0) ∗ fin c (k 1) ∗ fin c (k 2) ∗ fin c (k 3) ∗ fin c (k 4) ∗ fin c (k 5) ∗ fin c (k 6) ∗ fin c (k 7))
/-- What eight transfers of one kind hand over. -/
def pays (κ : Fin 8 → KD) : sProp 𝕄 := iprop(payD m c (κ 0) 0 ∗ payD m c (κ 1) 0 ∗ payD m c (κ 2) 0 ∗ payD m c (κ 3) 0 ∗ payD m c (κ 4) 0 ∗ payD m c (κ 5) 0 ∗ payD m c (κ 6) 0 ∗ payD m c (κ 7) 0)
/-- The exchange's arrivals and the statistics' arrivals, awaited. -/
def arriv : sProp 𝕄 := iprop(pends c krR ∗ pends c krL ∗ (pend c (kstr 0) ∗ pend c (kstr 1) ∗ pend c (kstr 2)) ∗ pend c (ks2r 0) ∗ pend c (ks2r 1))
/-- What the third stage sends. -/
def needB : sProp 𝕄 := iprop((needA c 0 (nxt c) ∗ needA c 1 (prv c) ∗ needA c 2 (nxt c)) ∗ needH c 0 (nxt c) ∗ needH c 1 (prv c))
/-- What the last stage needs of its own. -/
def needC : sProp 𝕄 := iprop((∃ f, ptS c cc0_stg2_0 Finset.univ fullShare f) ∗ gfree c 0 0 ∗ gfree c 1 0 ∗ gks c ∗ lneed c)
/-- The statistics' slots at the end, but for the shares that come back with the transfers. -/
def slots : sProp 𝕄 := iprop(ptS c cc0_scratch2 (slotA 0) qK (SB m c) ∗ (ptS c cc0_scratch2 (slotA 1) qR (SB m c) ∗ ptS c cc0_scratch2 (slotA 1) qK (SB m c))
  ∗ ptS c cc0_scratch2 (slotA 2) fullShare (SB m c) ∗ ptS c cc0_scratch2 (slotA 3) fullShare (SB m c))
/-- What the third and last stages leave. -/
def outB : sProp 𝕄 := iprop(outC m c qK fullShare.right ∗ ptS c cc0_stg1_0 Finset.univ fullShare (Mout m c)
  ∗ (fins c krR ∗ fins c krL ∗ fins c ksR ∗ fins c ksL ∗ fin c (kstr 0) ∗ fin c (kstr 1) ∗ fin c (kstr 2))
  ∗ (pays m c .sR ∗ pays m c .sL) ∗ (ptS c cc0_scratch0 (halfS (prv c).val 1) qR (LG m) ∗ ptS c cc0_scratch0 (halfS (nxt c).val 0) qR (LG m)) ∗ slots m c)
end Bundles

/-- Tiles received from the device before. -/
theorem gather_rR (c : Dev nD) : (pays m c .rR : sProp 𝕄) ⊢ iprop(ptS c cc0_scratch0 (halfS (prv c).val 0) qR (LG m) ∗ ptS c cc0_scratch0 (halfS (prv c).val 1) qR (LG m)
    ∗ ptS c cc0_scratch0 (colsS (prv c).val) fullShare.right (LG m)) := by
  have h : (pays m c .rR : sProp 𝕄) ⊢ ptS c cc0_scratch0 (colsS (prv c).val) fullShare (LG m) := by
    rw [pt_tiles c fullShare (prv c).val (LG m), eight]
    unfold pays payD
    exact .rfl
  refine h.trans ((pointsTo_share (PosShare.mem_left_op_right fullShare)).1.trans ?_)
  iintro ⟨H1, H2⟩
  have hh : (ptS c cc0_scratch0 (colsS (prv c).val) qR (LG m) : sProp 𝕄) ⊢ iprop(ptS c cc0_scratch0 (halfS (prv c).val 0) qR (LG m) ∗ ptS c cc0_scratch0 (halfS (prv c).val 1) qR (LG m)) :=
    Entails.of_eq ((pt_halves c qR (prv c).val (LG m)).trans (bigSep_fin_two _))
  ihave H1 := hh $$ H1
  icases H1 with ⟨H0, H1⟩
  isplitl [H0]; · iexact H0
  isplitl [H1]; · iexact H1
  iexact H2
/-- Tiles received from the device after. -/
theorem gather_rL (c : Dev nD) : (pays m c .rL : sProp 𝕄) ⊢ iprop(ptS c cc0_scratch0 (halfS (nxt c).val 0) qR (LG m) ∗ ptS c cc0_scratch0 (halfS (nxt c).val 1) qR (LG m)
    ∗ ptS c cc0_scratch0 (colsS (nxt c).val) fullShare.right (LG m)) := by
  have h : (pays m c .rL : sProp 𝕄) ⊢ ptS c cc0_scratch0 (colsS (nxt c).val) fullShare (LG m) := by
    rw [pt_tiles c fullShare (nxt c).val (LG m), eight]
    unfold pays payD
    exact .rfl
  refine h.trans ((pointsTo_share (PosShare.mem_left_op_right fullShare)).1.trans ?_)
  iintro ⟨H1, H2⟩
  have hh : (ptS c cc0_scratch0 (colsS (nxt c).val) qR (LG m) : sProp 𝕄) ⊢ iprop(ptS c cc0_scratch0 (halfS (nxt c).val 0) qR (LG m) ∗ ptS c cc0_scratch0 (halfS (nxt c).val 1) qR (LG m)) :=
    Entails.of_eq ((pt_halves c qR (nxt c).val (LG m)).trans (bigSep_fin_two _))
  ihave H1 := hh $$ H1
  icases H1 with ⟨H0, H1⟩
  isplitl [H0]; · iexact H0
  isplitl [H1]; · iexact H1
  iexact H2
/-- Statistics received. -/
theorem str_slot (c : Dev nD) (a : Fin 3) (s : ℕ) (hs : s = a.val + 1) : (payD m c (.str a) 0 : sProp 𝕄) ⊢ ptS c cc0_scratch2 (slotA s) fullShare (SB m c) := by
  subst hs
  unfold payD; exact .rfl

section Stage
variable (K : GSem nD τ sig → ℕ) (c : Dev nD) {Q : PUnit → sProp (MT nD τ sig Unit (Elt F) ℕ UU ℕ)}

set_option maxHeartbeats 3200000 in
/-- The third stage of the body. -/
theorem stageB (v2 v4 v6 : BitVec 32) :
    (ctx m K c : sProp 𝕄) ⊢ owesE c 18 -∗ ptS c cc0_scratch0 (colsS c.val) qK (LG m) -∗ pends c ksR -∗ pends c ksL -∗ arriv c -∗ needB c -∗ needC c
      -∗ ptS c cc0_scratch2 (slotA 0) fullShare (SB m c) -∗ (∃ f, ptS c cc0_stg1_0 Finset.univ fullShare f)
      -∗ (outB m c -∗ Q ⟨⟩) -∗ WP c (restB c v2 v4 v6) Q := by
  unfold needB needC arriv pends needA needH
  iintro #Hctx HO Hown ⟨S0, S1, S2, S3, S4, S5, S6, S7⟩ ⟨T0, T1, T2, T3, T4, T5, T6, T7⟩ ⟨⟨R0, R1, R2, R3, R4, R5, R6, R7⟩, ⟨L0, L1, L2, L3, L4, L5, L6, L7⟩, ⟨A0, A1, A2⟩, B0, B1⟩ ⟨⟨⟨X0, X1, X2, X3⟩, ⟨Y0, Y1, Y2, Y3⟩, ⟨Z0, Z1, Z2, Z3⟩⟩, ⟨U0, U1, U2, U3⟩, ⟨V0, V1, V2, V3⟩⟩ ⟨Hr, Hg0, Hg1, HG, HL⟩ Hs0 Hm Hk
  unfold restB
  ihave Hs0 := (pt_three c cc0_scratch2 (slotA 0) (SB m c)).1 $$ Hs0
  icases Hs0 with ⟨Hs0R, Hs0L, Hs0⟩
  iapply bind_wp
  rw [k0_part15_eq_skeleton]; unfold k0_part15_skel
  simp only [Prog.lift, Prog.bind_op, Prog.bind_ret]
  iapply (send_A m K c (nxt c) 0 0 (by decide) (prv_nxt c) qR rfl rfl 18 rfl rfl rfl (Fin.ext (k0_dev19_eq c)) rfl rfl) $$ Hctx Hs0R X0 HO X1 X2
  iintro ⟨X0, HO⟩
  iapply (send_A m K c (prv c) 1 0 (by decide) (nxt_prv c) qL rfl rfl 19 rfl rfl rfl (Fin.ext (k0_dev20_eq c)) rfl rfl) $$ Hctx Hs0L Y0 HO Y1 Y2
  iintro ⟨Y0, HO⟩
  iapply (wait_t m K c (krR 0) (kd_rR 0) (amt_rR 0) rfl 20 (by decide) rfl) $$ Hctx R0 HO
  iintro ⟨HO, FR0, DR0⟩
  iapply ret_wp
  iapply bind_wp
  rw [k0_part16_eq_skeleton]; unfold k0_part16_skel
  simp only [Prog.lift, Prog.bind_op, Prog.bind_ret]
  iapply (wait_t m K c (krR 1) (kd_rR 1) (amt_rR 1) rfl 20 (by decide) rfl) $$ Hctx R1 HO
  iintro ⟨HO, FR1, DR1⟩
  iapply (wait_t m K c (krR 2) (kd_rR 2) (amt_rR 2) rfl 20 (by decide) rfl) $$ Hctx R2 HO
  iintro ⟨HO, FR2, DR2⟩
  iapply (wait_t m K c (krR 3) (kd_rR 3) (amt_rR 3) rfl 20 (by decide) rfl) $$ Hctx R3 HO
  iintro ⟨HO, FR3, DR3⟩
  iapply (wait_t m K c (krR 4) (kd_rR 4) (amt_rR 4) rfl 20 (by decide) rfl) $$ Hctx R4 HO
  iintro ⟨HO, FR4, DR4⟩
  iapply (wait_t m K c (krR 5) (kd_rR 5) (amt_rR 5) rfl 20 (by decide) rfl) $$ Hctx R5 HO
  iintro ⟨HO, FR5, DR5⟩
  iapply ret_wp
  iapply bind_wp
  rw [k0_part17_eq_skeleton]; unfold k0_part17_skel
  simp only [Prog.lift, Prog.bind_op, Prog.bind_ret]
  iapply (wait_t m K c (krR 6) (kd_rR 6) (amt_rR 6) rfl 20 (by decide) rfl) $$ Hctx R6 HO
  iintro ⟨HO, FR6, DR6⟩
  iapply (wait_t m K c (krR 7) (kd_rR 7) (amt_rR 7) rfl 20 (by decide) rfl) $$ Hctx R7 HO
  iintro ⟨HO, FR7, DR7⟩
  iapply (wait_a m K c (kstr 0) (kd_str 0) (amt_str 0) rfl 20 (by decide) rfl) $$ Hctx A0 HO
  iintro ⟨HO, FA0, DA0⟩
  ihave Hs1 := (str_slot m c 0 1 rfl) $$ DA0
  ihave Hs1 := (pt_three c cc0_scratch2 (slotA 1) (SB m c)).1 $$ Hs1
  icases Hs1 with ⟨Hs1R, Hs1L, Hs1⟩
  ihave HP := (gather_rR m c) $$ [DR0 DR1 DR2 DR3 DR4 DR5 DR6 DR7]
  · unfold pays; iframe
  icases HP with ⟨HP0, HP1, HP⟩
  iapply ret_wp
  iapply bind_wp
  rw [k0_part18_eq_skeleton]; unfold k0_part18_skel
  simp only [Prog.lift, Prog.bind_op, Prog.bind_ret]
  iapply (send_A m K c (nxt c) 2 1 (by decide) (opp_nxt c) qL rfl rfl 20 rfl rfl rfl (Fin.ext (k0_dev21_eq c)) rfl rfl) $$ Hctx Hs1L Z0 HO Z1 Z2
  iintro ⟨Z0, HO⟩
  iapply (send_R2 m K c 21 rfl (k0_off4_eq c) (Fin.ext (k0_dev22_eq c)) rfl rfl) $$ Hctx HP0 U0 HO U1 U2
  iintro ⟨U0, HO⟩
  iapply (wait_t m K c (krL 0) (kd_rL 0) (amt_rL 0) rfl 22 (by decide) rfl) $$ Hctx L0 HO
  iintro ⟨HO, FL0, DL0⟩
  iapply (wait_t m K c (krL 1) (kd_rL 1) (amt_rL 1) rfl 22 (by decide) rfl) $$ Hctx L1 HO
  iintro ⟨HO, FL1, DL1⟩
  iapply ret_wp
  iapply bind_wp
  rw [k0_part19_eq_skeleton]; unfold k0_part19_skel
  simp only [Prog.lift, Prog.bind_op, Prog.bind_ret]
  iapply (wait_t m K c (krL 2) (kd_rL 2) (amt_rL 2) rfl 22 (by decide) rfl) $$ Hctx L2 HO
  iintro ⟨HO, FL2, DL2⟩
  iapply (wait_t m K c (krL 3) (kd_rL 3) (amt_rL 3) rfl 22 (by decide) rfl) $$ Hctx L3 HO
  iintro ⟨HO, FL3, DL3⟩
  iapply (wait_t m K c (krL 4) (kd_rL 4) (amt_rL 4) rfl 22 (by decide) rfl) $$ Hctx L4 HO
  iintro ⟨HO, FL4, DL4⟩
  iapply (wait_t m K c (krL 5) (kd_rL 5) (amt_rL 5) rfl 22 (by decide) rfl) $$ Hctx L5 HO
  iintro ⟨HO, FL5, DL5⟩
  iapply (wait_t m K c (krL 6) (kd_rL 6) (amt_rL 6) rfl 22 (by decide) rfl) $$ Hctx L6 HO
  iintro ⟨HO, FL6, DL6⟩
  iapply ret_wp
  iapply bind_wp
  rw [k0_part20_eq_skeleton]; unfold k0_part20_skel
  simp only [Prog.lift, Prog.bind_op, Prog.bind_ret]
  iapply (wait_t m K c (krL 7) (kd_rL 7) (amt_rL 7) rfl 22 (by decide) rfl) $$ Hctx L7 HO
  iintro ⟨HO, FL7, DL7⟩
  ihave HN := (gather_rL m c) $$ [DL0 DL1 DL2 DL3 DL4 DL5 DL6 DL7]
  · unfold pays; iframe
  icases HN with ⟨HN0, HN1, HN⟩
  iapply (send_L2 m K c 22 rfl (k0_off5_eq c) (Fin.ext (k0_dev23_eq c)) rfl rfl) $$ Hctx HN1 V0 HO V1 V2
  iintro ⟨V0, HO⟩
  iapply (wait_t m K c (ksR 0) (kd_sR 0) (amt_sR 0) rfl 23 (by decide) rfl) $$ Hctx S0 HO
  iintro ⟨HO, FS0, DS0⟩
  iapply (wait_t m K c (ksL 0) (kd_sL 0) (amt_sL 0) rfl 23 (by decide) rfl) $$ Hctx T0 HO
  iintro ⟨HO, FT0, DT0⟩
  iapply (wait_t m K c (ksR 1) (kd_sR 1) (amt_sR 1) rfl 23 (by decide) rfl) $$ Hctx S1 HO
  iintro ⟨HO, FS1, DS1⟩
  iapply ret_wp
  iapply bind_wp
  rw [k0_part21_eq_skeleton]; unfold k0_part21_skel
  simp only [Prog.lift, Prog.bind_op, Prog.bind_ret]
  iapply (wait_t m K c (ksL 1) (kd_sL 1) (amt_sL 1) rfl 23 (by decide) rfl) $$ Hctx T1 HO
  iintro ⟨HO, FT1, DT1⟩
  iapply (wait_t m K c (ksR 2) (kd_sR 2) (amt_sR 2) rfl 23 (by decide) rfl) $$ Hctx S2 HO
  iintro ⟨HO, FS2, DS2⟩
  iapply (wait_t m K c (ksL 2) (kd_sL 2) (amt_sL 2) rfl 23 (by decide) rfl) $$ Hctx T2 HO
  iintro ⟨HO, FT2, DT2⟩
  iapply (wait_t m K c (ksR 3) (kd_sR 3) (amt_sR 3) rfl 23 (by decide) rfl) $$ Hctx S3 HO
  iintro ⟨HO, FS3, DS3⟩
  iapply (wait_t m K c (ksL 3) (kd_sL 3) (amt_sL 3) rfl 23 (by decide) rfl) $$ Hctx T3 HO
  iintro ⟨HO, FT3, DT3⟩
  iapply (wait_t m K c (ksR 4) (kd_sR 4) (amt_sR 4) rfl 23 (by decide) rfl) $$ Hctx S4 HO
  iintro ⟨HO, FS4, DS4⟩
  iapply ret_wp
  iapply bind_wp
  rw [k0_part22_eq_skeleton]; unfold k0_part22_skel
  simp only [Prog.lift, Prog.bind_op, Prog.bind_ret]
  iapply (wait_t m K c (ksL 4) (kd_sL 4) (amt_sL 4) rfl 23 (by decide) rfl) $$ Hctx T4 HO
  iintro ⟨HO, FT4, DT4⟩
  iapply (wait_t m K c (ksR 5) (kd_sR 5) (amt_sR 5) rfl 23 (by decide) rfl) $$ Hctx S5 HO
  iintro ⟨HO, FS5, DS5⟩
  iapply (wait_t m K c (ksL 5) (kd_sL 5) (amt_sL 5) rfl 23 (by decide) rfl) $$ Hctx T5 HO
  iintro ⟨HO, FT5, DT5⟩
  iapply (wait_t m K c (ksR 6) (kd_sR 6) (amt_sR 6) rfl 23 (by decide) rfl) $$ Hctx S6 HO
  iintro ⟨HO, FS6, DS6⟩
  iapply (wait_t m K c (ksL 6) (kd_sL 6) (amt_sL 6) rfl 23 (by decide) rfl) $$ Hctx T6 HO
  iintro ⟨HO, FT6, DT6⟩
  iapply (wait_t m K c (ksR 7) (kd_sR 7) (amt_sR 7) rfl 23 (by decide) rfl) $$ Hctx S7 HO
  iintro ⟨HO, FS7, DS7⟩
  iapply ret_wp
  iapply bind_wp
  rw [k0_part23_eq_skeleton]; unfold k0_part23_skel
  simp only [Prog.lift, Prog.bind_op, Prog.bind_ret]
  iapply (wait_t m K c (ksL 7) (kd_sL 7) (amt_sL 7) rfl 23 (by decide) rfl) $$ Hctx T7 HO
  iintro ⟨HO, FT7, DT7⟩
  iapply (wait_a m K c (kstr 1) (kd_str 1) (amt_str 1) rfl 23 (by decide) rfl) $$ Hctx A1 HO
  iintro ⟨HO, FA1, DA1⟩
  iapply (wait_a m K c (kstr 2) (kd_str 2) (amt_str 2) rfl 23 (by decide) rfl) $$ Hctx A2 HO
  iintro ⟨HO, FA2, DA2⟩
  ihave Hs2 := (str_slot m c 1 2 rfl) $$ DA1
  ihave Hs3 := (str_slot m c 2 3 rfl) $$ DA2
  iapply (aread m c 0 0 (by decide) (by decide) qK) $$ Hs0
  iintro Hs0
  iapply (aread m c 1 0 (by decide) (by decide) qK) $$ Hs1
  iintro Hs1
  iapply ret_wp
  iapply bind_wp
  rw [k0_part24_eq_skeleton]; unfold k0_part24_skel
  simp only [Prog.lift, Prog.bind_op, Prog.bind_ret]
  iapply (aread m c 2 0 (by decide) (by decide) fullShare) $$ Hs2
  iintro Hs2
  iapply (aread m c 3 0 (by decide) (by decide) fullShare) $$ Hs3
  iintro Hs3
  iapply (aread m c 0 4 (by decide) (by decide) qK) $$ Hs0
  iintro Hs0
  iapply (aread m c 1 4 (by decide) (by decide) qK) $$ Hs1
  iintro Hs1
  iapply (aread m c 2 4 (by decide) (by decide) fullShare) $$ Hs2
  iintro Hs2
  iapply (aread m c 3 4 (by decide) (by decide) fullShare) $$ Hs3
  iintro Hs3
  iapply (mread c) $$ Hm
  iintro %_ Hm
  iapply (mstore c (w := Mout m c)) $$ Hm
  iintro Hm
  iapply ret_wp
  iapply (stageC m K c v2 v4 v6 qK fullShare.right) $$ Hctx HO Hr [Hown HP HN] Hg0 Hg1 HG [B0 B1 U0 U3 V0 V3 X0 X3 Y0 Y3 Z0 Z3] HL
  · unfold lgs; iframe
  · unfold tails pend
    rw [kd_s2s 0, kd_s2s 1, kd_sts 0, kd_sts 1, kd_sts 2]
    iframe
  iintro HC
  iapply Hk
  unfold outB pays fins slots
  iframe

end Stage

end Cert.K
-- ==== Proof.BodyA.lean ====
/-
The second stage of the first kernel: the last tiles, and the sums of exponentials.
-/
module

public import proofs.«01_k».proof.Proof.BodyB

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Bundles
variable (c : Dev nD)
/-- The column blocks of the weights, as they come back. -/
def wcols : sProp 𝕄 := iprop(ptS c main_arg1 (colW 0) fullShare (win m c) ∗ ptS c main_arg1 (colW 1) fullShare (win m c) ∗ ptS c main_arg1 (colW 2) fullShare (win m c) ∗ ptS c main_arg1 (colW 3) fullShare (win m c)
  ∗ ptS c main_arg1 (colW 4) fullShare (win m c) ∗ ptS c main_arg1 (colW 5) fullShare (win m c) ∗ ptS c main_arg1 (colW 6) fullShare (win m c) ∗ ptS c main_arg1 (colW 7) fullShare (win m c))
/-- What the body's second stage and those after it leave. -/
def outA : sProp 𝕄 := iprop(outB m c ∗ wcols m c ∗ wfree c 0 4 ∗ wfree c 1 4)
/-- What the stages from the third on need, beside the tiles. -/
def needS : sProp 𝕄 := iprop(arriv c ∗ needB c ∗ needC c ∗ (∃ f, ptS c cc0_scratch2 (slotA 0) fullShare f) ∗ (∃ f, ptS c cc0_stg1_0 Finset.univ fullShare f))
/-- The tiles where the second stage begins. -/
def tilesA : sProp 𝕄 := iprop(tl3 m c 0 ∗ tl3 m c 1 ∗ tl3 m c 2 ∗ tl1 m c 3 ∗ tl0 c 4 ∗ tl0 c 5 ∗ tl0 c 6 ∗ tl0 c 7)
/-- The weights' column blocks where the second stage begins. -/
def wA : sProp 𝕄 := iprop((wpend c 0 2 ∗ wfree c 1 2) ∗ (wk m c 1 2 5 ∗ wk m c 0 3 6 ∗ wk m c 1 3 7)
  ∗ ptS c main_arg1 (colW 0) fullShare (win m c) ∗ ptS c main_arg1 (colW 1) fullShare (win m c) ∗ ptS c main_arg1 (colW 2) fullShare (win m c) ∗ ptS c main_arg1 (colW 3) fullShare (win m c))
/-- Places on the neighbours for the tiles from the fourth on. -/
def landsA : sProp 𝕄 := iprop((landAt (nxt c) (krR 3) ∗ landAt (nxt c) (krR 4) ∗ landAt (nxt c) (krR 5) ∗ landAt (nxt c) (krR 6) ∗ landAt (nxt c) (krR 7))
  ∗ (landAt (prv c) (krL 3) ∗ landAt (prv c) (krL 4) ∗ landAt (prv c) (krL 5) ∗ landAt (prv c) (krL 6) ∗ landAt (prv c) (krL 7)))
end Bundles

section Stage
variable (K : GSem nD τ sig → ℕ) (c : Dev nD) {Q : PUnit → sProp (MT nD τ sig Unit (Elt F) ℕ UU ℕ)}

/-- The loop that sums the exponentials of the device's own logits. -/
theorem sumloop (v2 v4 v6 v416 : BitVec 32) (v409 : FVec F S512x1 .f32) (hv : v409 = mloc m c) {Q : FVec F S512x1 .f32 → sProp (MT nD τ sig Unit (Elt F) ℕ UU ℕ)} :
    (ptS c cc0_scratch0 (colsS c.val) qK (LG m) : sProp 𝕄) ⊢ (ptS c cc0_scratch0 (colsS c.val) qK (LG m) -∗ Q (sloc m c))
      -∗ WP c (Scf.Loop.for k0_t1_loop k0_t1_ok (k0_pay28 (F := F)) (k0_t1_body (Memref.whole cc0_stg0_0) (Memref.isWhole_whole _) (Memref.whole main_arg1) (Memref.isWhole_whole _) (Memref.whole main_v1_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 c v2 v4 v6 v409 v416)) Q := by
  subst hv
  rw [show sloc m c = srec m c 4 from rfl]
  iintro H Hk
  iapply (Scf.wp_for (M := 𝕄) _ _ _ _ _ _ _ _ _ (fun k acc => iprop(⌜acc = srec m c k⌝ ∗ ptS c cc0_scratch0 (colsS c.val) qK (LG m))) ?_)
  · intro k acc
    have hk : k.val < 4 := Nat.lt_of_lt_of_le k.isLt k0_t1_abs.2.1
    iintro ⟨%he, H⟩
    subst he
    unfold k0_t1_body
    simp only [Prog.lift, Prog.bind_op, Prog.bind_ret]
    iapply (lread m c c k.val hk qK (k0_off3_eq c k)) $$ H
    iintro H
    iapply ret_wp
    isplitr
    · ipureintro; rfl
    · iexact H
  isplitl [H]
  · isplitr
    · ipureintro; rfl
    · iexact H
  iintro %acc ⟨%he, H⟩
  rw [show Scf.trips k0_t1_loop.lb k0_t1_loop.ub k0_t1_loop.st = 4 from by decide +kernel] at he
  subst he
  ihave Hk := Hk $$ H
  iexact Hk

/-- The device's own tiles, what is kept of them, are its whole column range. -/
theorem own_cols (c : Dev nD) : iprop(ptS c cc0_scratch0 (tileS c.val (0 : Fin 8).val) qK (LG m) ∗ ptS c cc0_scratch0 (tileS c.val (1 : Fin 8).val) qK (LG m) ∗ ptS c cc0_scratch0 (tileS c.val (2 : Fin 8).val) qK (LG m) ∗ ptS c cc0_scratch0 (tileS c.val (3 : Fin 8).val) qK (LG m)
    ∗ ptS c cc0_scratch0 (tileS c.val (4 : Fin 8).val) qK (LG m) ∗ ptS c cc0_scratch0 (tileS c.val (5 : Fin 8).val) qK (LG m) ∗ ptS c cc0_scratch0 (tileS c.val (6 : Fin 8).val) qK (LG m) ∗ ptS c cc0_scratch0 (tileS c.val (7 : Fin 8).val) qK (LG m))
      ⊢ (ptS c cc0_scratch0 (colsS c.val) qK (LG m) : sProp 𝕄) := by
  rw [pt_tiles c qK c.val (LG m), eight]

set_option maxHeartbeats 3200000 in
/-- The second stage of the body. -/
theorem stageA (v2 v4 v6 : BitVec 32) :
    (ctx m K c : sProp 𝕄) ⊢ owesE c 8 -∗ tilesA m c -∗ wA m c -∗ landsA c -∗ needS c
      -∗ (outA m c -∗ Q ⟨⟩) -∗ WP c (restA c v2 v4 v6 (xb m c) (mrec m c 3)) Q := by
  unfold tilesA wA landsA needS
  iintro #Hctx HO ⟨T0, T1, T2, T3, T4, T5, T6, T7⟩ ⟨⟨W0, W1⟩, ⟨WK5, WK6, WK7⟩, C0, C1, C2, C3⟩ ⟨⟨LR3, LR4, LR5, LR6, LR7⟩, LL3, LL4, LL5, LL6, LL7⟩ ⟨HA, HB, HC, Hst, Hm⟩ Hk
  unfold restA
  iapply bind_wp
  rw [k0_part8_eq_skeleton]; unfold k0_part8_skel
  simp only [Prog.lift, Prog.bind_op, Prog.bind_ret]
  iapply (sendR m K c 3 8 rfl (show k0_off2 c 3072#32 = _ from k0_off2_eq c 3) (Fin.ext (k0_dev9_eq c)) rfl rfl) $$ Hctx T3 LR3 HO
  iintro ⟨T3, HO⟩
  iapply (sendL m K c 3 9 rfl (show k0_off2 c 3072#32 = _ from k0_off2_eq c 3) (Fin.ext (k0_dev10_eq c)) rfl rfl) $$ Hctx T3 LL3 HO
  iintro ⟨T3, HO⟩
  iapply (wload m K c 1 2 5 (by decide) rfl rfl rfl rfl) $$ Hctx WK5 W1
  iintro W1
  iapply (wwait m K c 0 2 4 (by decide) rfl 10 rfl) $$ Hctx W0 HO
  iintro ⟨HO, W0, C4⟩
  iapply (wread m c 0 3 4) $$ W0
  iintro W0
  iapply (load_tl0 c 4 (show k0_off1 c 4096#32 = _ from k0_off1_eq c 4)) $$ T4
  iintro %_ T4
  iapply ret_wp
  iapply bind_wp
  rw [k0_part9_eq_skeleton]; unfold k0_part9_skel
  simp only [Prog.lift, Prog.bind_op, Prog.bind_ret]
  iapply (store_tl m c 4 (show k0_off1 c 4096#32 = _ from k0_off1_eq c 4) rfl) $$ T4
  iintro T4
  iapply (sendR m K c 4 10 rfl (show k0_off2 c 4096#32 = _ from k0_off2_eq c 4) (Fin.ext (k0_dev11_eq c)) rfl rfl) $$ Hctx T4 LR4 HO
  iintro ⟨T4, HO⟩
  iapply (sendL m K c 4 11 rfl (show k0_off2 c 4096#32 = _ from k0_off2_eq c 4) (Fin.ext (k0_dev12_eq c)) rfl rfl) $$ Hctx T4 LL4 HO
  iintro ⟨T4, HO⟩
  iapply ret_wp
  iapply bind_wp
  rw [k0_part10_eq_skeleton]; unfold k0_part10_skel
  simp only [Prog.lift, Prog.bind_op, Prog.bind_ret]
  iapply (wload m K c 0 3 6 (by decide) rfl rfl rfl rfl) $$ Hctx WK6 W0
  iintro W0
  iapply (wwait m K c 1 2 5 (by decide) rfl 12 rfl) $$ Hctx W1 HO
  iintro ⟨HO, W1, C5⟩
  iapply (wread m c 1 3 5) $$ W1
  iintro W1
  iapply (load_tl0 c 5 (show k0_off1 c 5120#32 = _ from k0_off1_eq c 5)) $$ T5
  iintro %_ T5
  iapply (store_tl m c 5 (show k0_off1 c 5120#32 = _ from k0_off1_eq c 5) rfl) $$ T5
  iintro T5
  iapply ret_wp
  iapply bind_wp
  rw [k0_part11_eq_skeleton]; unfold k0_part11_skel
  simp only [Prog.lift, Prog.bind_op, Prog.bind_ret]
  iapply (sendR m K c 5 12 rfl (show k0_off2 c 5120#32 = _ from k0_off2_eq c 5) (Fin.ext (k0_dev13_eq c)) rfl rfl) $$ Hctx T5 LR5 HO
  iintro ⟨T5, HO⟩
  iapply (sendL m K c 5 13 rfl (show k0_off2 c 5120#32 = _ from k0_off2_eq c 5) (Fin.ext (k0_dev14_eq c)) rfl rfl) $$ Hctx T5 LL5 HO
  iintro ⟨T5, HO⟩
  iapply (wload m K c 1 3 7 (by decide) rfl rfl rfl rfl) $$ Hctx WK7 W1
  iintro W1
  iapply (wwait m K c 0 3 6 (by decide) rfl 14 rfl) $$ Hctx W0 HO
  iintro ⟨HO, W0, C6⟩
  iapply ret_wp
  iapply bind_wp
  rw [k0_part12_eq_skeleton]; unfold k0_part12_skel
  simp only [Prog.lift, Prog.bind_op, Prog.bind_ret]
  iapply (wread m c 0 4 6) $$ W0
  iintro W0
  iapply (load_tl0 c 6 (show k0_off1 c 6144#32 = _ from k0_off1_eq c 6)) $$ T6
  iintro %_ T6
  iapply (store_tl m c 6 (show k0_off1 c 6144#32 = _ from k0_off1_eq c 6) rfl) $$ T6
  iintro T6
  iapply (sendR m K c 6 14 rfl (show k0_off2 c 6144#32 = _ from k0_off2_eq c 6) (Fin.ext (k0_dev15_eq c)) rfl rfl) $$ Hctx T6 LR6 HO
  iintro ⟨T6, HO⟩
  iapply ret_wp
  iapply bind_wp
  rw [k0_part13_eq_skeleton]; unfold k0_part13_skel
  simp only [Prog.lift, Prog.bind_op, Prog.bind_ret]
  iapply (sendL m K c 6 15 rfl (show k0_off2 c 6144#32 = _ from k0_off2_eq c 6) (Fin.ext (k0_dev16_eq c)) rfl rfl) $$ Hctx T6 LL6 HO
  iintro ⟨T6, HO⟩
  iapply (wwait m K c 1 3 7 (by decide) rfl 16 rfl) $$ Hctx W1 HO
  iintro ⟨HO, W1, C7⟩
  iapply (wread m c 1 4 7) $$ W1
  iintro W1
  iapply (load_tl0 c 7 (show k0_off1 c 7168#32 = _ from k0_off1_eq c 7)) $$ T7
  iintro %_ T7
  iapply (store_tl m c 7 (show k0_off1 c 7168#32 = _ from k0_off1_eq c 7) rfl) $$ T7
  iintro T7
  iapply ret_wp
  iapply bind_wp
  rw [k0_part14_eq_skeleton]; unfold k0_part14_skel
  simp only [Prog.lift, Prog.bind_op, Prog.bind_ret]
  iapply (sendR m K c 7 16 rfl (show k0_off2 c 7168#32 = _ from k0_off2_eq c 7) (Fin.ext (k0_dev17_eq c)) rfl rfl) $$ Hctx T7 LR7 HO
  iintro ⟨T7, HO⟩
  iapply (sendL m K c 7 17 rfl (show k0_off2 c 7168#32 = _ from k0_off2_eq c 7) (Fin.ext (k0_dev18_eq c)) rfl rfl) $$ Hctx T7 LL7 HO
  iintro ⟨T7, HO⟩
  unfold tl3
  icases T0 with ⟨T0, S0, U0⟩
  icases T1 with ⟨T1, S1, U1⟩
  icases T2 with ⟨T2, S2, U2⟩
  icases T3 with ⟨T3, S3, U3⟩
  icases T4 with ⟨T4, S4, U4⟩
  icases T5 with ⟨T5, S5, U5⟩
  icases T6 with ⟨T6, S6, U6⟩
  icases T7 with ⟨T7, S7, U7⟩
  ihave Hown := (own_cols m c) $$ [T0 T1 T2 T3 T4 T5 T6 T7]
  · iframe
  iapply bind_wp
  iapply (sumloop m c v2 v4 v6 _ _ rfl) $$ Hown
  iintro Hown
  iapply (aread0 c) $$ Hst
  iintro %_ Hst
  iapply (astore m c rfl) $$ Hst
  iintro Hst
  iapply ret_wp
  iapply (stageB m K c v2 v4 v6) $$ Hctx HO Hown [S0 S1 S2 S3 S4 S5 S6 S7] [U0 U1 U2 U3 U4 U5 U6 U7] HA HB HC Hst Hm
  · unfold pends; iframe
  · unfold pends; iframe
  iintro HB
  iapply Hk
  unfold outA wcols
  iframe

end Stage

end Cert.K
-- ==== Proof.Body1.lean ====
/-
The first stage of the first kernel: the barrier and the first four tiles.
-/
module

public import proofs.«01_k».proof.Proof.BodyA

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Bundles
variable (c : Dev nD)
/-- The barrier's signals and its wait. -/
def startB : sProp 𝕄 := iprop(cred (tallyAt (barCell c) () 2) ∗ atPos ER (barCell c) 0 ∅ 0
  ∗ (dutyTok ER (barCell (prv c)) 0 false ∗ dutyTok ER (barCell (nxt c)) 0 true) ∗ barPay (prv c) false ∗ barPay (nxt c) true)
/-- The tiles at the start. -/
def tiles0 : sProp 𝕄 := iprop(tl0 c 0 ∗ tl0 c 1 ∗ tl0 c 2 ∗ tl0 c 3 ∗ tl0 c 4 ∗ tl0 c 5 ∗ tl0 c 6 ∗ tl0 c 7)
/-- The weights' column blocks and buffer at the start. -/
def w0 : sProp 𝕄 := iprop((wfree c 0 0 ∗ wfree c 1 0) ∗ wk m c 0 0 0 ∗ wk m c 1 0 1 ∗ wk m c 0 1 2 ∗ wk m c 1 1 3 ∗ wk m c 0 2 4 ∗ wk m c 1 2 5 ∗ wk m c 0 3 6 ∗ wk m c 1 3 7)
/-- What a statistics transfer takes, beside its source and the place it lands at. -/
def tokA (a : Fin 3) (n : Dev nD) : sProp 𝕄 := iprop(dutyTok ER (cell c (ksts a)) 0 false ∗ dutyTok ER (cell n (kstr a)) 0 false ∗ atPos ER (cell c (ksts a)) 0 ∅ 0)
/-- What a second hop takes, beside its source and the place it lands at. -/
def tokH (a : Fin 2) (n : Dev nD) : sProp 𝕄 := iprop(dutyTok ER (cell c (ks2s a)) 0 false ∗ dutyTok ER (cell n (ks2r a)) 0 false ∗ atPos ER (cell c (ks2s a)) 0 ∅ 0)
/-- What the third stage sends, beside the places. -/
def tokB : sProp 𝕄 := iprop((tokA c 0 (nxt c) ∗ tokA c 1 (prv c) ∗ tokA c 2 (nxt c)) ∗ tokH c 0 (nxt c) ∗ tokH c 1 (prv c))
/-- The rest of what the body needs at the start. -/
def need0 : sProp 𝕄 := iprop(arriv c ∗ tokB c ∗ needC c ∗ (∃ f, ptS c cc0_scratch2 (slotA 0) fullShare f) ∗ (∃ f, ptS c cc0_stg1_0 Finset.univ fullShare f))
/-- What the whole body leaves. -/
def out0 : sProp 𝕄 := iprop(outA m c ∗ atPos ER (barCell c) 1 ∅ 0 ∗ ptS c cc0_stg0_0 Finset.univ fullShare (xin m c))
end Bundles

/-- Asking for the device's number yields it. -/
theorem dev_wp {c : Dev nD} {α : Type} {k : Dev nD → Prog (TpuEff nD τ sig (Elt F) Λ₀ .tc) α} {Q : α → sProp (MT nD τ sig Unit (Elt F) ℕ UU ℕ)} :
    (WP c (k c) Q : sProp 𝕄) ⊢ WP c (.op .deviceId k) Q := Entails.of_eq (wp_deviceId 𝒱₀ (c : Thread nD τ) none Set.univ).symm

section Stage
variable (K : GSem nD τ sig → ℕ) (c : Dev nD) {Q : PUnit → sProp (MT nD τ sig Unit (Elt F) ℕ UU ℕ)}

set_option maxHeartbeats 3200000 in
/-- The whole body. -/
theorem body_wp :
    (ctx m K c : sProp 𝕄) ⊢ owesE c 0 -∗ startB c -∗ tiles0 c -∗ w0 m c -∗ need0 c -∗ ptS c cc0_stg0_0 Finset.univ fullShare (xin m c)
      -∗ (out0 m c -∗ Q ⟨⟩) -∗ WP c bodyAll Q := by
  unfold startB tiles0 w0 need0 tokB tokA tokH
  iintro #Hctx HO ⟨Bc, Ba, ⟨Bt, Bt'⟩, Bp, Bp'⟩ ⟨T0, T1, T2, T3, T4, T5, T6, T7⟩ ⟨⟨W0, W1⟩, WK0, WK1, WK2, WK3, WK4, WK5, WK6, WK7⟩ ⟨HA, ⟨⟨X, Y, Z⟩, U, V⟩, HC, Hst, Hm⟩ Hx Hk
  unfold bodyAll
  iapply bind_wp
  rw [k0_part1_eq_skeleton]; unfold k0_part1_skel
  simp only [Prog.lift, Prog.bind_op, Prog.bind_ret, semSignalWord, semWaitWord]
  iapply dev_wp
  iapply (signal_step m K c (prv c) false 0 rfl (congrArg Dev.tc (Fin.ext (k0_dev1_eq c))) rfl rfl (by rw [duties_bar]; decide)) $$ Hctx HO Bt Bp
  iintro HO
  iapply (signal_step m K c (nxt c) true 1 rfl (congrArg Dev.tc (Fin.ext (k0_dev2_eq c))) rfl rfl (by rw [duties_bar]; decide)) $$ Hctx HO Bt' Bp'
  iintro HO
  iapply (barrier_step m K c rfl rfl) $$ Hctx Bc HO Ba
  iintro ⟨HO, Ba, PF, PT⟩
  unfold barPay
  rw [eight, eight]
  icases PF with ⟨⟨LR0, LR1, LR2, LR3, LR4, LR5, LR6, LR7⟩, A0, A2, B0⟩
  icases PT with ⟨⟨LL0, LL1, LL2, LL3, LL4, LL5, LL6, LL7⟩, A1, B1⟩
  iapply (wload m K c 0 0 0 (by decide) rfl rfl rfl rfl) $$ Hctx WK0 W0
  iintro W0
  iapply (xread c) $$ Hx
  iintro Hx
  iapply (wload m K c 1 0 1 (by decide) rfl rfl rfl rfl) $$ Hctx WK1 W1
  iintro W1
  iapply ret_wp
  iapply bind_wp
  rw [k0_part2_eq_skeleton]; unfold k0_part2_skel
  simp only [Prog.lift, Prog.bind_op, Prog.bind_ret]
  iapply (wwait m K c 0 0 0 (by decide) rfl 2 rfl) $$ Hctx W0 HO
  iintro ⟨HO, W0, C0⟩
  iapply (wread m c 0 1 0) $$ W0
  iintro W0
  iapply (load_tl0 c 0 (show k0_off1 c 0#32 = _ from k0_off1_eq c 0)) $$ T0
  iintro %_ T0
  iapply (store_tl m c 0 (show k0_off1 c 0#32 = _ from k0_off1_eq c 0) rfl) $$ T0
  iintro T0
  iapply ret_wp
  iapply bind_wp
  rw [k0_part3_eq_skeleton]; unfold k0_part3_skel
  simp only [Prog.lift, Prog.bind_op, Prog.bind_ret]
  iapply (sendR m K c 0 2 rfl (show k0_off2 c 0#32 = _ from k0_off2_eq c 0) (Fin.ext (k0_dev3_eq c)) rfl rfl) $$ Hctx T0 LR0 HO
  iintro ⟨T0, HO⟩
  iapply (sendL m K c 0 3 rfl (show k0_off2 c 0#32 = _ from k0_off2_eq c 0) (Fin.ext (k0_dev4_eq c)) rfl rfl) $$ Hctx T0 LL0 HO
  iintro ⟨T0, HO⟩
  iapply (wload m K c 0 1 2 (by decide) rfl rfl rfl rfl) $$ Hctx WK2 W0
  iintro W0
  iapply (wwait m K c 1 0 1 (by decide) rfl 4 rfl) $$ Hctx W1 HO
  iintro ⟨HO, W1, C1⟩
  iapply (wread m c 1 1 1) $$ W1
  iintro W1
  iapply ret_wp
  iapply bind_wp
  rw [k0_part4_eq_skeleton]; unfold k0_part4_skel
  simp only [Prog.lift, Prog.bind_op, Prog.bind_ret]
  iapply (load_tl0 c 1 (show k0_off1 c 1024#32 = _ from k0_off1_eq c 1)) $$ T1
  iintro %_ T1
  iapply (store_tl m c 1 (show k0_off1 c 1024#32 = _ from k0_off1_eq c 1) rfl) $$ T1
  iintro T1
  iapply (sendR m K c 1 4 rfl (show k0_off2 c 1024#32 = _ from k0_off2_eq c 1) (Fin.ext (k0_dev5_eq c)) rfl rfl) $$ Hctx T1 LR1 HO
  iintro ⟨T1, HO⟩
  iapply ret_wp
  iapply bind_wp
  rw [k0_part5_eq_skeleton]; unfold k0_part5_skel
  simp only [Prog.lift, Prog.bind_op, Prog.bind_ret]
  iapply (sendL m K c 1 5 rfl (show k0_off2 c 1024#32 = _ from k0_off2_eq c 1) (Fin.ext (k0_dev6_eq c)) rfl rfl) $$ Hctx T1 LL1 HO
  iintro ⟨T1, HO⟩
  iapply (wload m K c 1 1 3 (by decide) rfl rfl rfl rfl) $$ Hctx WK3 W1
  iintro W1
  iapply (wwait m K c 0 1 2 (by decide) rfl 6 rfl) $$ Hctx W0 HO
  iintro ⟨HO, W0, C2⟩
  iapply (wread m c 0 2 2) $$ W0
  iintro W0
  iapply (load_tl0 c 2 (show k0_off1 c 2048#32 = _ from k0_off1_eq c 2)) $$ T2
  iintro %_ T2
  iapply (store_tl m c 2 (show k0_off1 c 2048#32 = _ from k0_off1_eq c 2) rfl) $$ T2
  iintro T2
  iapply ret_wp
  iapply bind_wp
  rw [k0_part6_eq_skeleton]; unfold k0_part6_skel
  simp only [Prog.lift, Prog.bind_op, Prog.bind_ret]
  iapply (sendR m K c 2 6 rfl (show k0_off2 c 2048#32 = _ from k0_off2_eq c 2) (Fin.ext (k0_dev7_eq c)) rfl rfl) $$ Hctx T2 LR2 HO
  iintro ⟨T2, HO⟩
  iapply (sendL m K c 2 7 rfl (show k0_off2 c 2048#32 = _ from k0_off2_eq c 2) (Fin.ext (k0_dev8_eq c)) rfl rfl) $$ Hctx T2 LL2 HO
  iintro ⟨T2, HO⟩
  iapply (wload m K c 0 2 4 (by decide) rfl rfl rfl rfl) $$ Hctx WK4 W0
  iintro W0
  iapply ret_wp
  iapply bind_wp
  rw [k0_part7_eq_skeleton]; unfold k0_part7_skel
  simp only [Prog.lift, Prog.bind_op, Prog.bind_ret]
  iapply (wwait m K c 1 1 3 (by decide) rfl 8 rfl) $$ Hctx W1 HO
  iintro ⟨HO, W1, C3⟩
  iapply (wread m c 1 2 3) $$ W1
  iintro W1
  iapply (load_tl0 c 3 (show k0_off1 c 3072#32 = _ from k0_off1_eq c 3)) $$ T3
  iintro %_ T3
  iapply (store_tl m c 3 (show k0_off1 c 3072#32 = _ from k0_off1_eq c 3) rfl) $$ T3
  iintro T3
  iapply ret_wp
  iapply (stageA m K c) $$ Hctx HO [T0 T1 T2 T3 T4 T5 T6 T7] [W0 W1 WK5 WK6 WK7 C0 C1 C2 C3] [LR3 LR4 LR5 LR6 LR7 LL3 LL4 LL5 LL6 LL7] [HA X Y Z U V A0 A1 A2 B0 B1 HC Hst Hm]
  · unfold tilesA; iframe
  · unfold wA; iframe
  · unfold landsA; iframe
  · unfold needS needB needA needH; iframe
  iintro HB
  iapply Hk
  unfold out0
  iframe

end Stage

end Cert.K
-- ==== Proof.Asm.lean ====
/-
The first kernel's buffers, cut into the parts its body works on, and put back together.
-/
module

public import proofs.«01_k».proof.Proof.Body1

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Regrouping -/

/-- The four devices, seen from device `c`. -/
theorem ring_four (Φ : Fin 4 → sProp (MT nD τ sig Unit (Elt F) ℕ UU ℕ)) (c : Dev nD) :
    bigSep Finset.univ Φ = iprop(Φ c ∗ Φ (prv c) ∗ Φ (nxt c) ∗ Φ (opp c)) :=
  bigSep_univ_eq_bigSepL [c, prv c, nxt c, opp c] (by revert c; decide) (by revert c; decide) Φ

/-- Bracketing does not matter. -/
theorem flat (P Q R : sProp (MT nD τ sig Unit (Elt F) ℕ UU ℕ)) : iprop((P ∗ Q) ∗ R) = iprop(P ∗ Q ∗ R) := equiv_iff.mp ⟨BI.sep_assoc, BI.sep_assoc'⟩

/-- The places of a device's cells, kind by kind. -/
def kinds (Ψ : Fin 47 → sProp (MT nD τ sig Unit (Elt F) ℕ UU ℕ)) : sProp 𝕄 :=
  iprop((Ψ (kw 0) ∗ Ψ (kw 1))
    ∗ (bigSep Finset.univ fun j => Ψ (ksR j)) ∗ (bigSep Finset.univ fun j => Ψ (ksL j)) ∗ (bigSep Finset.univ fun j => Ψ (krR j)) ∗ (bigSep Finset.univ fun j => Ψ (krL j))
    ∗ (Ψ (ks2s 0) ∗ Ψ (ks2s 1)) ∗ (Ψ (ks2r 0) ∗ Ψ (ks2r 1)) ∗ (Ψ (ksts 0) ∗ Ψ (ksts 1) ∗ Ψ (ksts 2)) ∗ (Ψ (kstr 0) ∗ Ψ (kstr 1) ∗ Ψ (kstr 2))
    ∗ (Ψ (kstg 0) ∗ Ψ (kstg 1)) ∗ Ψ klg)
/-- A separating conjunction over all DMA semaphores, kind by kind. -/
theorem kinds_eq (Ψ : Fin 47 → sProp (MT nD τ sig Unit (Elt F) ℕ UU ℕ)) : bigSep Finset.univ Ψ = kinds Ψ := by
  rw [bigSep_univ_eq_bigSepL [kw 0, kw 1, ksR 0, ksR 1, ksR 2, ksR 3, ksR 4, ksR 5, ksR 6, ksR 7, ksL 0, ksL 1, ksL 2, ksL 3, ksL 4, ksL 5, ksL 6, ksL 7,
    krR 0, krR 1, krR 2, krR 3, krR 4, krR 5, krR 6, krR 7, krL 0, krL 1, krL 2, krL 3, krL 4, krL 5, krL 6, krL 7,
    ks2s 0, ks2s 1, ks2r 0, ks2r 1, ksts 0, ksts 1, ksts 2, kstr 0, kstr 1, kstr 2, kstg 0, kstg 1, klg] (by decide +kernel) (by decide +kernel) Ψ]
  unfold kinds
  rw [eight, eight, eight, eight]
  simp only [flat]
  rfl

/-! ## From whole buffers to the body's parts -/

section Parts
variable (c : Dev nD)

/-- A known value, eight times, is some value, eight times. -/
theorem any_eight {T : Type} (P : T → Fin 8 → sProp (MT nD τ sig Unit (Elt F) ℕ UU ℕ)) (x : T) :
    bigSep Finset.univ (fun j => P x j) ⊢ bigSep Finset.univ fun j => iprop(∃ y, P y j) :=
  bigSep_mono fun j _ => exists_intro (Φ := fun y => P y j) x

/-- The logits' buffer, cut into the tiles device `c` computes and the parts on which transfers land. -/
theorem comm_split : (iprop(∃ f, ptS c cc0_scratch0 Finset.univ fullShare f) : sProp 𝕄) ⊢
    iprop((bigSep Finset.univ fun j : Fin 8 => iprop(∃ f, ptS c cc0_scratch0 (tileS c.val j.val) fullShare f))
      ∗ (bigSep Finset.univ fun j : Fin 8 => landR c (.rR j)) ∗ (bigSep Finset.univ fun j : Fin 8 => landR c (.rL j))
      ∗ landR c (.s2r 0) ∗ landR c (.s2r 1)) := by
  iintro ⟨%f, H⟩
  ihave H := (Entails.of_eq ((pt_cols c fullShare f).trans (ring_four _ c))) $$ H
  icases H with ⟨H1, H2, H3, H4⟩
  isplitl [H1]
  · iapply (any_eight (fun f (j : Fin 8) => (ptS c cc0_scratch0 (tileS c.val j.val) fullShare f : sProp 𝕄)) f)
    iapply (Entails.of_eq (pt_tiles c fullShare c.val f)); iexact H1
  isplitl [H2]
  · unfold landR
    iapply (any_eight (fun f (j : Fin 8) => (ptS c cc0_scratch0 (tileS (prv c).val j.val) fullShare f : sProp 𝕄)) f)
    iapply (Entails.of_eq (pt_tiles c fullShare (prv c).val f)); iexact H2
  isplitl [H3]
  · unfold landR
    iapply (any_eight (fun f (j : Fin 8) => (ptS c cc0_scratch0 (tileS (nxt c).val j.val) fullShare f : sProp 𝕄)) f)
    iapply (Entails.of_eq (pt_tiles c fullShare (nxt c).val f)); iexact H3
  have hh : (ptS c cc0_scratch0 (colsS (opp c).val) fullShare f : sProp 𝕄) ⊢ iprop(ptS c cc0_scratch0 (halfS (opp c).val (0 : Fin 2).val) fullShare f ∗ ptS c cc0_scratch0 (halfS (opp c).val (1 : Fin 2).val) fullShare f) :=
    Entails.of_eq ((pt_halves c fullShare (opp c).val f).trans (bigSep_fin_two _))
  ihave H4 := hh $$ H4
  icases H4 with ⟨H4, H5⟩
  unfold landR
  isplitl [H4]
  · iexists f; iexact H4
  · iexists f; iexact H5

/-- The statistics' buffer, cut into the own slot and the three on which transfers land. -/
theorem stats_split : (iprop(∃ f, ptS c cc0_scratch2 Finset.univ fullShare f) : sProp 𝕄) ⊢
    iprop((∃ f, ptS c cc0_scratch2 (slotA 0) fullShare f) ∗ landR c (.str 0) ∗ landR c (.str 1) ∗ landR c (.str 2)) := by
  iintro ⟨%f, H⟩
  have hh : (ptS c cc0_scratch2 Finset.univ fullShare f : sProp 𝕄) ⊢ iprop(ptS c cc0_scratch2 (slotA (0 : Fin 4).val) fullShare f ∗ ptS c cc0_scratch2 (slotA (1 : Fin 4).val) fullShare f
      ∗ ptS c cc0_scratch2 (slotA (2 : Fin 4).val) fullShare f ∗ ptS c cc0_scratch2 (slotA (3 : Fin 4).val) fullShare f) :=
    Entails.of_eq ((pt_slotA c fullShare f).trans (four _))
  ihave H := hh $$ H
  icases H with ⟨H0, H1, H2, H3⟩
  unfold landR
  isplitl [H0]; · iexists f; iexact H0
  isplitl [H1]; · iexists f; iexact H1
  isplitl [H2]; · iexists f; iexact H2
  iexists f; iexact H3

/-- The weight buffer comes apart into its slots. -/
theorem wt_split : (iprop(∃ f, ptS c cc0_scratch1 Finset.univ fullShare f) : sProp 𝕄) ⊢
    iprop((∃ f, ptS c cc0_scratch1 (slotW (0 : Fin 2).val) fullShare f) ∗ (∃ f, ptS c cc0_scratch1 (slotW (1 : Fin 2).val) fullShare f)) := by
  iintro ⟨%f, H⟩
  have hh : (ptS c cc0_scratch1 Finset.univ fullShare f : sProp 𝕄) ⊢ iprop(ptS c cc0_scratch1 (slotW (0 : Fin 2).val) fullShare f ∗ ptS c cc0_scratch1 (slotW (1 : Fin 2).val) fullShare f) :=
    Entails.of_eq ((pt_slotW c fullShare f).trans (bigSep_fin_two _))
  ihave H := hh $$ H
  icases H with ⟨H0, H1⟩
  isplitl [H0]; · iexists f; iexact H0
  iexists f; iexact H1
/-- The staging buffer comes apart into its slots. -/
theorem stage_split : (iprop(∃ f, ptS c cc0_scratch3 Finset.univ fullShare f) : sProp 𝕄) ⊢
    iprop((∃ f, ptS c cc0_scratch3 (slotG (0 : Fin 2).val) fullShare f) ∗ (∃ f, ptS c cc0_scratch3 (slotG (1 : Fin 2).val) fullShare f)) := by
  iintro ⟨%f, H⟩
  have hh : (ptS c cc0_scratch3 Finset.univ fullShare f : sProp 𝕄) ⊢ iprop(ptS c cc0_scratch3 (slotG (0 : Fin 2).val) fullShare f ∗ ptS c cc0_scratch3 (slotG (1 : Fin 2).val) fullShare f) :=
    Entails.of_eq ((pt_slotG c fullShare f).trans (bigSep_fin_two _))
  ihave H := hh $$ H
  icases H with ⟨H0, H1⟩
  isplitl [H0]; · iexists f; iexact H0
  iexists f; iexact H1
/-- Four blocks of a column range of the first result, at contents not named. -/
def pany (d : Dev nD) : sProp 𝕄 := iprop((∃ f, ptS c main_v1_0 (ptileS d.val 0) fullShare f) ∗ (∃ f, ptS c main_v1_0 (ptileS d.val 1) fullShare f)
  ∗ (∃ f, ptS c main_v1_0 (ptileS d.val 2) fullShare f) ∗ (∃ f, ptS c main_v1_0 (ptileS d.val 3) fullShare f))
/-- A column range of the probabilities, with any contents, by its blocks. -/
theorem pany_of (d : Dev nD) (f) : (ptS c main_v1_0 (colsS d.val) fullShare f : sProp 𝕄) ⊢ pany c d := by
  iintro H
  have hh : (ptS c main_v1_0 (colsS d.val) fullShare f : sProp 𝕄) ⊢ iprop(ptS c main_v1_0 (ptileS d.val (0 : Fin 4).val) fullShare f ∗ ptS c main_v1_0 (ptileS d.val (1 : Fin 4).val) fullShare f
      ∗ ptS c main_v1_0 (ptileS d.val (2 : Fin 4).val) fullShare f ∗ ptS c main_v1_0 (ptileS d.val (3 : Fin 4).val) fullShare f) :=
    Entails.of_eq ((pt_ptilesP c fullShare d.val f).trans (four _))
  ihave H := hh $$ H
  icases H with ⟨H0, H1, H2, H3⟩
  unfold pany
  isplitl [H0]; · iexists f; iexact H0
  isplitl [H1]; · iexists f; iexact H1
  isplitl [H2]; · iexists f; iexact H2
  iexists f; iexact H3
/-- The probabilities come apart into the columns of the device, of its neighbours, and of the device across the ring. -/
theorem probs_split : (iprop(∃ f, ptS c main_v1_0 Finset.univ fullShare f) : sProp 𝕄) ⊢
    iprop((pany c c ∗ pany c (prv c) ∗ pany c (nxt c)) ∗ ∃ f, ptS c main_v1_0 (colsS (opp c).val) fullShare f) := by
  iintro ⟨%f, H⟩
  ihave H := (Entails.of_eq ((pt_colsP c fullShare f).trans (ring_four _ c))) $$ H
  icases H with ⟨H1, H2, H3, H4⟩
  isplitl [H1 H2 H3]
  · isplitl [H1]; · iapply (pany_of c c f); iexact H1
    isplitl [H2]; · iapply (pany_of c (prv c) f); iexact H2
    iapply (pany_of c (nxt c) f); iexact H3
  · iexists f; iexact H4
/-- The weights are their column blocks. -/
theorem arg_split : (ptS c main_arg1 Finset.univ fullShare (win m c) : sProp 𝕄) ⊣⊢ wcols m c := by
  have e : (ptS c main_arg1 Finset.univ fullShare (win m c) : sProp 𝕄) = wcols m c := (pt_colW c fullShare (win m c)).trans (eight _)
  rw [e]

/-! ## From the body's parts back to whole buffers -/

/-- The tiles of one kind of transfer, back: a whole column range at their share. -/
theorem sR_cols : (pays m c .sR : sProp 𝕄) ⊢ ptS c cc0_scratch0 (colsS c.val) qR (LG m) := by
  rw [pt_tiles c qR c.val (LG m), eight]
  unfold pays payD
  exact .rfl
/-- The shares of the tiles sent counter-clockwise make that share of the device's columns. -/
theorem sL_cols : (pays m c .sL : sProp 𝕄) ⊢ ptS c cc0_scratch0 (colsS c.val) qL (LG m) := by
  rw [pt_tiles c qL c.val (LG m), eight]
  unfold pays payD
  exact .rfl
/-- The shares of the halves and the share that stayed make the whole column range. -/
theorem half_cols (d : Dev nD) : iprop((ptS c cc0_scratch0 (halfS d.val 0) qR (LG m) ∗ ptS c cc0_scratch0 (halfS d.val 1) qR (LG m)) ∗ ptS c cc0_scratch0 (colsS d.val) fullShare.right (LG m)) ⊢ (ptS c cc0_scratch0 (colsS d.val) fullShare (LG m) : sProp 𝕄) := by
  iintro ⟨H, H'⟩
  iapply (pointsTo_share (PosShare.mem_left_op_right fullShare)).2
  isplitl [H]
  · have hh : iprop(ptS c cc0_scratch0 (halfS d.val 0) qR (LG m) ∗ ptS c cc0_scratch0 (halfS d.val 1) qR (LG m)) ⊢ (ptS c cc0_scratch0 (colsS d.val) qR (LG m) : sProp 𝕄) :=
      Entails.of_eq ((pt_halves c qR d.val (LG m)).trans (bigSep_fin_two _)).symm
    iapply hh; iexact H
  · iexact H'
/-- The second hops' sources, by the halves they are. -/
theorem s2s0 : (payD m c (.s2s 0) 0 : sProp 𝕄) ⊢ ptS c cc0_scratch0 (halfS (prv c).val 0) qR (LG m) := by unfold payD; exact .rfl
/-- What the second hop's other send gives back. -/
theorem s2s1 : (payD m c (.s2s 1) 0 : sProp 𝕄) ⊢ ptS c cc0_scratch0 (halfS (nxt c).val 1) qR (LG m) := by unfold payD; exact .rfl
/-- What the statistics sent clockwise give back. -/
theorem sts0 : (payD m c (.sts 0) 0 : sProp 𝕄) ⊢ ptS c cc0_scratch2 (slotA 0) qR (SB m c) := by unfold payD; exact .rfl
/-- What the statistics sent counter-clockwise give back. -/
theorem sts1 : (payD m c (.sts 1) 0 : sProp 𝕄) ⊢ ptS c cc0_scratch2 (slotA 0) qL (SB m c) := by unfold payD; exact .rfl
/-- What the statistics passed on give back. -/
theorem sts2 : (payD m c (.sts 2) 0 : sProp 𝕄) ⊢ ptS c cc0_scratch2 (slotA 1) qL (SB m c) := by unfold payD; exact .rfl
/-- What the copy of raw logits gives back: the columns across the ring of both buffers. -/
theorem lg0 : (payD m c .lg 0 : sProp 𝕄) ⊢ iprop(ptS c main_v1_0 (colsS (opp c).val) fullShare (PR m c) ∗ ptS c cc0_scratch0 (colsS (opp c).val) fullShare (LG m)) := by unfold payD; exact .rfl

/-- The four column ranges make the gathered logits. -/
theorem comm_join : (iprop(ptS c cc0_scratch0 (colsS c.val) fullShare (LG m) ∗ ptS c cc0_scratch0 (colsS (prv c).val) fullShare (LG m)
    ∗ ptS c cc0_scratch0 (colsS (nxt c).val) fullShare (LG m) ∗ ptS c cc0_scratch0 (colsS (opp c).val) fullShare (LG m)) : sProp 𝕄) ⊢ ptS c cc0_scratch0 Finset.univ fullShare (LG m) :=
  Entails.of_eq ((pt_cols c fullShare (LG m)).trans (ring_four _ c)).symm
/-- The four column ranges make the first result. -/
theorem probs_join : (iprop(ptS c main_v1_0 (colsS c.val) fullShare (PR m c) ∗ ptS c main_v1_0 (colsS (prv c).val) fullShare (PR m c)
    ∗ ptS c main_v1_0 (colsS (nxt c).val) fullShare (PR m c) ∗ ptS c main_v1_0 (colsS (opp c).val) fullShare (PR m c)) : sProp 𝕄) ⊢ ptS c main_v1_0 Finset.univ fullShare (PR m c) :=
  Entails.of_eq ((pt_colsP c fullShare (PR m c)).trans (ring_four _ c)).symm
/-- The blocks of probabilities written for a device make its column range. -/
theorem gouts_cols (d : Dev nD) : (gouts m c d : sProp 𝕄) ⊢ ptS c main_v1_0 (colsS d.val) fullShare (PR m c) :=
  Entails.of_eq ((pt_ptilesP c fullShare d.val (PR m c)).trans (four _)).symm
/-- The four slots make the statistics. -/
theorem stats_join : (iprop(ptS c cc0_scratch2 (slotA 0) fullShare (SB m c) ∗ ptS c cc0_scratch2 (slotA 1) fullShare (SB m c)
    ∗ ptS c cc0_scratch2 (slotA 2) fullShare (SB m c) ∗ ptS c cc0_scratch2 (slotA 3) fullShare (SB m c)) : sProp 𝕄) ⊢ ptS c cc0_scratch2 Finset.univ fullShare (SB m c) :=
  Entails.of_eq ((pt_slotA c fullShare (SB m c)).trans (four _)).symm

/-- Two parts that make up a buffer, at contents not named, are the whole at contents not named. -/
theorem two_join (b : Ref sig .tc) (S T : Finset b.ty.Idx) (h : Disjoint S T) (hu : S ∪ T = Finset.univ) :
    iprop((∃ f, ptS c b S fullShare f) ∗ (∃ f, ptS c b T fullShare f)) ⊢ (iprop(∃ f, ptS c b Finset.univ fullShare f) : sProp 𝕄) := by
  iintro ⟨⟨%f, H⟩, %g, H'⟩
  iexists (T.piecewise g f)
  rw [← hu]
  iapply (pointsTo_join (ℓ := (c : Thread nD τ).loc b) h)
  iframe
/-- The two slots make the weight buffer. -/
theorem wt_join : iprop((∃ f, ptS c cc0_scratch1 (slotW (0 : Fin 2).val) fullShare f) ∗ (∃ f, ptS c cc0_scratch1 (slotW (1 : Fin 2).val) fullShare f))
    ⊢ (iprop(∃ f, ptS c cc0_scratch1 Finset.univ fullShare f) : sProp 𝕄) :=
  two_join c cc0_scratch1 _ _
    (Finset.disjoint_left.mpr fun i h h' => absurd ((Finset.mem_filter.mp h).2.symm.trans (Finset.mem_filter.mp h').2) (by decide))
    (by rw [← slotW_all]; ext i; simp only [Finset.mem_union, Finset.mem_biUnion, Finset.mem_univ, true_and, Fin.exists_fin_two])
/-- The two slots make the staging buffer. -/
theorem stage_join : iprop((∃ f, ptS c cc0_scratch3 (slotG (0 : Fin 2).val) fullShare f) ∗ (∃ f, ptS c cc0_scratch3 (slotG (1 : Fin 2).val) fullShare f))
    ⊢ (iprop(∃ f, ptS c cc0_scratch3 Finset.univ fullShare f) : sProp 𝕄) :=
  two_join c cc0_scratch3 _ _
    (Finset.disjoint_left.mpr fun i h h' => absurd ((Finset.mem_filter.mp h).2.symm.trans (Finset.mem_filter.mp h').2) (by decide))
    (by rw [← slotG_all]; ext i; simp only [Finset.mem_union, Finset.mem_biUnion, Finset.mem_univ, true_and, Fin.exists_fin_two])

end Parts

/-! ## What a device brings to the kernel -/

section Bring
variable (c : Dev nD)

/-- The tokens of all the transfers on one cell. -/
def tok (k : Fin 47) : sProp 𝕄 := bigSep (Finset.range (rounds (kd k))) fun r => dutyTok ER (cell c k) r false
/-- The tokens of a cell that is used once. -/
theorem tok_one {k : Fin 47} (h : rounds (kd k) = 1) : (tok c k : sProp 𝕄) = dutyTok ER (cell c k) 0 false := by
  unfold tok; rw [h]; exact bigSep_singleton ..
/-- The tokens of a weight cell: four rounds. -/
theorem tok_w (s : Fin 2) : (tok c (kw s) : sProp 𝕄) = iprop(dutyTok ER (cell c (kw s)) 0 false ∗ dutyTok ER (cell c (kw s)) 1 false ∗ dutyTok ER (cell c (kw s)) 2 false ∗ dutyTok ER (cell c (kw s)) 3 false) := by
  unfold tok; rw [kd_w]; show bigSep (Finset.range 4) _ = _
  exact bigSep_eq_bigSepL_of_eq [0, 1, 2, 3] (by decide) (by decide) _
/-- The tokens of a staging cell: six rounds. -/
theorem tok_stg (s : Fin 2) : (tok c (kstg s) : sProp 𝕄) = iprop(dutyTok ER (cell c (kstg s)) 0 false ∗ dutyTok ER (cell c (kstg s)) 1 false ∗ dutyTok ER (cell c (kstg s)) 2 false ∗ dutyTok ER (cell c (kstg s)) 3 false
    ∗ dutyTok ER (cell c (kstg s)) 4 false ∗ dutyTok ER (cell c (kstg s)) 5 false) := by
  unfold tok; rw [kd_stg]; show bigSep (Finset.range 6) _ = _
  exact bigSep_eq_bigSepL_of_eq [0, 1, 2, 3, 4, 5] (by decide) (by decide) _

/-- Tokens of device `d`'s cells on which `d` itself pays. -/
def tokOwn (d : Dev nD) : sProp 𝕄 := iprop((tok d (kw 0) ∗ tok d (kw 1)) ∗ (bigSep Finset.univ fun j => tok d (ksR j)) ∗ (bigSep Finset.univ fun j => tok d (ksL j))
  ∗ (tok d (ks2s 0) ∗ tok d (ks2s 1)) ∗ (tok d (ksts 0) ∗ tok d (ksts 1) ∗ tok d (ksts 2)) ∗ (tok d (kstg 0) ∗ tok d (kstg 1)) ∗ tok d klg)
/-- Tokens of device `d`'s cells on which the device before `d` pays. -/
def tokN (d : Dev nD) : sProp 𝕄 := iprop((bigSep Finset.univ fun j => tok d (krR j)) ∗ tok d (kstr 0) ∗ tok d (kstr 2) ∗ tok d (ks2r 0) ∗ dutyTok ER (barCell d) 0 true)
/-- Tokens of device `d`'s cells on which the device after `d` pays. -/
def tokP (d : Dev nD) : sProp 𝕄 := iprop((bigSep Finset.univ fun j => tok d (krL j)) ∗ tok d (kstr 1) ∗ tok d (ks2r 1) ∗ dutyTok ER (barCell d) 0 false)
/-- The credit for one awaited arrival. -/
def crd (k : Fin 47) : sProp 𝕄 := cred (tallyAt (cell c k) () (amtD (kd k)))
/-- The credits for what arrives at device `c`. -/
def crds : sProp 𝕄 := iprop(cred (tallyAt (barCell c) () 2) ∗ (bigSep Finset.univ fun j => crd c (krR j)) ∗ (bigSep Finset.univ fun j => crd c (krL j))
  ∗ (crd c (kstr 0) ∗ crd c (kstr 1) ∗ crd c (kstr 2)) ∗ (crd c (ks2r 0) ∗ crd c (ks2r 1)))
/-- A cell before its first transfer. -/
def at0 (k : Fin 47) : sProp 𝕄 := atPos ER (cell c k) 0 ∅ 0
/-- The buffers the body works on, as it finds them. -/
def bufs : sProp 𝕄 := iprop((∃ f, ptS c cc0_scratch0 Finset.univ fullShare f) ∗ (∃ f, ptS c cc0_scratch1 Finset.univ fullShare f) ∗ (∃ f, ptS c cc0_scratch2 Finset.univ fullShare f)
  ∗ (∃ f, ptS c cc0_scratch3 Finset.univ fullShare f) ∗ ptS c main_arg1 Finset.univ fullShare (win m c) ∗ (∃ f, ptS c main_v1_0 Finset.univ fullShare f)
  ∗ (∃ f, ptS c cc0_stg1_0 Finset.univ fullShare f) ∗ (∃ f, ptS c cc0_stg2_0 Finset.univ fullShare f))
/-- The buffers as the body leaves them. -/
def bufs' : sProp 𝕄 := iprop((∃ f, ptS c cc0_scratch0 Finset.univ fullShare f) ∗ (∃ f, ptS c cc0_scratch1 Finset.univ fullShare f) ∗ (∃ f, ptS c cc0_scratch2 Finset.univ fullShare f)
  ∗ (∃ f, ptS c cc0_scratch3 Finset.univ fullShare f) ∗ ptS c main_arg1 Finset.univ fullShare (win m c) ∗ ptS c main_v1_0 Finset.univ fullShare (PR m c)
  ∗ ptS c cc0_stg1_0 Finset.univ fullShare (Mout m c) ∗ ptS c cc0_stg2_0 Finset.univ fullShare (Rout m c) ∗ ptS c cc0_stg0_0 Finset.univ fullShare (xin m c))

/-- A clockwise receive cell is used once. -/
theorem rounds_krR (j : Fin 8) : rounds (kd (krR j)) = 1 := by rw [kd_rR]; rfl
/-- A counter-clockwise receive cell is used once. -/
theorem rounds_krL (j : Fin 8) : rounds (kd (krL j)) = 1 := by rw [kd_rL]; rfl
/-- A clockwise send cell is used once. -/
theorem rounds_ksR (j : Fin 8) : rounds (kd (ksR j)) = 1 := by rw [kd_sR]; rfl
/-- A counter-clockwise send cell is used once. -/
theorem rounds_ksL (j : Fin 8) : rounds (kd (ksL j)) = 1 := by rw [kd_sL]; rfl
/-- A statistics receive cell is used once. -/
theorem rounds_kstr (j : Fin 3) : rounds (kd (kstr j)) = 1 := by rw [kd_str]; rfl
/-- A statistics send cell is used once. -/
theorem rounds_ksts (j : Fin 3) : rounds (kd (ksts j)) = 1 := by rw [kd_sts]; rfl
/-- A second hop's receive cell is used once. -/
theorem rounds_ks2r (j : Fin 2) : rounds (kd (ks2r j)) = 1 := by rw [kd_s2r]; rfl
/-- A second hop's send cell is used once. -/
theorem rounds_ks2s (j : Fin 2) : rounds (kd (ks2s j)) = 1 := by rw [kd_s2s]; rfl

/-- What a tile's two sends need, put together. -/
theorem tile_pre (j : Fin 8) : iprop((∃ f, ptS c cc0_scratch0 (tileS c.val j.val) fullShare f) ∗ tok c (ksR j) ∗ tok (nxt c) (krR j) ∗ at0 c (ksR j)
      ∗ tok c (ksL j) ∗ tok (prv c) (krL j) ∗ at0 c (ksL j)) ⊢ (tl0 c j : sProp 𝕄) := by
  unfold tl0 needR needL at0
  rw [tok_one c (rounds_ksR j), tok_one c (rounds_ksL j), tok_one (nxt c) (rounds_krR j), tok_one (prv c) (rounds_krL j)]
  iintro ⟨H1, H2, H3, H4, H5, H6, H7⟩
  isplitl [H1]; · iexact H1
  isplitl [H2 H3 H4]; · iframe
  iframe
/-- The own tiles with all that sending them takes. -/
theorem tiles_pre : iprop((bigSep Finset.univ fun j : Fin 8 => iprop(∃ f, ptS c cc0_scratch0 (tileS c.val j.val) fullShare f))
      ∗ (bigSep Finset.univ fun j => tok c (ksR j)) ∗ (bigSep Finset.univ fun j => tok (nxt c) (krR j)) ∗ (bigSep Finset.univ fun j => at0 c (ksR j))
      ∗ (bigSep Finset.univ fun j => tok c (ksL j)) ∗ (bigSep Finset.univ fun j => tok (prv c) (krL j)) ∗ (bigSep Finset.univ fun j => at0 c (ksL j))) ⊢ (tiles0 c : sProp 𝕄) := by
  have h : (tiles0 c : sProp 𝕄) = bigSep Finset.univ fun j : Fin 8 => tl0 c j := (eight _).symm
  rw [h]
  simp only [← bigSep_sep']
  exact bigSep_mono fun j _ => tile_pre c j
/-- Eight awaited arrivals. -/
theorem pends_pre (k : Fin 8 → Fin 47) : iprop((bigSep Finset.univ fun j => crd c (k j)) ∗ (bigSep Finset.univ fun j => at0 c (k j))) ⊢ (pends c k : sProp 𝕄) := by
  have h : (pends c k : sProp 𝕄) = bigSep Finset.univ fun j : Fin 8 => pend c (k j) := (eight (fun j => pend c (k j))).symm
  rw [h, ← bigSep_sep']
  exact .rfl
/-- What a wait needs, put together. -/
theorem pend_pre (k : Fin 47) : iprop(crd c k ∗ at0 c k) ⊢ (pend c k : sProp 𝕄) := .rfl
/-- What a transfer lands on, put together. -/
theorem landAt_of (k : Fin 47) (κ : KD) (h : kd k = κ) : iprop(reached ER (cell c k) 0 ∗ landR c κ) ⊢ (landAt c k : sProp 𝕄) := by
  subst h; unfold landAt; iintro ⟨H, H'⟩; iframe
/-- The same for eight transfers. -/
theorem lands_of (k : Fin 8 → Fin 47) (κ : Fin 8 → KD) (h : ∀ j, kd (k j) = κ j) :
    iprop((bigSep Finset.univ fun k : Fin 47 => reached ER (cell c k) 0) ∗ bigSep Finset.univ fun j => landR c (κ j)) ⊢ (bigSep Finset.univ fun j => landAt c (k j) : sProp 𝕄) := by
  iintro ⟨#H, H'⟩
  iapply (bigSep_with_persistent (fun j _ => (sep_mono_left (bigSep_at (fun k : Fin 47 => reached ER (cell c k) 0) (k j))).trans (landAt_of c (k j) (κ j) (h j))))
  isplitr
  · iexact H
  · iexact H'

/-- Device `c`'s cells are at their first rounds. -/
theorem ctx_reachs (K : GSem nD τ sig → ℕ) : ctx m K c ⊢ bigSep Finset.univ fun k : Fin 47 => reached ER (cell c k) 0 := by
  unfold ctx
  iintro ⟨-, H⟩
  iexact H

/-- What device `c` offers the device before it. -/
theorem bar_false : iprop((bigSep Finset.univ fun k : Fin 47 => reached ER (cell c k) 0) ∗ (bigSep Finset.univ fun j : Fin 8 => landR c (.rR j)) ∗ landR c (.str 0) ∗ landR c (.str 2) ∗ landR c (.s2r 0))
    ⊢ (barPay (prv c) false : sProp 𝕄) := by
  unfold barPay
  rw [nxt_prv]
  iintro ⟨#H, H1, H2, H3, H4⟩
  isplitl [H1]
  · iapply (lands_of c krR .rR kd_rR); isplitr; · iexact H
    iexact H1
  isplitl [H2]
  · iapply (landAt_of c (kstr 0) (.str 0) (kd_str 0)); isplitr; · iapply (bigSep_at (fun k : Fin 47 => reached ER (cell c k) 0) (kstr 0)); iexact H
    iexact H2
  isplitl [H3]
  · iapply (landAt_of c (kstr 2) (.str 2) (kd_str 2)); isplitr; · iapply (bigSep_at (fun k : Fin 47 => reached ER (cell c k) 0) (kstr 2)); iexact H
    iexact H3
  · iapply (landAt_of c (ks2r 0) (.s2r 0) (kd_s2r 0)); isplitr; · iapply (bigSep_at (fun k : Fin 47 => reached ER (cell c k) 0) (ks2r 0)); iexact H
    iexact H4
/-- What device `c` offers the device after it. -/
theorem bar_true : iprop((bigSep Finset.univ fun k : Fin 47 => reached ER (cell c k) 0) ∗ (bigSep Finset.univ fun j : Fin 8 => landR c (.rL j)) ∗ landR c (.str 1) ∗ landR c (.s2r 1))
    ⊢ (barPay (nxt c) true : sProp 𝕄) := by
  unfold barPay
  rw [prv_nxt]
  iintro ⟨#H, H1, H2, H4⟩
  isplitl [H1]
  · iapply (lands_of c krL .rL kd_rL); isplitr; · iexact H
    iexact H1
  isplitl [H2]
  · iapply (landAt_of c (kstr 1) (.str 1) (kd_str 1)); isplitr; · iapply (bigSep_at (fun k : Fin 47 => reached ER (cell c k) 0) (kstr 1)); iexact H
    iexact H2
  · iapply (landAt_of c (ks2r 1) (.s2r 1) (kd_s2r 1)); isplitr; · iapply (bigSep_at (fun k : Fin 47 => reached ER (cell c k) 0) (ks2r 1)); iexact H
    iexact H4

/-- The weights' blocks with their tokens. -/
theorem w_pre : iprop(wcols m c ∗ tok c (kw 0) ∗ tok c (kw 1) ∗ wfree c 0 0 ∗ wfree c 1 0) ⊢ (w0 m c : sProp 𝕄) := by
  unfold wcols w0 wk
  rw [tok_w c 0, tok_w c 1]
  iintro ⟨⟨A0, A1, A2, A3, A4, A5, A6, A7⟩, ⟨T0, T2, T4, T6⟩, ⟨T1, T3, T5, T7⟩, W0, W1⟩
  iframe
/-- The staging tokens with the blocks they write. -/
theorem g_pre : iprop((pany c c ∗ pany c (prv c) ∗ pany c (nxt c)) ∗ tok c (kstg 0) ∗ tok c (kstg 1)) ⊢ (gks c : sProp 𝕄) := by
  unfold pany gks gk
  rw [tok_stg c 0, tok_stg c 1]
  iintro ⟨⟨⟨A0, A1, A2, A3⟩, ⟨B0, B1, B2, B3⟩, ⟨C0, C1, C2, C3⟩⟩, ⟨T0, T2, T4, T6, T8, TA⟩, ⟨T1, T3, T5, T7, T9, TB⟩⟩
  isplitl [A0 T0]; · iframe
  isplitl [A1 T1]; · iframe
  isplitl [A2 T2]; · iframe
  isplitl [A3 T3]; · iframe
  isplitl [B0 T4]; · iframe
  isplitl [B1 T5]; · iframe
  isplitl [B2 T6]; · iframe
  isplitl [B3 T7]; · iframe
  isplitl [C0 T8]; · iframe
  isplitl [C1 T9]; · iframe
  isplitl [C2 TA]; · iframe
  iframe
/-- What the statistics and the second hops need, put together. -/
theorem tokB_pre : iprop((at0 c (ks2s 0) ∗ at0 c (ks2s 1)) ∗ (at0 c (ksts 0) ∗ at0 c (ksts 1) ∗ at0 c (ksts 2)) ∗ (tok c (ks2s 0) ∗ tok c (ks2s 1)) ∗ (tok c (ksts 0) ∗ tok c (ksts 1) ∗ tok c (ksts 2))
    ∗ (tok (nxt c) (kstr 0) ∗ tok (nxt c) (kstr 2) ∗ tok (nxt c) (ks2r 0)) ∗ tok (prv c) (kstr 1) ∗ tok (prv c) (ks2r 1)) ⊢ (tokB c : sProp 𝕄) := by
  unfold tokB tokA tokH at0
  rw [tok_one c (rounds_ks2s 0), tok_one c (rounds_ks2s 1), tok_one c (rounds_ksts 0), tok_one c (rounds_ksts 1), tok_one c (rounds_ksts 2), tok_one (nxt c) (rounds_kstr 0), tok_one (nxt c) (rounds_kstr 2), tok_one (nxt c) (rounds_ks2r 0), tok_one (prv c) (rounds_kstr 1), tok_one (prv c) (rounds_ks2r 1)]
  iintro ⟨⟨A0, A1⟩, ⟨B0, B1, B2⟩, ⟨C0, C1⟩, ⟨D0, D1, D2⟩, ⟨E0, E2, G0⟩, E1, G1⟩
  isplitl [B0 B1 B2 D0 D1 D2 E0 E1 E2]
  · isplitl [B0 D0 E0]; · iframe
    isplitl [B1 D1 E1]; · iframe
    iframe
  isplitl [A0 C0 G0]; · iframe
  iframe
/-- What the waits for arrivals need, put together. -/
theorem arriv_pre : iprop((bigSep Finset.univ fun j => at0 c (krR j)) ∗ (bigSep Finset.univ fun j => at0 c (krL j)) ∗ (at0 c (ks2r 0) ∗ at0 c (ks2r 1)) ∗ (at0 c (kstr 0) ∗ at0 c (kstr 1) ∗ at0 c (kstr 2))
    ∗ (bigSep Finset.univ fun j => crd c (krR j)) ∗ (bigSep Finset.univ fun j => crd c (krL j)) ∗ (crd c (kstr 0) ∗ crd c (kstr 1) ∗ crd c (kstr 2)) ∗ (crd c (ks2r 0) ∗ crd c (ks2r 1))) ⊢ (arriv c : sProp 𝕄) := by
  unfold arriv
  iintro ⟨A, B, ⟨C0, C1⟩, ⟨D0, D1, D2⟩, A', B', ⟨D0', D1', D2'⟩, C0', C1'⟩
  isplitl [A A']; · iapply (pends_pre c krR); iframe
  isplitl [B B']; · iapply (pends_pre c krL); iframe
  isplitl [D0 D0' D1 D1' D2 D2']
  · isplitl [D0 D0']; · iapply (pend_pre c (kstr 0)); iframe
    isplitl [D1 D1']; · iapply (pend_pre c (kstr 1)); iframe
    iapply (pend_pre c (kstr 2)); iframe
  isplitl [C0 C0']; · iapply (pend_pre c (ks2r 0)); iframe
  iapply (pend_pre c (ks2r 1)); iframe

/-- All the body needs, from what device `c` brings. -/
theorem body_pre (K : GSem nD τ sig → ℕ) :
    (ctx m K c : sProp 𝕄) ⊢ (bigSep Finset.univ (at0 c)) -∗ atPos ER (barCell c) 0 ∅ 0 -∗ tokOwn c -∗ tokN (nxt c) -∗ tokP (prv c) -∗ crds c -∗ bufs m c
      -∗ iprop(startB c ∗ tiles0 c ∗ w0 m c ∗ need0 c) := by
  rw [kinds_eq]
  unfold kinds tokOwn tokN tokP crds bufs
  iintro #Hctx ⟨⟨W0, W1⟩, SR, SL, RR, RL, ⟨S0, S1⟩, ⟨Q0, Q1⟩, ⟨U0, U1, U2⟩, ⟨V0, V1, V2⟩, ⟨G0, G1⟩, LGp⟩ HB
  iintro ⟨⟨TW0, TW1⟩, TSR, TSL, ⟨TS0, TS1⟩, ⟨TU0, TU1, TU2⟩, ⟨TG0, TG1⟩, TLG⟩ ⟨NR, NV0, NV2, NQ0, NB⟩ ⟨PL, PV1, PQ1, PB⟩ ⟨CB, CR, CL, ⟨CV0, CV1, CV2⟩, ⟨CQ0, CQ1⟩⟩
  iintro ⟨B0, B1, B2, B3, B4, B5, B6, B7⟩
  ihave #Hr := (ctx_reachs m c K) $$ Hctx
  ihave B0 := (comm_split c) $$ B0
  icases B0 with ⟨BT, LR, LL, LH0, LH1⟩
  ihave B2 := (stats_split c) $$ B2
  icases B2 with ⟨BS, LV0, LV1, LV2⟩
  ihave B1 := (wt_split c) $$ B1
  icases B1 with ⟨BW0, BW1⟩
  ihave B3 := (stage_split c) $$ B3
  icases B3 with ⟨BG0, BG1⟩
  ihave B4 := (arg_split m c).1 $$ B4
  ihave B5 := (probs_split c) $$ B5
  icases B5 with ⟨BP, BO⟩
  isplitl [CB HB PB NB LR LV0 LV2 LH0 LL LV1 LH1]
  · unfold startB
    isplitl [CB]; · iexact CB
    isplitl [HB]; · iexact HB
    isplitl [PB NB]; · iframe
    isplitl [LR LV0 LV2 LH0]
    · iapply (bar_false c); isplitr; · iexact Hr
      iframe
    · iapply (bar_true c); isplitr; · iexact Hr
      iframe
  isplitl [BT TSR NR SR TSL PL SL]
  · iapply (tiles_pre c); iframe
  isplitl [B4 TW0 TW1 BW0 BW1 W0 W1]
  · iapply (w_pre m c)
    isplitl [B4]; · iexact B4
    isplitl [TW0]; · iexact TW0
    isplitl [TW1]; · iexact TW1
    unfold wfree at0
    isplitl [BW0 W0]
    · isplitl [BW0]; · iexact BW0
      isplitl [W0]; · iexact W0
      iapply (bigSep_at (fun k : Fin 47 => reached ER (cell c k) 0) (kw 0)); iexact Hr
    · isplitl [BW1]; · iexact BW1
      isplitl [W1]; · iexact W1
      iapply (bigSep_at (fun k : Fin 47 => reached ER (cell c k) 0) (kw 1)); iexact Hr
  unfold need0
  isplitl [RR RL Q0 Q1 V0 V1 V2 CR CL CV0 CV1 CV2 CQ0 CQ1]
  · iapply (arriv_pre c); iframe
  isplitl [S0 S1 U0 U1 U2 TS0 TS1 TU0 TU1 TU2 NV0 NV2 NQ0 PV1 PQ1]
  · iapply (tokB_pre c); iframe
  isplitl [B7 G0 G1 BG0 BG1 BP TG0 TG1 BO TLG LGp]
  · unfold needC
    isplitl [B7]; · iexact B7
    isplitl [BG0 G0]
    · unfold gfree at0
      isplitl [BG0]; · iexact BG0
      isplitl [G0]; · iexact G0
      iapply (bigSep_at (fun k : Fin 47 => reached ER (cell c k) 0) (kstg 0)); iexact Hr
    isplitl [BG1 G1]
    · unfold gfree at0
      isplitl [BG1]; · iexact BG1
      isplitl [G1]; · iexact G1
      iapply (bigSep_at (fun k : Fin 47 => reached ER (cell c k) 0) (kstg 1)); iexact Hr
    isplitl [BP TG0 TG1]
    · iapply (g_pre c); iframe
    · ihave TLG := (Entails.of_eq (tok_one c (k := klg) rfl)) $$ TLG
      unfold lneed at0
      isplitl [BO]; · iexact BO
      iframe
  isplitl [BS]; · iexact BS
  iexact B6

/-- A weight cell after its four rounds is done. -/
theorem fin_w (s : Fin 2) : (atPos ER (cell c (kw s)) 4 ∅ 0 : sProp 𝕄) ⊢ fin c (kw s) := by unfold fin; rw [kd_w]; exact .rfl
/-- A staging cell after its six rounds is done. -/
theorem fin_stg (s : Fin 2) : (atPos ER (cell c (kstg s)) 6 ∅ 0 : sProp 𝕄) ⊢ fin c (kstg s) := by unfold fin; rw [kd_stg]; exact .rfl
/-- Eight cells after their last transfers. -/
theorem fins_all (k : Fin 8 → Fin 47) : (fins c k : sProp 𝕄) ⊢ bigSep Finset.univ fun j => fin c (k j) :=
  Entails.of_eq (eight (fun j => fin c (k j))).symm

/-- All cells done and all buffers whole, from what the body leaves. -/
theorem body_post : (out0 m c : sProp 𝕄) ⊢ iprop(bufs' m c ∗ (bigSep Finset.univ (fin c)) ∗ atPos ER (barCell c) 1 ∅ 0 ∗ owesE c 23) := by
  rw [kinds_eq]
  unfold kinds out0 outA outB outC lgs slots
  iintro ⟨⟨⟨⟨⟨HO, HR, L1, L2, L3⟩, ⟨P1, P2, P3⟩, ⟨G0, G1⟩, ⟨⟨Q0, Q1, S0, S1⟩, ⟨U0, U1, U2⟩, FL⟩, ⟨H0, H1⟩, ⟨A0, A1, A2⟩, PL⟩, HM, ⟨RR, RL, SR, SL, V0, V1, V2⟩, ⟨YR, YL⟩, ⟨K1, K0⟩, ⟨D0, ⟨D1, D1'⟩, D2, D3⟩⟩, HW, W0, W1⟩, HB, HX⟩
  ihave PL := (lg0 m c) $$ PL
  icases PL with ⟨PO, LO⟩
  ihave A0 := (sts0 m c) $$ A0
  ihave A1 := (sts1 m c) $$ A1
  ihave A2 := (sts2 m c) $$ A2
  ihave H0 := (s2s0 m c) $$ H0
  ihave H1 := (s2s1 m c) $$ H1
  ihave YR := (sR_cols m c) $$ YR
  ihave YL := (sL_cols m c) $$ YL
  unfold wfree gfree
  icases W0 with ⟨W0, FW0, -⟩
  icases W1 with ⟨W1, FW1, -⟩
  icases G0 with ⟨G0, FG0, -⟩
  icases G1 with ⟨G1, FG1, -⟩
  isplitl [L1 YR YL L2 L3 H0 H1 K0 K1 LO PO P1 P2 P3 D0 D1 D1' D2 D3 A0 A1 A2 W0 W1 G0 G1 HW HM HR HX]
  · unfold bufs'
    isplitl [L1 YR YL L2 L3 H0 H1 K0 K1 LO]
    · iexists (LG m)
      iapply (comm_join m c)
      isplitl [L1 YR YL]; · iapply (pt_three c cc0_scratch0 (colsS c.val) (LG m)).2; iframe
      isplitl [L2 H0 K1]; · iapply (half_cols m c (prv c)); iframe
      isplitl [L3 H1 K0]; · iapply (half_cols m c (nxt c)); iframe
      iexact LO
    isplitl [W0 W1]
    · iapply (wt_join c)
      isplitl [W0]; · iexact W0
      iexact W1
    isplitl [D0 D1 D1' D2 D3 A0 A1 A2]
    · iexists (SB m c)
      iapply (stats_join m c)
      isplitl [D0 A0 A1]; · iapply (pt_three c cc0_scratch2 (slotA 0) (SB m c)).2; iframe
      isplitl [D1 D1' A2]; · iapply (pt_three c cc0_scratch2 (slotA 1) (SB m c)).2; iframe
      iframe
    isplitl [G0 G1]
    · iapply (stage_join c)
      isplitl [G0]; · iexact G0
      iexact G1
    isplitl [HW]; · iapply (arg_split m c).2; iexact HW
    isplitl [PO P1 P2 P3]
    · iapply (probs_join m c)
      isplitl [P1]; · iapply (gouts_cols m c c); iexact P1
      isplitl [P2]; · iapply (gouts_cols m c (prv c)); iexact P2
      isplitl [P3]; · iapply (gouts_cols m c (nxt c)); iexact P3
      iexact PO
    iframe
  isplitl [FW0 FW1 SR SL RR RL S0 S1 Q0 Q1 U0 U1 U2 V0 V1 V2 FG0 FG1 FL]
  · isplitl [FW0 FW1]
    · isplitl [FW0]; · iapply (fin_w c 0); iexact FW0
      iapply (fin_w c 1); iexact FW1
    isplitl [SR]; · iapply (fins_all c ksR); iexact SR
    isplitl [SL]; · iapply (fins_all c ksL); iexact SL
    isplitl [RR]; · iapply (fins_all c krR); iexact RR
    isplitl [RL]; · iapply (fins_all c krL); iexact RL
    isplitl [S0 S1]; · iframe
    isplitl [Q0 Q1]; · iframe
    isplitl [U0 U1 U2]; · iframe
    isplitl [V0 V1 V2]; · iframe
    isplitl [FG0 FG1]
    · isplitl [FG0]; · iapply (fin_stg c 0); iexact FG0
      iapply (fin_stg c 1); iexact FG1
    iexact FL
  iframe
end Bring

end Cert.K
-- ==== Proof.Reg1.lean ====
/-
The second kernel, the one that finishes the block of the device farthest away and copies the others: what it leaves at
every point, and that its body does.
-/
module

public import proofs.«01_k».proof.Proof.Body1
public import proofs.«01_k».proof.Proof.Gen.KernelIdeal.Regions
public import Idealize.ShloMosaic.Lib.Pipeline.Frame
public import Idealize.ShloMosaic.Lib.Pipeline.ValueKit.Geometry

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The first column of a statistics array. -/
def scol1 (X : S512x128.Idx → Elt F .f32) : Vec F S512x1 .f32 := fun i => X (ix2 (i 0) 0)
/-- Block `n` of the buffer of probabilities. -/
def pblock (X : S512x32768.Idx → Elt F .bf16) (n : ℕ) : Vec F S512x4096 .bf16 :=
  fun i => X (ix2 (i 0) ⟨(4096 * n + (i 1).val) % 32768, Nat.mod_lt _ (by decide)⟩)

/-- What the second kernel leaves in its result buffer at block `n` on device `c`, from the probabilities `X` and the two
    statistics arrays: the block itself, or the softmax of its logits where the block belongs to the device farthest away. -/
def finB (c : Dev nD) (n : ℕ) (X : Vec F S512x4096 .bf16) (M R : S512x128.Idx → Elt F .f32) : Vec F S512x4096 .bf16 :=
  if n / 2 = (opp c).val then k1_pay2 (scol1 M) (scol1 R) X else X
/-- The result array of device `c`. -/
def FO (c : Dev nD) : S512x32768.Idx → Elt F .bf16 := fun i =>
  finB c ((i 1).val / 4096) (pblock (PR m c) ((i 1).val / 4096)) (Mout m c) (Rout m c) (ix2 (i 0) ⟨(i 1).val % 4096, Nat.mod_lt _ (by decide)⟩)

/-- The second kernel's first branch is for the blocks of the device across the ring, -/
theorem cond1_iff (t : Fin grid1.N) (d : Dev nD) : k1_cond1 (grid1.coords t) d = 1#1 ↔ t.val / 2 = (opp d).val := by
  revert t d; decide +kernel
/-- and its second for all others. -/
theorem cond2_iff (t : Fin grid1.N) (d : Dev nD) : k1_cond2 (grid1.coords t) d = 1#1 ↔ ¬ t.val / 2 = (opp d).val := by
  revert t d; decide +kernel

section Gen
variable (c : Dev nD) {α : Type} {Q : α → sProp (MT nD τ sig Unit (Elt F) ℕ UU ℕ)}

/-- A load from a memref owned. -/
theorem load_own {cs : CoreSpace} {s : Shape} {e : EltTy} (M : Memref sig .tc (.core cs) s e) {r : Rect s} (X : s.Idx → Elt F e)
    {v : r.shape.Idx → Elt F e} (hv : (fun i => X (r.emb i)) = v)
    {hl : M.view.LoadsAt r.toLoadRect} {k' : (r.shape.Idx → Elt F e) → Prog (TpuEff nD τ sig (Elt F) Λ₀ .tc) α} :
    (owns (c : Thread nD τ) M fullShare X : sProp 𝕄) ⊢ (owns (c : Thread nD τ) M fullShare X -∗ WP c (k' v) Q)
      -∗ WP c (.op (.load M r.toLoadRect hl) k') Q := by
  unfold owns
  iintro ⟨%f, %hf, H⟩ Hk
  iapply (load_at c M (r := r) (S := M.view.set) (f := f) (v := v) (View.set_slice_subset _ _) (by rw [← hv, ← hf]; rfl)) $$ H
  iintro H
  iapply Hk
  iexists f
  isplitr
  · ipureintro; exact hf
  · iexact H

/-- A store over a whole memref owned. -/
theorem store_own {cs : CoreSpace} {s : Shape} {e : EltTy} (M : Memref sig .tc (.core cs) s e) {off : Fin s.rank → ℕ} (hz : off = fun _ => 0) {inb}
    {w : s.Idx → Elt F e} {hx : (M.access (Rect.unit off s.size inb)).Stores Finset.univ} {hm}
    {k' : PUnit → Prog (TpuEff nD τ sig (Elt F) Λ₀ .tc) α} :
    (iprop(∃ X, owns (c : Thread nD τ) M fullShare X) : sProp 𝕄) ⊢ (owns (c : Thread nD τ) M fullShare w -∗ WP c (k' ⟨⟩) Q)
      -∗ WP c (.op (.store M (Rect.unit off s.size inb) w Finset.univ hx hm) k') Q := by
  subst hz
  unfold owns
  iintro ⟨%X, %f, -, H⟩ Hk
  iapply (wp_store 𝒱₀ (c : Thread nD τ) none Set.univ (m := M) (r := Rect.unit (fun _ => 0) s.size inb) (f := f) (S := M.view.set) (Mk := Finset.univ)
    ((subset_of_eq (View.setOn_univ _)).trans (View.set_slice_subset _ _))) $$ H
  iintro H
  iapply Hk
  iexists _
  isplitr
  · ipureintro
    funext i
    have h := congrFun (View.read_write_univ (v := M.access (Rect.unit (fun _ => 0) s.size inb)) f w) i
    have he : (Rect.unit (fun _ => 0) s.size inb).emb i = i := Rect.emb_whole_apply _ i
    rw [← h]
    exact congrArg (fun j => M.view.read (Elt F) ((M.access (Rect.unit (fun _ => 0) s.size inb)).write (Elt F) f w Finset.univ) j) he.symm
  · iexact H

end Gen

section Body
variable (c : Dev nD)

/-- Reading the first column of a statistics array. -/
theorem col_emb {inb} (X : S512x128.Idx → Elt F .f32) :
    (fun i : (Rect.unit (s := S512x128) ![0, 0] S512x1.size inb).shape.Idx => X ((Rect.unit (s := S512x128) ![0, 0] S512x1.size inb).emb i)) = scol1 X := by
  funext i
  refine congrArg X (funext fun a => Fin.ext ?_)
  have h := ValueKit.rect_emb_unit_val (s := S512x128) ![0, 0] S512x1.size inb i a
  refine h.trans ?_
  match a with
  | 0 => exact Nat.zero_add _
  | 1 => have := (i 1).isLt; show 0 + (i 1).val = 0; have h1 : (i 1).val < 1 := (i 1).isLt; omega
/-- Reading a whole block. -/
theorem whole_emb {inb} (X : S512x4096.Idx → Elt F .bf16) :
    (fun i : (Rect.unit (s := S512x4096) ![0, 0] S512x4096.size inb).shape.Idx => X ((Rect.unit (s := S512x4096) ![0, 0] S512x4096.size inb).emb i)) = X := by
  funext i
  refine congrArg X (funext fun a => Fin.ext ?_)
  have h := ValueKit.rect_emb_unit_val (s := S512x4096) ![0, 0] S512x4096.size inb i a
  refine h.trans ?_
  match a with
  | 0 => exact Nat.zero_add _
  | 1 => exact Nat.zero_add _

/-- A block that is copied is left as it is. -/
theorem pay1_self (X : Vec F S512x4096 .bf16) : k1_pay1 X = X := by
  unfold k1_pay1; exact shapeCast_self _ _

/-- The second kernel's body at point `t`: its result buffer ends at `finB` of its three inputs, which it leaves. -/
theorem body1_gen (t : Fin grid1.N) (a1 : Memref sig .tc .vmem S512x4096 .bf16) (h1) (a2 : Memref sig .tc .vmem S512x128 .f32) (h2)
    (a3 : Memref sig .tc .vmem S512x128 .f32) (h3) (a4 : Memref sig .tc .vmem S512x4096 .bf16) (h4)
    (X : Vec F S512x4096 .bf16) (M R : S512x128.Idx → Elt F .f32) (Y : Vec F S512x4096 .bf16) {Q : PUnit → sProp (MT nD τ sig Unit (Elt F) ℕ UU ℕ)} :
    (owns (c : Thread nD τ) a1 fullShare X : sProp 𝕄) ⊢ owns (c : Thread nD τ) a2 fullShare M -∗ owns (c : Thread nD τ) a3 fullShare R
      -∗ owns (c : Thread nD τ) a4 fullShare Y
      -∗ (owns (c : Thread nD τ) a1 fullShare X -∗ owns (c : Thread nD τ) a2 fullShare M -∗ owns (c : Thread nD τ) a3 fullShare R
        -∗ owns (c : Thread nD τ) a4 fullShare (finB c t.val X M R) -∗ Q ⟨⟩)
      -∗ WP c (cc1_body (grid1.coords t) a1 h1 a2 h2 a3 h3 a4 h4) Q := by
  rw [cc1_body_eq_skeleton]
  unfold cc1_body_skel
  rw [k1_part1_eq_skeleton]
  unfold k1_part1_skel
  iintro H1 H2 H3 H4 Hk
  iapply bind_wp
  simp only [Prog.lift, Prog.bind_op, Prog.bind_ret]
  iapply dev_wp
  by_cases hc : t.val / 2 = (opp c).val
  · rw [dif_pos ((cond1_iff t c).mpr hc)]
    iapply (load_own c a2 M (col_emb M)) $$ H2
    iintro H2
    iapply (load_own c a3 R (col_emb R)) $$ H3
    iintro H3
    iapply (load_own c a1 X (whole_emb X)) $$ H1
    iintro H1
    iapply (load_own c a4 Y (whole_emb Y)) $$ H4
    iintro H4
    iapply (store_own c a4 zero2) $$ [H4]
    · iexists Y; iexact H4
    iintro H4
    iapply ret_wp
    rw [dif_neg (fun h => (cond2_iff t c).mp h hc)]
    iapply ret_wp
    rw [show finB c t.val X M R = k1_pay2 (scol1 M) (scol1 R) X from if_pos hc]
    iapply Hk $$ H1 H2 H3 H4
  · rw [dif_neg (fun h => hc ((cond1_iff t c).mp h))]
    iapply ret_wp
    rw [dif_pos ((cond2_iff t c).mpr hc)]
    iapply (load_own c a1 X (whole_emb X)) $$ H1
    iintro H1
    iapply (load_own c a4 Y (whole_emb Y)) $$ H4
    iintro H4
    iapply (store_own c a4 zero2) $$ [H4]
    · iexists Y; iexact H4
    iintro H4
    iapply ret_wp
    rw [show finB c t.val X M R = X from if_neg hc, pay1_self]
    iapply Hk $$ H1 H2 H3 H4
end Body

/-! ## The second call's proof data -/

/-- The second call: the probabilities and the two statistics arrays come in, block `t` of the result goes out at point `t`. -/
def dat1 (c : Dev nD) : Pipeline.Dat τ (Elt F) Unit ℕ UU ℕ cfg1 c where
  A w := match w with
    | ⟨0, _⟩ => PR m c
    | ⟨1, _⟩ => Mout m c
    | ⟨2, _⟩ => Rout m c
    | ⟨3, _⟩ => m ((c : Thread nD τ).loc main_v2)
    | ⟨_ + 4, h⟩ => absurd h (Nat.not_lt.2 (Nat.le_add_left _ _))
  after w t := match w with
    | ⟨0, _⟩ => pblock (PR m c) t.val
    | ⟨1, _⟩ => Mout m c
    | ⟨2, _⟩ => Rout m c
    | ⟨3, _⟩ => finB c t.val (pblock (PR m c) t.val) (Mout m c) (Rout m c)
    | ⟨_ + 4, h⟩ => absurd h (Nat.not_lt.2 (Nat.le_add_left _ _))
  Φ _ := Pipeline.scopedRest (fun w => (win1 w).toWinSpec) c
  q _ := fullShare
  owed _ := 0

section Data
variable (c : Dev nD)

/-- At step `t` the first window is at column block `t`, -/
theorem index0 (t : Fin cfg1.N) : (cfg1.win 0).index t = ![0, t.val] := by revert t; decide +kernel
/-- and so is the result's. -/
theorem index3 (t : Fin cfg1.N) : (cfg1.win 3).index t = ![0, t.val] := by revert t; decide +kernel
/-- Before step `t` the first window holds block `t` of the first kernel's first result. -/
theorem before1_0 (t : Fin cfg1.N) (d) : (dat1 m c).before 0 t d = pblock (PR m c) t.val := by
  rw [Pipeline.Dat.before_fetched _ _ _ (fetch1_0 t)]
  unfold Pipeline.Dat.fetched Pipeline.Dat.blockOf
  funext i
  refine congrArg (PR m c) (funext fun a => Fin.ext ?_)
  blk_simp
  rw [show win1_0.index t = ![0, t.val] from index0 t]
  have ht : t.val < 8 := t.isLt
  have h1 : (i 1).val < 4096 := (i 1).isLt
  match a with
  | 0 => show 0 * 512 + (i 0).val = (i 0).val; omega
  | 1 => show t.val * 4096 + (i 1).val = (4096 * t.val + (i 1).val) % 32768; omega

/-- The window of the maxima never moves, -/
theorem index1 (t : Fin cfg1.N) : (cfg1.win 1).index t = ![0, 0] := by revert t; decide +kernel
/-- nor does that of the reciprocals. -/
theorem index2 (t : Fin cfg1.N) : (cfg1.win 2).index t = ![0, 0] := by revert t; decide +kernel
/-- Before every step the second window holds the maxima, -/
theorem before1_1 (t : Fin cfg1.N) (d) : (dat1 m c).before 1 t d = Mout m c := by
  by_cases hf : (cfg1.win 1).fetch t = true
  · rw [Pipeline.Dat.before_fetched _ _ _ hf]
    unfold Pipeline.Dat.fetched Pipeline.Dat.blockOf
    funext i
    refine congrArg (Mout m c) (funext fun a => Fin.ext ?_)
    blk_simp
    rw [show win1_1.index t = ![0, 0] from index1 t]
    match a with
    | 0 => show 0 * 512 + (i 0).val = (i 0).val; omega
    | 1 => show 0 * 128 + (i 1).val = (i 1).val; omega
  · rw [Pipeline.Dat.before_unfetched_in _ 1 rfl t (Bool.eq_false_iff.mpr hf) (fun _ => rfl)]
    rfl
/-- and the third the reciprocals. -/
theorem before1_2 (t : Fin cfg1.N) (d) : (dat1 m c).before 2 t d = Rout m c := by
  by_cases hf : (cfg1.win 2).fetch t = true
  · rw [Pipeline.Dat.before_fetched _ _ _ hf]
    unfold Pipeline.Dat.fetched Pipeline.Dat.blockOf
    funext i
    refine congrArg (Rout m c) (funext fun a => Fin.ext ?_)
    blk_simp
    rw [show win1_2.index t = ![0, 0] from index2 t]
    match a with
    | 0 => show 0 * 512 + (i 0).val = (i 0).val; omega
    | 1 => show 0 * 128 + (i 1).val = (i 1).val; omega
  · rw [Pipeline.Dat.before_unfetched_in _ 2 rfl t (Bool.eq_false_iff.mpr hf) (fun _ => rfl)]
    rfl

/-- The final result at a block is what that block's step leaves. -/
theorem FO_at (n : ℕ) (y : S512x4096.Idx) (e : S512x32768.Idx) (h0 : (e 0).val = (y 0).val) (h1 : (e 1).val = n * 4096 + (y 1).val) :
    FO m c e = finB c n (pblock (PR m c) n) (Mout m c) (Rout m c) y := by
  have hy : (y 1).val < 4096 := (y 1).isLt
  have hn : (e 1).val / 4096 = n := by omega
  have he : (ix2 (e 0) ⟨(e 1).val % 4096, Nat.mod_lt _ (by decide)⟩ : S512x4096.Idx) = y := by
    funext a
    refine Fin.ext ?_
    match a with
    | 0 => exact h0
    | 1 => show (e 1).val % 4096 = (y 1).val; omega
  unfold FO
  rw [hn, he]
/-- After the second call its result array holds `FO`. -/
theorem final1 : (dat1 m c).arrAt 3 cfg1.N = FO m c := by
  refine (dat1 m c).arrAt_eq_of_covers 3 _ (by decide +kernel) fun t hf y => ?_
  blk_simp
  refine Eq.symm (FO_at m c t.val y _ ?_ ?_)
  · blk_simp
    rw [show win1_3.index t = ![0, t.val] from index3 t]
    show 0 * 512 + (y 0).val = (y 0).val; omega
  · blk_simp
    rw [show win1_3.index t = ![0, t.val] from index3 t]
    rfl

/-- The second call's body at every point. -/
theorem body1 : Pipeline.BodyObligation (dat1 (F := F) m c) (defs₀ (F := F)) 𝒱₀ () Set.univ := fun t => by
  rw [bigSep_W1, bigSep_W1]
  iintro ⟨HΦ, HO, ⟨%d0, H0⟩, ⟨%d1, H1⟩, ⟨%d2, H2⟩, ⟨%d3, H3⟩⟩
  rw [before1_0, before1_1, before1_2]
  iapply (body1_gen c t (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
    (pblock (PR m c) t.val) (Mout m c) (Rout m c) ((dat1 m c).before 3 t d3)) $$ H0 H1 H2 H3
  iintro H0 H1 H2 H3
  isplitl [HΦ]
  · iapply (show ((dat1 m c).Φ t.castSucc : sProp 𝕄) ⊢ (dat1 m c).Φ t.succ from .rfl) $$ HΦ
  isplitl [HO]
  · iapply (show ((dat1 m c).owesAt () t.castSucc : sProp 𝕄) ⊢ (dat1 m c).owesAt () t.succ from .rfl) $$ HO
  isplitl [H0]
  · iexact H0
  isplitl [H1]
  · iexact H1
  isplitl [H2]
  · iexact H2
  iexact H3
end Data
-- ==== Proof.Reg0.lean ====
/-
The first kernel as a stretch of the program: what it needs when it starts, what its body proves, what it leaves.
-/
module

public import proofs.«01_k».proof.Proof.Asm
public import proofs.«01_k».proof.Proof.Reg1
public import Idealize.ShloMosaic.Lib.Pipeline.RegionTalk
public import Idealize.ShloMosaic.Lib.Rounds.Family

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents between the two calls -/

/-- What the two calls leave in the arrays they write. -/
def outs : Outs (F := F) := fun _ r c =>
  if h : r = main_v1_1 then h ▸ Mout m c
  else if h : r = main_v1_2 then h ▸ Rout m c
  else if h : r = main_v1_0 then h ▸ PR m c
  else if h : r = main_v2 then h ▸ FO m c
  else m ((c : Thread nD τ).loc r)
/-- The maxima are what the first kernel leaves in its second result, -/
theorem outs_m (n : ℕ) (c : Dev nD) : outs m n main_v1_1 c = Mout m c := dif_pos rfl
/-- the reciprocals in its third, -/
theorem outs_r (n : ℕ) (c : Dev nD) : outs m n main_v1_2 c = Rout m c := (dif_neg (by decide)).trans (dif_pos rfl)
/-- the probabilities in its first, -/
theorem outs_p (n : ℕ) (c : Dev nD) : outs m n main_v1_0 c = PR m c := (dif_neg (by decide)).trans ((dif_neg (by decide)).trans (dif_pos rfl))
/-- and the second kernel leaves the final result. -/
theorem outs_o (n : ℕ) (c : Dev nD) : outs m n main_v2 c = FO m c :=
  (dif_neg (by decide)).trans ((dif_neg (by decide)).trans ((dif_neg (by decide)).trans (dif_pos rfl)))

/-- Between the kernels the first result holds the probabilities, -/
theorem V1_p (c : Dev nD) : V1 m (outs m) c main_v1_0 = PR m c := by
  simp only [V1, Function.update_self]; exact outs_p m 1 c
/-- the third the reciprocals, -/
theorem V1_r (c : Dev nD) : V1 m (outs m) c main_v1_2 = Rout m c := by
  simp only [V1, Function.update_self, Function.update_of_ne (StableHlo.devRef_ne_of_ne (by decide) : (Proc.devRef .tc main_v1_2 : DevRef τ sig) ≠ Proc.devRef .tc main_v1_0)]
  exact outs_r m 1 c
/-- and the second the maxima. -/
theorem V1_m (c : Dev nD) : V1 m (outs m) c main_v1_1 = Mout m c := by
  simp only [V1, Function.update_self, Function.update_of_ne (StableHlo.devRef_ne_of_ne (by decide) : (Proc.devRef .tc main_v1_1 : DevRef τ sig) ≠ Proc.devRef .tc main_v1_0),
    Function.update_of_ne (StableHlo.devRef_ne_of_ne (by decide) : (Proc.devRef .tc main_v1_1 : DevRef τ sig) ≠ Proc.devRef .tc main_v1_2)]
  exact outs_m m 1 c
/-- At the end the result array holds the final result. -/
theorem V2_o (c : Dev nD) : V2 m (outs m) c main_v2 = FO m c := by
  simp only [V2, Function.update_self]; exact outs_o m 2 c

/-! ## The first call's proof data -/

section Call0
variable (c : Dev nD)

/-- The semaphores of the first kernel. -/
abbrev osem0 (k : Fin 47) : SemLoc sig := .dma (dsem k)

/-- What the launch keeps for the first kernel on device `c`, the credits first, its cells not yet opened. -/
def Tk : sProp 𝕄 := iprop(∃ K, recs m K ∗ (bigSep Finset.univ fun k : Fin 47 => openTok ER (cell c k)) ∗ atPos ER (barCell c) 0 ∅ 0 ∗ tokOwn c ∗ tokN (nxt c) ∗ tokP (prv c) ∗ crds c)
/-- The same with its cells open. -/
def Xk : sProp 𝕄 := iprop(∃ K, ctx m K c ∗ bigSep Finset.univ (at0 c) ∗ atPos ER (barCell c) 0 ∅ 0 ∗ tokOwn c ∗ tokN (nxt c) ∗ tokP (prv c) ∗ crds c)
/-- What it keeps at the end: its barrier semaphore at zero. -/
def Yk : sProp 𝕄 := semVal (barCell c) 0

/-- Every cell's invariant is among the records. -/
theorem recs_inv (K : GSem nD τ sig → ℕ) (d : Dev nD) (k : Fin 47) : recs m K ⊢ cellInv ER (sched m) (K (cell d k)) (cell d k) := by
  unfold recs
  iintro ⟨H, -, -⟩
  iapply (bigSep_at (fun p : Dev nD × Fin 47 => cellInv ER (sched m) (K (cell p.1 p.2)) (cell p.1 p.2)) (d, k))
  iexact H
/-- The records of device `c`'s own cells. -/
theorem recs_own (K : GSem nD τ sig → ℕ) : (recs m K : sProp 𝕄) ⊢ bigSep Finset.univ fun k : Fin 47 => cellInv ER (sched m) (K (cell c k)) (cell c k) :=
  bigSep_intro_persistent fun k _ => recs_inv m K c k

/-- The kernel's cells are opened as its call starts, its semaphores at zero. -/
theorem hopen : iprop(Tk m c ∗ Pipeline.ownSems0 osem0 c ∗ levAts L lv) ⊢ (|={Set.univ}=> Xk m c : sProp 𝕄) := by
  unfold Tk Xk Pipeline.ownSems0
  iintro ⟨⟨%K, #Hr, Ho, Hb, H1, H2, H3, H4⟩, Hs, -⟩
  ihave Hi := (recs_own m c K) $$ Hr
  have hz : iprop((bigSep Finset.univ fun k : Fin 47 => cellInv ER (sched m) (K (cell c k)) (cell c k)) ∗ bigSep Finset.univ fun k : Fin 47 => openTok ER (cell c k))
      ⊢ (bigSep Finset.univ fun k : Fin 47 => iprop(cellInv ER (sched m) (K (cell c k)) (cell c k) ∗ openTok ER (cell c k)) : sProp 𝕄) :=
    Entails.of_eq (bigSep_sep' ..).symm
  have hz' : (bigSep Finset.univ fun k : Fin 47 => iprop(atPos ER (cell c k) 0 ∅ 0 ∗ reached ER (cell c k) 0) : sProp 𝕄)
      ⊢ iprop((bigSep Finset.univ (at0 c)) ∗ bigSep Finset.univ fun k : Fin 47 => reached ER (cell c k) 0) := Entails.of_eq (bigSep_sep' ..)
  imod (Rounds.cells_open ER (sched m) Finset.univ (fun k : Fin 47 => cell c k) (fun k => K (cell c k)) (Es := Set.univ) fun _ _ => Set.mem_univ _) $$ [Hi Ho Hs] with H
  · isplitl [Hi Ho]
    · iapply hz
      isplitl [Hi] <;> iassumption
    · iexact Hs
  imodintro
  ihave H' := hz' $$ H
  icases H' with ⟨Ha, #Hre⟩
  iexists K
  isplitr
  · unfold ctx
    isplitr
    · iexact Hr
    · iexact Hre
  isplitl [Ha]
  · iexact Ha
  isplitl [Hb]
  · iexact Hb
  isplitl [H1]
  · iexact H1
  isplitl [H2]
  · iexact H2
  isplitl [H3]
  · iexact H3
  iexact H4

/-- The buffers the first kernel addresses itself, besides the ones the call hands it. -/
abbrev hs0 : Finset (DevRef τ sig) := {Proc.devRef .tc main_arg1, Proc.devRef .tc main_v1_0}
/-- The arrays that the first kernel reaches by itself are the weights and its first result. -/
theorem held_hs0 (W : Valuation τ sig (Elt F)) : (StableHlo.held (c : Thread nD τ) hs0 W : sProp 𝕄)
    = iprop(ptS c main_arg1 Finset.univ fullShare (W main_arg1) ∗ ptS c main_v1_0 Finset.univ fullShare (W main_v1_0)) := by
  unfold StableHlo.held
  exact bigSep_eq_bigSepL_of_eq [Proc.devRef .tc main_arg1, Proc.devRef .tc main_v1_0] (by decide) (by decide) _

/-- The buffers of the call that no window stages. -/
def scr : sProp 𝕄 := iprop((∃ f, ptS c cc0_scratch0 Finset.univ fullShare f) ∗ (∃ f, ptS c cc0_scratch1 Finset.univ fullShare f) ∗ (∃ f, ptS c cc0_scratch2 Finset.univ fullShare f)
  ∗ (∃ f, ptS c cc0_scratch3 Finset.univ fullShare f))
def idle : sProp 𝕄 := iprop((∃ f, ptS c cc1_stg0_0 Finset.univ fullShare f) ∗ (∃ f, ptS c cc1_stg0_1 Finset.univ fullShare f) ∗ (∃ f, ptS c cc1_stg1_0 Finset.univ fullShare f)
  ∗ (∃ f, ptS c cc1_stg2_0 Finset.univ fullShare f) ∗ (∃ f, ptS c cc1_stg3_0 Finset.univ fullShare f) ∗ (∃ f, ptS c cc1_stg3_1 Finset.univ fullShare f))
/-- The rest of the first kernel's scoped memory: its scratch, and what it leaves idle. -/
theorem scoped0 : (Pipeline.scopedRest spec0 c : sProp 𝕄) = iprop(scr c ∗ idle c) := by
  unfold scr idle
  rw [scopedRest0_eq, flat, flat, flat]

/-- What the first call's loop carries before its one point, and after it. -/
def X0 : sProp 𝕄 := iprop(Xk m c ∗ (scr c ∗ idle c) ∗ (∃ r, prngReg c r) ∗ ptS c main_arg1 Finset.univ fullShare (win m c) ∗ ∃ f, ptS c main_v1_0 Finset.univ fullShare f)
def Y0 : sProp 𝕄 := iprop(Yk c ∗ Pipeline.ownSems0 osem0 c ∗ (scr c ∗ idle c) ∗ (∃ r, prngReg c r) ∗ ptS c main_arg1 Finset.univ fullShare (win m c)
  ∗ ptS c main_v1_0 Finset.univ fullShare (PR m c))

/-- The first call: the activations come in, the two statistics arrays go out; the core owes its announcements and
    transfers before, nothing after. -/
def dat0 : Pipeline.Dat τ (Elt F) Unit ℕ UU ℕ cfg0 c where
  A w := match w with
    | ⟨0, _⟩ => m ((c : Thread nD τ).loc main_arg0)
    | ⟨1, _⟩ => m ((c : Thread nD τ).loc main_v1_1)
    | ⟨2, _⟩ => m ((c : Thread nD τ).loc main_v1_2)
    | ⟨_ + 3, h⟩ => absurd h (Nat.not_lt.2 (Nat.le_add_left _ _))
  after w _ := match w with
    | ⟨0, _⟩ => xin m c
    | ⟨1, _⟩ => Mout m c
    | ⟨2, _⟩ => Rout m c
    | ⟨_ + 3, h⟩ => absurd h (Nat.not_lt.2 (Nat.le_add_left _ _))
  Φ t := if t.val = 0 then X0 m c else Y0 m c
  q _ := fullShare
  owed t := if t.val = 0 then owed c 0 else 0

end Call0

abbrev cfgAdm : (p : Fin 2) → (pcfgs (F := F) p).Adm := adm
def pdats : (p : Fin 2) → (c : Dev nD) → Pipeline.Dat τ (Elt F) Unit ℕ UU ℕ (Pipeline.pin (pcfgs (F := F)) adm p) c
  | 0 => dat0 m
  | 1 => dat1 m

section Call0b
variable (c : Dev nD)

/-- At the start of a kernel's steps, what the device owes. -/
theorem owed_zero : (pdats (F := F) m 0 c).owed 0 = owed c 0 := by
  show (if ((0 : Fin (cfg0.N + 1)).val = 0) then owed c 0 else 0) = _; exact if_pos rfl
/-- Before the first kernel's body everything is owed. -/
theorem owed_first : (dat0 (F := F) m c).owed t0_0.castSucc = owed c 0 := by
  show (if (t0_0.castSucc : Fin (cfg0.N + 1)).val = 0 then owed c 0 else 0) = _; exact if_pos rfl
/-- After the first kernel nothing is owed. -/
theorem owed_last : (pdats (F := F) m 0 c).owed (Fin.last _) = 0 := by
  show (if (Fin.last cfg0.N).val = 0 then owed c 0 else 0) = 0
  rw [Fin.val_last, if_neg (by rw [show cfg0.N = 1 from N_0]; decide)]

/-- What the schedule says is owed is what the body takes, -/
theorem owes_in {cfg : Pipeline.Cfg sig Λ₀} (dat : Pipeline.Dat τ (Elt F) Unit ℕ UU ℕ cfg c) (t : Fin (cfg.N + 1)) (n : ℕ) (h0 : dat.owed t = owed c n) :
    (dat.owesAt () t : sProp 𝕄) ⊢ owesE c n := by
  unfold Pipeline.Dat.owesAt Pipeline.owesWithin owesE; rw [h0]
  iintro ⟨%W, -, HO⟩
  iexists W; iexact HO
/-- and what the body leaves is what the schedule says. -/
theorem owes_out {cfg : Pipeline.Cfg sig Λ₀} (dat : Pipeline.Dat τ (Elt F) Unit ℕ UU ℕ cfg c) (t : Fin (cfg.N + 1)) (n : ℕ) (h0 : dat.owed t = owed c n)
    (hr : dat.recorded t = Set.univ) : (owesE c n : sProp 𝕄) ⊢ dat.owesAt () t := by
  unfold Pipeline.Dat.owesAt Pipeline.owesWithin Pipeline.Dat.bound owesE; rw [h0, hr]
  iintro ⟨%W, HO⟩
  iexists W
  isplitr
  · ipureintro; exact fun _ _ => Or.inl trivial
  · iexact HO

/-- The first kernel's input window covers its array. -/
theorem index0_0 (t : Fin cfg0.N) : (cfg0.win 0).index t = ![0, 0] := by revert t; decide +kernel
/-- Before the body, the input window holds the input. -/
theorem before0_0 (d) : (dat0 m c).before 0 t0_0 d = xin m c := by
  unfold Pipeline.Dat.before; rw [if_pos (by decide)]
  unfold Pipeline.Dat.fetched Pipeline.Dat.blockOf
  funext i
  refine congrArg (xin m c) (funext fun a => Fin.ext ?_)
  blk_simp
  rw [show win0_0.index t0_0 = ![0, 0] from index0_0 t0_0]
  match a with
  | 0 => show 0 * 512 + (i 0).val = (i 0).val; omega
  | 1 => show 0 * 1024 + (i 1).val = (i 1).val; omega

/-- A change of ghost state after a program. -/
theorem fupd_wp {α : Type} {p : Prog (TpuEff nD τ sig (Elt F) Λ₀ .tc) α} {Q : α → sProp (MT nD τ sig Unit (Elt F) ℕ UU ℕ)} :
    (WP c p (fun a => iprop(|={Set.univ}=> Q a)) : sProp 𝕄) ⊢ WP c p Q := wp_fupd _ _ _ _ _

/-- The first kernel's cells are closed once its body is done: every counter is back at zero. -/
theorem close_all (K : GSem nD τ sig → ℕ) : (ctx m K c : sProp 𝕄) ⊢ bigSep Finset.univ (fin c) -∗ atPos ER (barCell c) 1 ∅ 0
    -∗ |={Set.univ}=> (Yk c ∗ Pipeline.ownSems0 osem0 c) := by
  unfold Yk Pipeline.ownSems0
  iintro #Hctx Hf Hb
  have hz : iprop((bigSep Finset.univ fun k : Fin 47 => cellInv ER (sched m) (K (cell c k)) (cell c k)) ∗ bigSep Finset.univ (fin c))
      ⊢ (bigSep Finset.univ fun k : Fin 47 => iprop(cellInv ER (sched m) (K (cell c k)) (cell c k) ∗ atPos ER (cell c k) (rounds (kd k)) ∅ 0) : sProp 𝕄) :=
    Entails.of_eq (bigSep_sep' ..).symm
  have hr : (ctx m K c : sProp 𝕄) ⊢ recs m K := by unfold ctx; exact sep_elim_left
  ihave #Hr := hr $$ Hctx
  ihave Hi := (recs_own m c K) $$ Hr
  ihave Hbb := (ctx_bar m K c c) $$ Hctx
  icases Hbb with ⟨#Hbi, -⟩
  imod (Rounds.cells_close ER (sched m) Finset.univ (fun k : Fin 47 => cell c k) (fun k => K (cell c k)) (Es := Set.univ) (fun _ _ => Set.mem_univ _) (fun _ _ => id)
    (fun k => rounds (kd k)) (fun k _ => duties_cell_end m c k)) $$ [Hi Hf] with H
  · iapply hz
    isplitl [Hi] <;> iassumption
  imod (Rounds.cell_close ER (sched m) (Set.mem_univ (K (barCell c))) id (duties_bar_end m c)) $$ [Hb] with H'
  · isplitr
    · iexact Hbi
    · iexact Hb
  imodintro
  isplitl [H'] <;> iassumption

set_option maxHeartbeats 1600000 in
/-- The first call's body at its one point. -/
theorem body0 : Pipeline.BodyObligation (dat0 (F := F) m c) (defs₀ (F := F)) 𝒱₀ () Set.univ := fun t => by
  obtain rfl := fin_N0 t
  rw [bigSep_W0, bigSep_W0]
  simp only [owns_whole_eq]
  rw [show (dat0 m c).Φ t0_0.castSucc = X0 m c from rfl, show (dat0 m c).Φ t0_0.succ = Y0 m c from rfl]
  unfold X0 Y0 Xk
  iintro ⟨⟨⟨%K, #Hctx, Ha, Hb, HT1, HT2, HT3, HC⟩, ⟨Hs, Hi⟩, Hp, Hw, Hv⟩, HO, ⟨%d0, %f0, %hf0, H0⟩, ⟨%d1, %f1, %hf1, H1⟩, ⟨%d2, %f2, %hf2, H2⟩⟩
  rw [before0_0] at hf0
  subst hf0
  ihave HO := (owes_in c (dat0 m c) _ 0 (owed_first m c)) $$ HO
  ihave Hpre := (body_pre m c K) $$ Hctx Ha Hb HT1 HT2 HT3 HC [Hs Hw Hv H1 H2]
  · unfold bufs scr
    icases Hs with ⟨S0, S1, S2, S3⟩
    isplitl [S0]
    · iexact S0
    isplitl [S1]
    · iexact S1
    isplitl [S2]
    · iexact S2
    isplitl [S3]
    · iexact S3
    isplitl [Hw]
    · iexact Hw
    isplitl [Hv]
    · iexact Hv
    isplitl [H1]
    · iexists f1; iexact H1
    · iexists f2; iexact H2
  icases Hpre with ⟨P1, P2, P3, P4⟩
  iapply (fupd_wp (c := c) (p := bodyAll))
  iapply (body_wp m K c) $$ Hctx HO P1 P2 P3 P4 [H0]
  · iexact H0
  iintro Ho
  ihave Ho := (body_post m c) $$ Ho
  icases Ho with ⟨HB, Hf, Hb, HO⟩
  imod (close_all m c K) $$ Hctx Hf Hb with ⟨HY, Hz⟩
  imodintro
  unfold bufs' scr
  icases HB with ⟨S0, S1, S2, S3, Hw, Hv, H1, H2, H0⟩
  isplitr [HO H0 H1 H2]
  · isplitl [HY]
    · iexact HY
    isplitl [Hz]
    · iexact Hz
    isplitl [S0 S1 S2 S3 Hi]
    · isplitl [S0 S1 S2 S3]
      · isplitl [S0]
        · iexact S0
        isplitl [S1]
        · iexact S1
        isplitl [S2]
        · iexact S2
        iexact S3
      · iexact Hi
    isplitl [Hp]
    · iexact Hp
    isplitl [Hw]
    · iexact Hw
    iexact Hv
  isplitl [HO]
  · iapply (owes_out c (dat0 m c) t0_0.succ 23 (owed_last m c) rfl) $$ HO
  isplitl [H0]
  · iexists _
    isplitr
    · ipureintro; rfl
    · iexact H0
  isplitl [H1]
  · iexists _
    isplitr
    · ipureintro; rfl
    · iexact H1
  iexists _
  isplitr
  · ipureintro; rfl
  · iexact H2
end Call0b

section Arrays
variable (c : Dev nD)

/-- The input is left as it was. -/
theorem final0_0 : (dat0 m c).arrAt 0 cfg0.N = m ((c : Thread nD τ).loc main_arg0) := Pipeline.Dat.arrAt_in _ 0 rfl _
/-- The window of the maxima covers its array. -/
theorem index0_1 (t : Fin cfg0.N) : (cfg0.win 1).index t = ![0, 0] := by revert t; decide +kernel
/-- The window of the reciprocals covers its array. -/
theorem index0_2 (t : Fin cfg0.N) : (cfg0.win 2).index t = ![0, 0] := by revert t; decide +kernel
/-- At the end the maxima are in their array. -/
theorem final0_1 : (dat0 m c).arrAt 1 cfg0.N = Mout m c := by
  refine (dat0 m c).arrAt_eq_of_covers 1 _ (by decide +kernel) fun t hf y => ?_
  blk_simp
  show Mout m c y = _
  refine congrArg (Mout m c) (funext fun a => Fin.ext ?_)
  blk_simp
  rw [show win0_1.index t = ![0, 0] from index0_1 t]
  match a with
  | 0 => show (y 0).val = 0 * 512 + (y 0).val; omega
  | 1 => show (y 1).val = 0 * 128 + (y 1).val; omega
/-- At the end the reciprocals are in their array. -/
theorem final0_2 : (dat0 m c).arrAt 2 cfg0.N = Rout m c := by
  refine (dat0 m c).arrAt_eq_of_covers 2 _ (by decide +kernel) fun t hf y => ?_
  blk_simp
  show Rout m c y = _
  refine congrArg (Rout m c) (funext fun a => Fin.ext ?_)
  blk_simp
  rw [show win0_2.index t = ![0, 0] from index0_2 t]
  match a with
  | 0 => show (y 0).val = 0 * 512 + (y 0).val; omega
  | 1 => show (y 1).val = 0 * 128 + (y 1).val; omega

/-- At the start the windows' arrays hold what the memory holds. -/
theorem hW0 (w : Fin 3) : (dat0 m c).arrAt w 0 = V0 m c (Proc.devRef .tc (Pipeline.arrRef spec0 w)) := by
  match w with
  | 0 => rfl
  | 1 => rfl
  | 2 => rfl
/-- At the end they hold what the next kernel finds. -/
theorem hW0' (w : Fin 3) : (dat0 m c).arrAt w cfg0.N = V1 m (outs m) c (Proc.devRef .tc (Pipeline.arrRef spec0 w)) := by
  match w with
  | 0 => exact (final0_0 m c).trans (V1_of m (outs m) c main_arg0 (by decide)).symm
  | 1 => exact (final0_1 m c).trans (V1_m m c).symm
  | 2 => exact (final0_2 m c).trans (V1_r m c).symm
/-- The second kernel finds what the first one left. -/
theorem hW1 (w : Fin 4) : (dat1 m c).A w = V1 m (outs m) c (Proc.devRef .tc (Pipeline.arrRef spec1 w)) := by
  match w with
  | 0 => exact (V1_p m c).symm
  | 1 => exact (V1_m m c).symm
  | 2 => exact (V1_r m c).symm
  | 3 => exact (V1_of m (outs m) c main_v2 (by decide)).symm
end Arrays

/-! ## The two records -/

/-- The launch facts of the first kernel. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
/-- The launch facts of the second kernel. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- What the launch gives the first kernel is what its body needs, -/
theorem hin0 (c : Dev nD) : iprop(Pipeline.scopedRest (Pipeline.pin (pcfgs (F := F)) adm 0).spec c ∗ (∃ r, prngReg c r) ∗ StableHlo.held (c.tc : Thread nD τ) hs0 (V0 m c) ∗ Xk m c)
    ⊢ (pdats m 0 c).Φ 0 := by
  rw [show (pdats m 0 c).Φ 0 = X0 m c from rfl, show (Pipeline.scopedRest (Pipeline.pin (pcfgs (F := F)) adm 0).spec c : sProp 𝕄) = iprop(scr c ∗ idle c) from scoped0 c, held_hs0]
  unfold X0
  iintro ⟨Hs, Hp, ⟨Hw, Hv⟩, HX⟩
  isplitl [HX]
  · iexact HX
  isplitl [Hs]
  · iexact Hs
  isplitl [Hp]
  · iexact Hp
  isplitl [Hw]
  · iexact Hw
  iexists _; iexact Hv

/-- and what its body leaves is what the launch takes back. -/
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hs0 (V1 m (outs m) c)
      ∗ Pipeline.ownSems0 osem0 c ∗ Yk c) := by
  rw [show (pdats m 0 c).Φ (Fin.last _) = Y0 m c from rfl, show (Pipeline.scopedRest (Pipeline.pin (pcfgs (F := F)) adm 0).spec c : sProp 𝕄) = iprop(scr c ∗ idle c) from scoped0 c,
    held_hs0, V1_p, V1_of m (outs m) c main_arg1 (by decide)]
  unfold Y0
  iintro ⟨HY, Ho, Hs, Hp, Hw, Hv⟩
  isplitl [Hs]
  · iexact Hs
  isplitl [Hp]
  · iexact Hp
  isplitl [Hw Hv]
  · isplitl [Hw]
    · iexact Hw
    · iexact Hv
  isplitl [Ho]
  · iexact Ho
  iexact HY

/-- What the device owes stays within what may be waited below. -/
theorem owed_cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owed c 0 else 0 := rfl
  rw [e] at h
  split at h
  · obtain ⟨p, hp, rfl⟩ := owedL_pos _ _ _ h
    have hd := dues_levels c 0 (by decide) p hp
    exact ⟨by unfold L; rw [if_pos hd.1]; exact Finset.mem_singleton_self _, hd.2⟩
  · exact absurd h (Nat.lt_irrefl 0)

/-- The first kernel's windows are at the lowest level, -/
theorem stage_lv0 (w : Fin 3) (s : Fin (win0 w).nbuf) : lvS (.dma ((win0 w).sem s)) = 0 := by revert w s; decide +kernel
/-- and so are the second's. -/
theorem stage_lv1 (w : Fin 4) (s : Fin (win1 w).nbuf) : lvS (.dma ((win1 w).sem s)) = 0 := by revert w s; decide +kernel

local notation "ℝ𝕊" => Pipeline.RegionSeg (pcfgs (F := F)) adm (pdats m) () defs₀ 𝒱₀ L lv

/-- The arrays that the first kernel reaches by itself aren't its windows'. -/
theorem hs0_sub : hs0 ⊆ Pipeline.ucRefs τ sig \ Pipeline.arrRefs (τ := τ) spec0 := by decide
/-- The first kernel's window arrays are unscoped, -/
theorem arr0_sub : Pipeline.arrRefs (τ := τ) spec0 ⊆ Pipeline.ucRefs τ sig := by decide
/-- and so are the second's. -/
theorem arr1_sub : Pipeline.arrRefs (τ := τ) spec1 ⊆ Pipeline.ucRefs τ sig := by decide
/-- The arrays that the first kernel doesn't touch. -/
theorem rest0_eq : (Pipeline.ucRefs τ sig \ Pipeline.arrRefs (τ := τ) spec0) \ hs0 = {Proc.devRef .tc main_v2} := by decide
/-- The arrays that the second kernel doesn't touch. -/
theorem rest1_eq : Pipeline.ucRefs τ sig \ Pipeline.arrRefs (τ := τ) spec1 = {Proc.devRef .tc main_arg0, Proc.devRef .tc main_arg1} := by decide

/-- What the first kernel doesn't touch keeps its contents. -/
theorem hrest0 (c : Dev nD) (b : DevRef τ sig) (hb : b ∈ (Pipeline.ucRefs τ sig \ Pipeline.arrRefs (τ := τ) spec0) \ hs0) :
    V1 m (outs m) c b = V0 m c b := by
  rw [rest0_eq, Finset.mem_singleton] at hb
  subst hb
  exact V1_of m (outs m) c main_v2 (by decide)

set_option backward.isDefEq.respectTransparency.types false in
/-- The first call. -/
def reg0 : ℝ𝕊 0 :=
  Pipeline.RegionSeg.ofTalk (pcfgs (F := F)) adm (pdats m) () defs₀ 𝒱₀ L lv 0 osem0 (by decide : Pipeline.OwnSemFacts spec0 osem0)
    hs0 (Pipeline.ucRefs τ sig \ Pipeline.arrRefs (τ := τ) spec0) hs0_sub kit0 rfl (fun c => (body0 m c).loose)
    (fun _ => 0) (fun c => owed c 0) (fun c => (owed_zero m c).trans (zero_add _).symm) (owed_last m) (fun _ => rfl)
    (fun _ w => by unfold Pipeline.Dat.share; exact ite_self _)
    (V0 m) (V1 m (outs m)) (hrest0 m)
    (Tk m) Yk (Xk m) Yk (hopen m) (hin0 m) (hout0 m)
    (fun c => by iintro H; imodintro; iexact H)
    (fun _ => 0)
    ⟨fun c w s => by rw [L_tc]; exact Finset.mem_singleton_self _, fun c w s => le_of_eq (stage_lv0 w s), fun c t g i h => owed_cut m c t g i h⟩
    (fun _ => iprop(emp))
    (hW0 m) (hW0' m)

/-- What the device holds at launch gives the first call what it starts from. -/
theorem reg0_pre (c : Dev nD) : iprop(StableHlo.held (c.tc : Thread nD τ) (Pipeline.ucRefs τ sig) (V0 m c) ∗ (∃ r, prngReg c r) ∗ Tk m c
      ∗ ∃ Wd, owes (c : Thread nD τ) (owed c 0) Wd) ⊢ (reg0 m).pre c := by
  rw [StableHlo.held_sub_split (c.tc : Thread nD τ) arr0_sub (V0 m c)]
  show _ ⊢ iprop(StableHlo.held (c.tc : Thread nD τ) (Pipeline.arrRefs (τ := τ) spec0) (V0 m c) ∗ (∃ r, prngReg c r)
    ∗ (StableHlo.held (c.tc : Thread nD τ) (Pipeline.ucRefs τ sig \ Pipeline.arrRefs (τ := τ) spec0) (V0 m c) ∗ emp) ∗ Tk m c
    ∗ ∃ Wd, owes (c : Thread nD τ) (0 + owed c 0) Wd)
  rw [zero_add]
  iintro ⟨⟨Ha, Hs⟩, Hp, HT, HO⟩
  isplitl [Ha]
  · iexact Ha
  isplitl [Hp]
  · iexact Hp
  isplitl [Hs]
  · isplitl [Hs]
    · iexact Hs
    · iempintro
  isplitl [HT]
  · iexact HT
  iexact HO

/-- What the first call leaves. -/
theorem reg0_post (c : Dev nD) : (reg0 m).post c ⊢ iprop(StableHlo.held (c.tc : Thread nD τ) (Pipeline.ucRefs τ sig) (V1 m (outs m) c) ∗ (∃ r, prngReg c r) ∗ Yk c
      ∗ ∃ Wd, owes (c : Thread nD τ) 0 Wd) := by
  rw [StableHlo.held_sub_split (c.tc : Thread nD τ) arr0_sub (V1 m (outs m) c)]
  show iprop(StableHlo.held (c.tc : Thread nD τ) (Pipeline.arrRefs (τ := τ) spec0) (V1 m (outs m) c) ∗ (∃ r, prngReg c r)
    ∗ (StableHlo.held (c.tc : Thread nD τ) (Pipeline.ucRefs τ sig \ Pipeline.arrRefs (τ := τ) spec0) (V1 m (outs m) c) ∗ emp) ∗ Yk c
    ∗ ∃ Wd, owes (c : Thread nD τ) 0 Wd) ⊢ _
  iintro ⟨Ha, Hp, ⟨Hs, -⟩, HT, HO⟩
  isplitl [Ha Hs]
  · isplitl [Ha]
    · iexact Ha
    · iexact Hs
  isplitl [Hp]
  · iexact Hp
  isplitl [HT]
  · iexact HT
  iexact HO

/-- At the end the second kernel's windows' arrays hold what is claimed of them. -/
theorem hW1' (c : Dev nD) (w : Fin 4) : (dat1 m c).arrAt w cfg1.N = V2 m (outs m) c (Proc.devRef .tc (Pipeline.arrRef spec1 w)) := by
  match w with
  | 0 => exact ((dat1 m c).arrAt_in 0 rfl cfg1.N).trans ((V1_p m c).symm.trans (V2_of m (outs m) c main_v1_0 (by decide)).symm)
  | 1 => exact ((dat1 m c).arrAt_in 1 rfl cfg1.N).trans ((V1_m m c).symm.trans (V2_of m (outs m) c main_v1_1 (by decide)).symm)
  | 2 => exact ((dat1 m c).arrAt_in 2 rfl cfg1.N).trans ((V1_r m c).symm.trans (V2_of m (outs m) c main_v1_2 (by decide)).symm)
  | 3 => exact (final1 m c).trans (V2_o m c).symm

/-- What the second call leaves alone. -/
abbrev R1 (c : Dev nD) : sProp 𝕄 :=
  iprop((∃ r, prngReg c r) ∗ StableHlo.held (c.tc : Thread nD τ) (Pipeline.ucRefs τ sig \ Pipeline.arrRefs (τ := τ) spec1) (V1 m (outs m) c) ∗ Yk c)

/-- What the second kernel doesn't touch keeps its contents. -/
theorem held_rest1 (c : Dev nD) : (StableHlo.held (c.tc : Thread nD τ) (Pipeline.ucRefs τ sig \ Pipeline.arrRefs (τ := τ) spec1) (V1 m (outs m) c) : sProp 𝕄)
    = StableHlo.held (c.tc : Thread nD τ) (Pipeline.ucRefs τ sig \ Pipeline.arrRefs (τ := τ) spec1) (V2 m (outs m) c) := by
  refine StableHlo.held_congr _ fun b hb => ?_
  rw [rest1_eq, Finset.mem_insert, Finset.mem_singleton] at hb
  rcases hb with rfl | rfl
  · exact (V2_of m (outs m) c main_arg0 (by decide)).symm
  · exact (V2_of m (outs m) c main_arg1 (by decide)).symm

/-- The second kernel keeps its scoped memory between steps. -/
theorem inv1 (c : Dev nD) : (pdats m 1 c).Φ = fun _ => (Pipeline.scopedRest spec1 c : sProp 𝕄) := rfl
/-- The second kernel's scoped memory. -/
theorem scoped1 (c : Dev nD) : (Pipeline.scopedRest (Pipeline.pin (pcfgs (F := F)) adm 1).spec c : sProp 𝕄) = Pipeline.scopedRest spec1 c := rfl
/-- What the launch gives the second kernel is what its steps need, -/
theorem hin1 (c : Dev nD) : iprop(Pipeline.scopedRest (Pipeline.pin (pcfgs (F := F)) adm 1).spec c ∗ emp) ⊢ (pdats m 1 c).Φ 0 := by
  rw [inv1, scoped1]
  iintro ⟨H, -⟩
  iexact H
/-- and what they leave is what the launch takes back. -/
theorem hout1 (c : Dev nD) : (pdats m 1 c).Φ (Fin.last (Pipeline.pin (pcfgs (F := F)) adm 1).N)
    ⊢ iprop(Pipeline.scopedRest (Pipeline.pin (pcfgs (F := F)) adm 1).spec c ∗ emp) := by
  rw [inv1, scoped1]
  iintro H
  isplitl [H]
  · iexact H
  · iempintro

set_option backward.isDefEq.respectTransparency.types false in
/-- The second call. -/
def reg1 : ℝ𝕊 1 :=
  Pipeline.RegionSeg.ofHeld (pcfgs (F := F)) adm (pdats m) () defs₀ 𝒱₀ L lv 1 (fun _ => 0) (fun _ => iprop(emp)) (fun _ => iprop(emp)) kit1 rfl
    (fun c => (body1 m c).loose) (fun _ _ => rfl) (fun _ => rfl) (fun _ w => by unfold Pipeline.Dat.share; exact ite_self _)
    (hin1 m) (hout1 m) (fun _ => 0)
    ⟨fun c w s => by rw [L_tc]; exact Finset.mem_singleton_self _, fun c w s => le_of_eq (stage_lv1 w s), fun c g i h => absurd h (Nat.lt_irrefl 0)⟩
    (R1 m) (V1 m (outs m)) (V2 m (outs m)) (hW1 m) (hW1' m)

/-- What the first call leaves gives the second call what it starts from. -/
theorem reg1_pre (c : Dev nD) : (reg0 m).post c ⊢ (reg1 m).pre c := by
  refine (reg0_post m c).trans ?_
  rw [StableHlo.held_sub_split (c.tc : Thread nD τ) arr1_sub (V1 m (outs m) c)]
  show _ ⊢ iprop(StableHlo.held (c.tc : Thread nD τ) (Pipeline.arrRefs (τ := τ) spec1) (V1 m (outs m) c) ∗ emp ∗ R1 m c
    ∗ ∃ Wd, owes (c : Thread nD τ) 0 Wd)
  iintro ⟨⟨Ha, Hs⟩, Hp, HT, HO⟩
  isplitl [Ha]
  · iexact Ha
  isplitr
  · iempintro
  isplitr [HO]
  · isplitl [Hp]
    · iexact Hp
    isplitl [Hs]
    · iexact Hs
    · iexact HT
  iexact HO

/-- What the second call leaves: every array at its final contents, the barrier's counter at zero, no dues. -/
theorem reg1_post (c : Dev nD) : (reg1 m).post c ⊢ iprop(StableHlo.held (c.tc : Thread nD τ) (Pipeline.ucRefs τ sig) (V2 m (outs m) c) ∗ Yk c
      ∗ ∃ Wd, owes (c : Thread nD τ) 0 Wd) := by
  rw [StableHlo.held_sub_split (c.tc : Thread nD τ) arr1_sub (V2 m (outs m) c), ← held_rest1]
  show iprop(StableHlo.held (c.tc : Thread nD τ) (Pipeline.arrRefs (τ := τ) spec1) (V2 m (outs m) c) ∗ emp ∗ R1 m c
    ∗ ∃ Wd, owes (c : Thread nD τ) 0 Wd) ⊢ _
  iintro ⟨Ha, -, ⟨-, Hs, HT⟩, HO⟩
  isplitl [Ha Hs]
  · isplitl [Ha]
    · iexact Ha
    · iexact Hs
  isplitl [HT]
  · iexact HT
  iexact HO
-- ==== Proof.Run.lean ====
/-
The run of the whole program on the four devices: the launch deals out the protocol, the two calls follow one
another, and every final state is described.
-/
module

public import proofs.«01_k».proof.Proof.Reg0
public import Idealize.ShloMosaic.Lib.Pipeline.Regions

@[expose] public section

set_option maxRecDepth 16384

noncomputable section

namespace Cert.K

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- A subset's part comes off a separating conjunction. -/
theorem split_off {I : Type} [DecidableEq I] {s t : Finset I} (h : t ⊆ s) {Φ : I → sProp (MT nD τ sig Unit (Elt F) ℕ UU ℕ)} :
    bigSep s Φ = iprop(bigSep t Φ ∗ bigSep (s \ t) Φ) := bigSep_sdiff_split h
/-- A separating conjunction over two disjoint sets. -/
theorem split_two {I : Type} [DecidableEq I] {s t : Finset I} (h : Disjoint s t) {Φ : I → sProp (MT nD τ sig Unit (Elt F) ℕ UU ℕ)} :
    bigSep (s ∪ t) Φ = iprop(bigSep s Φ ∗ bigSep t Φ) := bigSep_union h
/-- Two separating conjunctions over the devices are one of pairs. -/
theorem pair_up {Φ Ψ : Dev nD → sProp (MT nD τ sig Unit (Elt F) ℕ UU ℕ)} :
    iprop(bigSep Finset.univ Φ ∗ bigSep Finset.univ Ψ) ⊢ bigSep Finset.univ (fun c => iprop(Φ c ∗ Ψ c)) := Entails.of_eq (bigSep_sep' ..).symm

/-- Different numbers name different places. -/
theorem place_inj : Function.Injective (fun k : Fin 47 => (SemLoc.dma (dsem k) : SemLoc sig)) := fun _ _ h => dsem_inj (SemLoc.dma.inj h)
/-- A DMA cell names its device and its semaphore. -/
theorem cell_inj {d e : Dev nD} {k k' : Fin 47} (h : cell d k = cell e k') : d = e ∧ k = k' :=
  ⟨congrArg (fun g : GSem nD τ sig => g.1.1) h, place_inj (congrArg (fun g : GSem nD τ sig => g.2) h)⟩
/-- A barrier cell names its device. -/
theorem bar_inj {d e : Dev nD} (h : barCell d = barCell e) : d = e := congrArg (fun g : GSem nD τ sig => g.1.1) h
/-- No DMA cell is a barrier. -/
theorem cell_bar {d e : Dev nD} {k : Fin 47} (h : cell d k = barCell e) : False := nomatch (congrArg (fun g : GSem nD τ sig => g.2) h : (SemLoc.dma (dsem k) : SemLoc sig) = SemLoc.reg barS)

def barEmb : Dev nD ↪ GSem nD τ sig := ⟨fun c => barCell c, fun _ _ h => bar_inj h⟩
def cellEmb : Dev nD × Fin 47 ↪ GSem nD τ sig := ⟨fun p => cell p.1 p.2, fun _ _ h => Prod.ext (cell_inj h).1 (cell_inj h).2⟩
/-- The barrier cells. -/
abbrev barCells : Finset (GSem nD τ sig) := Finset.univ.map barEmb
/-- The transfers' cells. -/
abbrev dmaCells : Finset (GSem nD τ sig) := Finset.univ.map cellEmb
/-- Barriers and DMA cells are different cells. -/
theorem cells_disjoint : Disjoint (barCells : Finset (GSem nD τ sig)) dmaCells := by
  rw [Finset.disjoint_left]
  rintro g h h'
  obtain ⟨c, -, rfl⟩ := Finset.mem_map.mp h
  obtain ⟨p, -, e⟩ := Finset.mem_map.mp h'
  exact cell_bar e

def dmaTokEmb : (Σ _ : Dev nD × Fin 47, ℕ) ↪ GSem nD τ sig × ℕ × Bool :=
  ⟨fun x => (cell x.1.1 x.1.2, x.2, false), fun ⟨⟨d, k⟩, r⟩ ⟨⟨e, k'⟩, r'⟩ h => by
    obtain ⟨h1, h2⟩ := Prod.mk.inj h
    obtain ⟨rfl, rfl⟩ := cell_inj h1
    obtain ⟨h3, -⟩ := Prod.mk.inj h2
    subst h3; rfl⟩
def barTokEmb : Dev nD × Bool ↪ GSem nD τ sig × ℕ × Bool :=
  ⟨fun x => (barCell x.1, 0, x.2), fun ⟨d, b⟩ ⟨e, b'⟩ h => by
    obtain ⟨h1, h2⟩ := Prod.mk.inj h
    obtain rfl := bar_inj h1
    obtain ⟨-, h3⟩ := Prod.mk.inj h2
    subst h3; rfl⟩
/-- A token for every duty of the protocol: one per transfer, two per barrier. -/
def allToks : Finset (GSem nD τ sig × ℕ × Bool) :=
  (Finset.univ.sigma fun p : Dev nD × Fin 47 => Finset.range (rounds (kd p.2))).map dmaTokEmb ∪ Finset.univ.map barTokEmb
/-- Their tokens are different tokens. -/
theorem toks_disjoint : Disjoint ((Finset.univ.sigma fun p : Dev nD × Fin 47 => Finset.range (rounds (kd p.2))).map dmaTokEmb) (Finset.univ.map barTokEmb) := by
  rw [Finset.disjoint_left]
  rintro t h h'
  obtain ⟨x, -, rfl⟩ := Finset.mem_map.mp h
  obtain ⟨p, -, e⟩ := Finset.mem_map.mp h'
  exact cell_bar (congrArg Prod.fst e).symm

/-- The tokens of device `c`'s own cells. -/
def toks (c : Dev nD) : sProp 𝕄 := iprop(bigSep Finset.univ (tok c) ∗ dutyTok ER (barCell c) 0 false ∗ dutyTok ER (barCell c) 0 true)

/-- A separating conjunction over the truth values. -/
theorem bigSep_bool (Φ : Bool → sProp (MT nD τ sig Unit (Elt F) ℕ UU ℕ)) : bigSep Finset.univ Φ = iprop(Φ false ∗ Φ true) :=
  bigSep_univ_eq_bigSepL [false, true] (by decide) (by decide) Φ

/-- All tokens, device by device. -/
theorem toks_eq : bigSep allToks (fun x => (dutyTok ER x.1 x.2.1 x.2.2 : sProp 𝕄)) = bigSep Finset.univ fun c : Dev nD => toks c := by
  unfold allToks
  rw [bigSep_union toks_disjoint, bigSep_map, bigSep_map, Pipeline.bigSep_sigma, bigSep_univ_prod, bigSep_univ_prod]
  unfold toks
  rw [bigSep_sep']
  refine congrArg₂ _ ?_ ?_
  · exact bigSep_congr fun c _ => bigSep_congr fun k _ => rfl
  · exact bigSep_congr fun c _ => bigSep_bool _

/-- A device's tokens, by who pays with them. -/
theorem toks_split (c : Dev nD) : (toks c : sProp 𝕄) ⊢ iprop(tokOwn c ∗ tokN c ∗ tokP c) := by
  unfold toks tokOwn tokN tokP
  rw [kinds_eq]
  unfold kinds
  iintro ⟨⟨Hw, HsR, HsL, HrR, HrL, Hs2, ⟨Hr0, Hr1⟩, Hst, ⟨Ht0, Ht1, Ht2⟩, Hg, Hl⟩, Hf, Ht⟩
  iframe

/-- The ring, one step on. -/
def stepOn : Dev nD ≃ Dev nD := ⟨nxt, prv, prv_nxt, nxt_prv⟩
/-- The ring, one step back. -/
def stepBack : Dev nD ≃ Dev nD := ⟨prv, nxt, nxt_prv, prv_nxt⟩

/-- Every token to the device that pays with it. -/
theorem toks_around : (bigSep Finset.univ fun c : Dev nD => (toks c : sProp 𝕄)) ⊢ bigSep Finset.univ fun c : Dev nD => iprop(tokOwn c ∗ tokN (nxt c) ∗ tokP (prv c)) := by
  refine (bigSep_mono fun c _ => toks_split c).trans ?_
  rw [bigSep_sep', bigSep_sep', bigSep_sep', bigSep_sep', bigSep_univ_equiv stepOn (fun c : Dev nD => (tokN c : sProp 𝕄)),
    bigSep_univ_equiv stepBack (fun c : Dev nD => (tokP c : sProp 𝕄))]
  exact BI.Entails.refl _

/-! ## The credit for what arrives -/

/-- A cell by its device and place; no place means the barrier. -/
def cellAt (p : Dev nD × Option (Fin 47)) : GSem nD τ sig := match p.2 with | none => barCell p.1 | some k => cell p.1 k
/-- What one payment on it counts. -/
def amtAt : Option (Fin 47) → ℕ | none => 1 | some k => amtD (kd k)
/-- Every cell is named once. -/
theorem cellAt_inj : Function.Injective cellAt
  | (_, none), (_, none), h => Prod.ext (bar_inj h) rfl
  | (_, none), (_, some _), h => (cell_bar h.symm).elim
  | (_, some _), (_, none), h => (cell_bar h).elim
  | (_, some _), (_, some _), h => Prod.ext (cell_inj h).1 (congrArg some (cell_inj h).2)
/-- The cells on which device `d` pays on other devices, in order. -/
def targets (d : Dev nD) : List (Dev nD × Option (Fin 47)) :=
  [(prv d, none), (nxt d, none),
   (nxt d, some (krR 0)), (prv d, some (krL 0)), (nxt d, some (krR 1)), (prv d, some (krL 1)),
   (nxt d, some (krR 2)), (prv d, some (krL 2)), (nxt d, some (krR 3)), (prv d, some (krL 3)),
   (nxt d, some (krR 4)), (prv d, some (krL 4)), (nxt d, some (krR 5)), (prv d, some (krL 5)),
   (nxt d, some (krR 6)), (prv d, some (krL 6)), (nxt d, some (krR 7)), (prv d, some (krL 7)),
   (nxt d, some (kstr 0)), (prv d, some (kstr 1)), (nxt d, some (kstr 2)),
   (nxt d, some (ks2r 0)), (prv d, some (ks2r 1))]
/-- A clockwise receive cell counts a tile. -/
theorem amt_krR (j : Fin 8) : amtD (kd (krR j)) = aT := by rw [kd_rR]; rfl
/-- A counter-clockwise receive cell counts a tile. -/
theorem amt_krL (j : Fin 8) : amtD (kd (krL j)) = aT := by rw [kd_rL]; rfl
/-- A statistics receive cell counts statistics. -/
theorem amt_kstr (a : Fin 3) : amtD (kd (kstr a)) = aS := by rw [kd_str]; rfl
/-- A second hop's receive cell counts half a column range. -/
theorem amt_ks2r (a : Fin 2) : amtD (kd (ks2r a)) = aH := by rw [kd_s2r]; rfl
/-- A device's dues are its targets with their amounts. -/
theorem dues_targets (d : Dev nD) : dues d = (targets d).map fun p => (cellAt p, amtAt p.2) := by
  unfold dues targets
  simp only [List.map_cons, List.map_nil, amtAt, amt_krR, amt_krL, amt_kstr, amt_ks2r]
  rfl
/-- What is owed to a cell is the number of its dues times its amount. -/
theorem owedL_count (q : Dev nD × Option (Fin 47)) : ∀ l : List (Dev nD × Option (Fin 47)),
    owedL (l.map fun p => (cellAt p, amtAt p.2)) (cellAt q) () = l.count q * amtAt q.2
  | [] => by rw [List.count_nil, Nat.zero_mul]; rfl
  | p :: l => by
    have e : owedL ((p :: l).map fun p => (cellAt p, amtAt p.2)) (cellAt q) ()
      = owedL (l.map fun p => (cellAt p, amtAt p.2)) (cellAt q) () + tallyAt (cellAt p) () (amtAt p.2) (cellAt q) () := rfl
    rw [e, owedL_count q l, tallyAt_apply]
    by_cases h : p = q
    · subst h; rw [if_pos ⟨rfl, rfl⟩, List.count_cons_self, Nat.succ_mul]
    · rw [if_neg (fun h' => h (cellAt_inj h'.1).symm), List.count_cons_of_ne h, Nat.add_zero]
/-- How often a cell is paid on from other devices. -/
def paid (q : Dev nD × Option (Fin 47)) : ℕ := ∑ d : Dev nD, (targets d).count q
/-- A cell's credit at the launch is what all devices owe it. -/
theorem launch_credit (q : Dev nD × Option (Fin 47)) :
    tallyOn (cellAt q) (launchCredit (Pipeline.owing fun d => owed d 0) 0 (cellAt q)) = (tallyAt (cellAt q) () (paid q * amtAt q.2) : CellTallies nD τ sig Unit) := by
  unfold tallyAt; refine congrArg _ (Finsupp.ext fun u => ?_); cases u
  rw [Pipeline.launchCredit_owing, Finsupp.single_eq_same]
  unfold paid
  rw [Finset.sum_mul]
  refine Finset.sum_congr rfl fun d _ => ?_
  unfold owed
  rw [List.drop_zero, dues_targets, owedL_count]
/-- A barrier is paid twice. -/
theorem paid_bar : ∀ c : Dev nD, paid (c, none) = 2 := by decide +kernel
/-- A clockwise receive cell is paid once. -/
theorem paid_rR : ∀ (c : Dev nD) (j : Fin 8), paid (c, some (krR j)) = 1 := by decide +kernel
/-- A counter-clockwise receive cell is paid once. -/
theorem paid_rL : ∀ (c : Dev nD) (j : Fin 8), paid (c, some (krL j)) = 1 := by decide +kernel
/-- A statistics receive cell is paid once. -/
theorem paid_str : ∀ (c : Dev nD) (a : Fin 3), paid (c, some (kstr a)) = 1 := by decide +kernel
/-- A second hop's receive cell is paid once. -/
theorem paid_s2r : ∀ (c : Dev nD) (a : Fin 2), paid (c, some (ks2r a)) = 1 := by decide +kernel

/-- The credit on one place of device `c`, as the launch gives it. -/
def credAt (c : Dev nD) (k : Fin 47) : sProp 𝕄 := cred (tallyAt (cell c k) () (paid (c, some k) * amtD (kd k)))
/-- The credit of a cell that is paid once. -/
theorem credAt_one (c : Dev nD) {k : Fin 47} (h : paid (c, some k) = 1) : (credAt c k : sProp 𝕄) = crd c k := by
  unfold credAt crd; rw [h, Nat.one_mul]

def placeEmb : Fin 47 ↪ SemLoc sig := ⟨fun k => .dma (dsem k), place_inj⟩
/-- The DMA places are semaphores other than the barrier. -/
theorem places_sub : (Finset.univ.map placeEmb : Finset (SemLoc sig)) ⊆ Finset.univ.erase (SemLoc.reg barS) := fun s h => by
  obtain ⟨k, -, rfl⟩ := Finset.mem_map.mp h
  exact Finset.mem_erase.mpr ⟨fun h => (nomatch (h : (SemLoc.dma (dsem k) : SemLoc sig) = SemLoc.reg barS)), Finset.mem_univ _⟩

/-- What the launch gives a device covers what arrives there. -/
theorem creds (c : Dev nD) : (Pipeline.launchCred (fun d => owed d 0) c : sProp 𝕄) ⊢ crds c := by
  have hb : tallyOn (barCell c) (launchCredit (Pipeline.owing fun d => owed d 0) 0 (barCell c)) = (tallyAt (barCell c) () 2 : CellTallies nD τ sig Unit) := by
    have h := launch_credit (c, none)
    rw [paid_bar] at h; exact h
  have hk : (fun k : Fin 47 => (cred (tallyOn ((c.tc : Thread nD τ), placeEmb k) (launchCredit (Pipeline.owing fun d => owed d 0) 0 ((c.tc : Thread nD τ), placeEmb k))) : sProp 𝕄)) = credAt c :=
    funext fun k => congrArg cred (launch_credit (c, some k))
  unfold Pipeline.launchCred
  rw [bigSep_univ_at _ (SemLoc.reg barS), hb, split_off places_sub, bigSep_map, hk, kinds_eq]
  unfold kinds crds
  rw [credAt_one c (paid_str c 0), credAt_one c (paid_str c 1), credAt_one c (paid_str c 2), credAt_one c (paid_s2r c 0), credAt_one c (paid_s2r c 1),
    bigSep_congr (s := Finset.univ) fun j _ => credAt_one c (paid_rR c j), bigSep_congr (s := Finset.univ) fun j _ => credAt_one c (paid_rL c j)]
  iintro ⟨Hb, ⟨-, -, -, HR, HL, -, H2, -, H3, -, -⟩, -⟩
  isplitl [Hb]
  · iexact Hb
  isplitl [HR]
  · iexact HR
  isplitl [HL]
  · iexact HL
  isplitl [H3]
  · iexact H3
  iexact H2

/-! ## The launch -/

/-- The protocol's ghost state at launch, whole. -/
def ghost0 : UB := launchOf barCells dmaCells allToks
def u₀ : UU := (initOf (Pipeline.cells (Pipeline.pin (pcfgs (F := F)) adm) cellOf_inj) (Pipeline.launchToks (Pipeline.pin (pcfgs (F := F)) adm) cellOf_inj), ghost0)
/-- The protocol's ghost state, kept on device 0 until it is dealt out. -/
def G (c : Dev nD) : sProp 𝕄 := if c = 0 then BI.own (ER ghost0) else iprop(emp)
/-- All devices' ghost state comes from the cells and tokens. -/
theorem G_all : (bigSep Finset.univ (G (F := F)) : sProp 𝕄) = BI.own (ER ghost0) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The records, put together. -/
theorem recs_intro (K : GSem nD τ sig → ℕ) : iprop((bigSep (barCells ∪ dmaCells) fun g => (cellInv ER (sched m) (K g) g : sProp 𝕄)) ∗ (bigSep barCells fun g => reached ER g 0) ∗ levAts L lv)
    ⊢ recs m K := by
  unfold recs
  rw [split_two cells_disjoint, bigSep_map, bigSep_map, bigSep_map, bigSep_sep']
  iintro ⟨⟨HB, HD⟩, HR, HL⟩
  isplitl [HD]
  · iexact HD
  isplitl [HB HR]
  · isplitl [HB]
    · iexact HB
    · iexact HR
  iexact HL

/-- What of a device's launch holdings is not the protocol's. -/
def bundle (ρ : Dev nD → PrngReg) (c : Dev nD) : sProp 𝕄 :=
  iprop(StableHlo.held (c.tc : Thread nD τ) (Pipeline.ucRefs τ sig) (V0 m c) ∗ crds c ∗ owes (c : Thread nD τ) (owed c 0) ∅ ∗ prngReg c (ρ c))
/-- What of the protocol goes to device `c`. -/
def share (c : Dev nD) : sProp 𝕄 :=
  iprop((bigSep Finset.univ fun k : Fin 47 => openTok ER (cell c k)) ∗ atPos ER (barCell c) 0 ∅ 0 ∗ tokOwn c ∗ tokN (nxt c) ∗ tokP (prv c))
/-- What a device starts the program from. -/
abbrev T₀ (c : Dev nD) : sProp 𝕄 := iprop(StableHlo.held (c.tc : Thread nD τ) (Pipeline.ucRefs τ sig) (V0 m c) ∗ (∃ r, prngReg c r) ∗ Tk m c
      ∗ ∃ Wd, owes (c : Thread nD τ) (owed c 0) Wd)
/-- What a device ends with. -/
abbrev Tₙ (c : Dev nD) : sProp 𝕄 := iprop(StableHlo.held (c.tc : Thread nD τ) (Pipeline.ucRefs τ sig) (V2 m (outs m) c) ∗ Yk c)

/-- What a device starts from, put together. -/
theorem start_of (ρ : Dev nD → PrngReg) (K : GSem nD τ sig → ℕ) (c : Dev nD) : iprop(recs m K ∗ (share c ∗ bundle m ρ c)) ⊢ T₀ m c := by
  unfold share bundle T₀ Tk
  iintro ⟨HR, ⟨Ho, Ha, H1, H2, H3⟩, Hh, Hc, HO, Hp⟩
  isplitl [Hh]
  · iexact Hh
  isplitl [Hp]
  · iexists _; iexact Hp
  isplitr [HO]
  · iexists K
    iframe
  iexists _; iexact HO

/-- The barrier is the only semaphore that isn't scoped. -/
theorem unscoped_eq : ∀ sm : SemLoc sig, sm.isScoped .tc = false → sm = .reg barS := by decide +kernel
/-- The semaphores that aren't scoped are the barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What the launch gives a device, sorted. -/
theorem core_split (ρ : Dev nD → PrngReg) (c : Dev nD) : iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c)
    ⊢ (iprop(bundle m ρ c ∗ (semVal (barCell c) 0 ∗ G c)) : sProp 𝕄) := by
  rw [show (unscopedBufs c (fun b => m ((c : Thread nD τ).loc b)) : sProp 𝕄) = StableHlo.held (c : Thread nD τ) (Pipeline.ucRefs τ sig) (V0 m c) from Pipeline.unscopedBufs_held c (V0 m c),
    unscopedSems_eq]
  unfold bundle
  iintro ⟨Hh, Hs, HO, Hc, Hp, HG⟩
  ihave Hc := (creds (F := F) c) $$ Hc
  iframe

/-- The launch deals the protocol out to the devices. -/
theorem init (ρ : Dev nD → PrngReg) :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄)) ⊢ bigSep Finset.univ (fun c : Dev nD => bigSep Finset.univ fun k : Fin 47 => openTok ER (cell c k)) :=
    Entails.of_eq (by rw [bigSep_map, bigSep_univ_prod]; rfl)
  have hsplit : (bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c))
      ⊢ (iprop((bigSep Finset.univ (bundle m ρ)) ∗ (bigSep Finset.univ fun c : Dev nD => semVal (barCell c) 0) ∗ bigSep Finset.univ G) : sProp 𝕄) := by
    rw [← bigSep_sep', ← bigSep_sep']
    exact bigSep_mono fun c _ => core_split m ρ c
  iintro ⟨H, HL⟩
  ihave H := hsplit $$ H
  icases H with ⟨HB, Hv, HG⟩
  ihave Hu := (Entails.of_eq (G_all (F := F))) $$ HG
  imod (Rounds.fund_launch ER (sched m) cells_disjoint (fun g _ h => h) allToks) $$ [Hv Hu] with ⟨%K, -, Hinv, Hr, Hat, Hopen, Htok⟩
  · isplitl [Hv]
    · iapply hv $$ Hv
    · iexact Hu
  imodintro
  iapply (bigSep_with_persistent (R := recs m K) (Φ := fun c => iprop(share c ∗ bundle m ρ c)) fun c _ => start_of m ρ K c)
  isplitl [Hinv Hr HL]
  · iapply (recs_intro m K)
    iframe
  iapply pair_up
  isplitr [HB]
  · unfold share
    iapply pair_up
    isplitl [Hopen]
    · iapply hopen $$ Hopen
    iapply pair_up
    isplitl [Hat]
    · iapply hat $$ Hat
    iapply (toks_around (F := F))
    iapply (Entails.of_eq (toks_eq (F := F))) $$ Htok
  · iexact HB

/-! ## The run -/

/-- The program's two calls, in order. -/
def calls : List (Pipeline.Seg (pcfgs (F := F)) adm (pdats m) () defs₀ 𝒱₀ L lv) := [.region (reg0 m), .region (reg1 m)]

/-- An array that isn't scoped is among the unscoped ones. -/
theorem in_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

set_option backward.isDefEq.respectTransparency.types false in
/-- Every execution of the program on the four devices terminates, and in every final state the arguments are as launched, the
    result of device `c` is `FO m c`, and every semaphore is at zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = FO m c) ∧ r.2.sem = fun _ => 0) :=
  Pipeline.θ_run_regions_kit_sems (pcfgs (F := F)) adm (pdats m) () cellOf_inj EP defs₀ 𝒱₀ L lv m ρ main (calls m)
    (fun c Q => by
      rewrite [main_chain c, Pipeline.Seg.run_eq_chain,
        show (calls m).map Pipeline.Seg.prog = [
          Prog.lift (.customCall (Pipeline.entry 0) ()),
          Prog.lift (.customCall (Pipeline.entry 1) ()) ] from rfl]
      dsimp (config := { failIfUnchanged := false }) only
      exact BI.Entails.refl _)
    (by simp only [calls, Pipeline.Seg.pipes_host, Pipeline.Seg.pipes_region, Pipeline.Seg.pipes_nil]; decide)
    (O₀ := fun d => owed d 0) (hL := L_of_ne) (G := G) (u₀ := u₀ (F := F))
    (hu₀ := by
      unfold u₀
      iintro Hu
      ihave H := (ownU_pair _ _) $$ Hu
      icases H with ⟨HP, HX⟩
      imodintro
      isplitl [HP]
      · iexact HP
      rw [G_all]
      iexact HX)
    (T₀ := T₀ m) (Tₙ := Tₙ m)
    (hch := ⟨fun c => reg0_pre m c, fun c => reg1_pre m c, fun c => (reg1_post m c).trans (by
      iintro ⟨Hh, Hb, HO⟩
      isplitr [HO]
      · isplitl [Hh]
        · iexact Hh
        · iexact Hb
      · iexact HO)⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v2) = FO m c) ∧ s.sem (barCell c) = 0)
    (hfin := fun c s' => by
      dsimp only [Tₙ]
      unfold StableHlo.held Yk
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh]
        · iexact Hh
        · iexact HSI
      icases Hr with ⟨%h, HSI⟩
      imodintro
      isplitr
      · ipureintro
        exact ⟨⟨(h (Proc.devRef .tc main_arg0) (in_uc main_arg0 (by decide))).trans (V2_main_arg0 m (outs m) c),
          (h (Proc.devRef .tc main_arg1) (in_uc main_arg1 (by decide))).trans (V2_main_arg1 m (outs m) c),
          (h (Proc.devRef .tc main_v2) (in_uc main_v2 (by decide))).trans (V2_o m c)⟩, by simpa using hb⟩
      iexact HSI)
    (hQ := fun s h hs => ⟨fun c => (h c).1, sem_eq_zero hs fun c sm hsm => by
        obtain rfl := unscoped_eq sm hsm
        exact (h c).2⟩)
-- ==== Proof.Frames.lean ====
/-
The frames: every program runs to the end, leaves its arguments and every semaphore as they were.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Adequacy

@[expose] public section

noncomputable section

namespace Cert.K

open Idealize.ShloMosaic Idealize.SL.Sem

set_option backward.isDefEq.respectTransparency.types false in
/-- The two printed programs run the same bodies. -/
theorem bodies_same : Cert.Kernel.defs₀ (F := Bits) = Cert.KernelIdeal.defs₀ (F := Bits) := by
  refine congrArg (Defs.onTc (nD := Cert.KernelIdeal.nD) (τ := Cert.KernelIdeal.τ) (sig := Cert.KernelIdeal.sig) (Val := Elt Bits) (Λ := Cert.KernelIdeal.Λ₀)) (funext fun l => funext fun a => ?_)
  match l, a with
  | 0, (t, s) => rfl
  | 1, (t, s) => rfl
set_option backward.isDefEq.respectTransparency.types false in
/-- The two printed programs run the same definitions. -/
theorem defs_same : Cert.Kernel.defs (F := Bits) = Cert.KernelIdeal.defs (F := Bits) :=
  congrArg (Pipeline.defs (Cert.KernelIdeal.pcfgs (F := Bits))) bodies_same

set_option backward.isDefEq.respectTransparency.types false in
/-- The kernel as printed runs, leaves its arguments and ends with every semaphore at zero. -/
theorem frame_kernel : Cert.quiescent_Kernel := fun m ρ _ => by
  rw [defs_same]
  exact (θ_run Cert.KernelIdeal.defs _ _).mono (fun _ h => ⟨fun c => ⟨(h.1 c).1, (h.1 c).2.1⟩, h.2⟩) (run_main (F := Bits) m ρ)

/-- So does the kernel over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference runs, leaves its arguments, and has no semaphores. -/
theorem frame_reference : Cert.quiescent_ReferenceIdeal := fun m ρ _ =>
  (θ_run Cert.ReferenceIdeal.defs _ _).mono (fun r h => ⟨fun c => ⟨(h c).2.1, (h c).2.2⟩, sem_eq_zero_of_no_sems rfl _⟩) (Cert.ReferenceIdeal.Value.run (F := Ideal) m ρ)

end Cert.K

end
-- ==== Proof.Math.lean ====
/-
Facts about extended reals that a softmax cut into blocks rests on: exponentials of differences, sums over blocks, and
maxima of finitely many finite values.
-/
module

public import Idealize.ShloMosaic.PureOps.Ideal
public import Idealize.ShloMosaic.Lib.IdealHost

@[expose] public section

noncomputable section

namespace Cert.K

open Idealize.ShloMosaic

/-- An extended real that is a real number. -/
def Fin' (x : EReal) : Prop := x ≠ ⊥ ∧ x ≠ ⊤

/-- A finite value is a real number. -/
theorem Fin'.coe {x : EReal} (h : Fin' x) : ∃ r : ℝ, x = r := ⟨x.toReal, (EReal.coe_toReal h.2 h.1).symm⟩
/-- A real number is finite. -/
theorem fin_coe (r : ℝ) : Fin' (r : EReal) := ⟨EReal.coe_ne_bot r, EReal.coe_ne_top r⟩

/-- Sums of finite values are finite. -/
theorem Fin'.add {x y : EReal} (hx : Fin' x) (hy : Fin' y) : Fin' (x + y) := by
  obtain ⟨a, rfl⟩ := hx.coe; obtain ⟨b, rfl⟩ := hy.coe
  exact fin_coe (a + b)
/-- Products of finite values are finite. -/
theorem Fin'.mul {x y : EReal} (hx : Fin' x) (hy : Fin' y) : Fin' (x * y) := by
  obtain ⟨a, rfl⟩ := hx.coe; obtain ⟨b, rfl⟩ := hy.coe
  rw [← EReal.coe_mul]; exact fin_coe (a * b)

/-- A finite sum of finite values is finite. -/
theorem fin_sum {ι : Type} (s : Finset ι) (f : ι → EReal) (h : ∀ i, Fin' (f i)) : Fin' (∑ i ∈ s, f i) := by
  classical
  induction s using Finset.induction_on with
  | empty => rw [Finset.sum_empty]; exact fin_coe 0
  | insert a s ha ih => rw [Finset.sum_insert ha]; exact (h a).add ih

/-- The largest of finitely many finite values is finite. -/
theorem fin_sup {ι : Type} [Fintype ι] (f : ι → EReal) (h : ∀ i, Fin' (f i)) (i₀ : ι) : Fin' (Finset.univ.sup f) := by
  refine ⟨fun e => (h i₀).1 (le_bot_iff.mp (e ▸ Finset.le_sup (Finset.mem_univ i₀))), ne_of_lt ?_⟩
  exact (Finset.sup_lt_iff (bot_lt_top)).mpr fun i _ => lt_top_iff_ne_top.mpr (h i).2

/-- An exponential isn't negative. -/
theorem exp_nonneg (x : EReal) : 0 ≤ Ideal.exp x := by
  induction x using EReal.rec with
  | bot => exact le_of_eq Ideal.exp_bot.symm
  | top => rw [Ideal.exp_top]; exact le_top
  | coe r => rw [Ideal.exp_coe]; exact EReal.coe_nonneg.mpr (Real.exp_pos r).le

/-- The exponential of a difference of finite values is positive. -/
theorem exp_sub_pos {x y : EReal} (hx : Fin' x) (hy : Fin' y) : 0 < Ideal.exp (x - y) := by
  obtain ⟨a, rfl⟩ := hx.coe; obtain ⟨b, rfl⟩ := hy.coe
  rw [← EReal.coe_sub, Ideal.exp_coe]; exact EReal.coe_pos.mpr (Real.exp_pos _)

/-- Moving the reference point of an exponential from one maximum to another. -/
theorem exp_shift {x y z : EReal} (hx : Fin' x) (hy : Fin' y) (hz : Fin' z) :
    Ideal.exp (x - y) * Ideal.exp (y - z) = Ideal.exp (x - z) := by
  obtain ⟨a, rfl⟩ := hx.coe; obtain ⟨b, rfl⟩ := hy.coe; obtain ⟨c, rfl⟩ := hz.coe
  rw [← EReal.coe_sub, ← EReal.coe_sub, ← EReal.coe_sub, Ideal.exp_coe, Ideal.exp_coe, Ideal.exp_coe, ← EReal.coe_mul,
    ← Real.exp_add, sub_add_sub_cancel]

/-- A product with a finite sum of terms that aren't negative distributes. -/
theorem sum_mul_nonneg {ι : Type} (s : Finset ι) (f : ι → EReal) (c : EReal) (h : ∀ i, 0 ≤ f i) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, ← ih]
    exact EReal.right_distrib_of_nonneg (h a) (Finset.sum_nonneg fun i _ => h i)

/-- A sum over blocks of equal width, block after block. -/
theorem sum_blocks (g : ℕ → EReal) (n : ℕ) : ∀ a : ℕ,
    ∑ i ∈ Finset.range (n * a), g i = ∑ b ∈ Finset.range a, ∑ i ∈ Finset.range n, g (n * b + i)
  | 0 => by simp
  | a + 1 => by rw [Nat.mul_succ, Finset.sum_range_add, sum_blocks g n a, Finset.sum_range_succ]

/-- The four places of a ring, seen from any of them, in a sum. -/
theorem sum_ring (g : Fin 4 → EReal) (a b c d : Fin 4) (h : Finset.univ = ({a, b, c, d} : Finset (Fin 4))) :
    g a + g b + g c + g d = ∑ i, g i := by
  have hc : ({a, b, c, d} : Finset (Fin 4)).card = 4 := h ▸ rfl
  have key : a ≠ b ∧ a ≠ c ∧ a ≠ d ∧ b ≠ c ∧ b ≠ d ∧ c ≠ d := by
    clear h; revert hc a b c d; decide
  obtain ⟨h1, h2, h3, h4, h5, h6⟩ := key
  rw [h, Finset.sum_insert (by simp [h1, h2, h3]), Finset.sum_insert (by simp [h4, h5]), Finset.sum_pair h6, ← add_assoc, ← add_assoc]

end Cert.K

end
-- ==== Proof.Soft.lean ====
/-
The softmax that both programs compute, and the reference's result as that softmax.
-/
module

public import proofs.«01_k».proof.Proof.Gen.ReferenceIdeal
public import proofs.«01_k».proof.Proof.Math
public import Idealize.ShloMosaic.Lib.Pointwise

@[expose] public section

noncomputable section

namespace Cert.K

open Cert.ReferenceIdeal Cert.ReferenceIdeal.Gen
open Idealize.ShloMosaic

/-- The word a maximum starts from is minus infinity. -/
theorem ninf : Ideal.ofBits .f32 0xFF800000#32 = ⊥ := by simp [Ideal.ofBits, Ideal.ieee]

variable (X : FVec Ideal S512x1024 .f32) (W : FVec Ideal S1024x32768 .f32)

/-- A logit: row `r` of the input by column `j` of the weights. -/
def logit (r : Fin 512) (j : Fin 32768) : EReal := ∑ k : Fin 1024, X (ix2 r k) * W (ix2 k j)
/-- The largest logit of a row. -/
def rmax (r : Fin 512) : EReal := Finset.univ.sup (logit X W r)
/-- The sum of a row's exponentials. -/
def rsum (r : Fin 512) : EReal := ∑ j : Fin 32768, Ideal.exp (logit X W r j - rmax X W r)
/-- The softmax of a row. -/
def soft (r : Fin 512) (j : Fin 32768) : EReal := Ideal.div (Ideal.exp (logit X W r j - rmax X W r)) (rsum X W r)

/-- The reference's logits. -/
def refLogits : FVec Ideal S512x32768 .f32 := Host.dotGeneral dot_S512x1024_S1024x32768_S512x32768_1_0_0_1_n_n none X W
/-- A column of row statistics, spread over the columns. -/
def refSpread (v : FVec Ideal S512 .f32) : FVec Ideal S512x32768 .f32 :=
  broadcastInDim S512x32768 ![0, 1] bcast_S512x1_S512x32768_0_1 (broadcastInDim S512x1 ![0] bcast_S512_S512x1_0 v)
/-- The reference's exponentials. -/
def refExp : FVec Ideal S512x32768 .f32 :=
  Host.exp (subf (refLogits X W) (refSpread (Host.reduce FloatOps.maximumf (refLogits X W) (constant (F := Ideal) S_ .f32 0xFF800000#32) reducesTo_S512x32768_S512_d1 h_S_)))
/-- The reference's result. -/
def refOut : FVec Ideal S512x32768 .bf16 :=
  truncf .bf16 (Host.divf (refExp X W) (refSpread (Host.reduceAdd (refExp X W) (constant (F := Ideal) S_ .f32 0x00000000#32) reducesTo_S512x32768_S512_d1 h_S_))) bitsLt_bf16_f32

/-- The reference's logits are the logits. -/
theorem refLogits_at (r : Fin 512) (j : Fin 32768) : refLogits X W (ix2 r j) = logit X W r j := by
  pointwise [refLogits, logit]

/-- The reference's exponentials are those of the logits less the row's maximum. -/
theorem refExp_at (r : Fin 512) (j : Fin 32768) : refExp X W (ix2 r j) = Ideal.exp (logit X W r j - rmax X W r) := by
  pointwise [refExp, refSpread, refLogits_at]
  rw [ninf]; rfl

/-- The reference's result at an index is the softmax. -/
theorem refOut_at (r : Fin 512) (j : Fin 32768) : refOut X W (ix2 r j) = soft X W r j := by
  pointwise [refOut, refSpread, refExp_at, soft, rsum]

/-- Finite inputs have finite logits. -/
theorem logit_fin (hX : ∀ i, Fin' (X i)) (hW : ∀ i, Fin' (W i)) (r : Fin 512) (j : Fin 32768) : Fin' (logit X W r j) :=
  fin_sum _ _ fun _ => (hX _).mul (hW _)

/-- Of finite inputs the row's maximum is finite. -/
theorem rmax_fin (hX : ∀ i, Fin' (X i)) (hW : ∀ i, Fin' (W i)) (r : Fin 512) : Fin' (rmax X W r) :=
  fin_sup _ (logit_fin X W hX hW r) 0

/-- Of finite inputs the sum of exponentials isn't zero. -/
theorem rsum_ne (hX : ∀ i, Fin' (X i)) (hW : ∀ i, Fin' (W i)) (r : Fin 512) : rsum X W r ≠ 0 :=
  ne_of_gt (lt_of_lt_of_le (exp_sub_pos (logit_fin X W hX hW r 0) (rmax_fin X W hX hW r))
    (Finset.single_le_sum (f := fun j => Ideal.exp (logit X W r j - rmax X W r)) (fun _ _ => exp_nonneg _) (Finset.mem_univ 0)))

end Cert.K

end
-- ==== Proof.Pay.lean ====
/-
What each piece of arithmetic of the kernels is at an index, over the extended reals.
-/
module

public import proofs.«01_k».proof.Proof.Proto
public import proofs.«01_k».proof.Proof.Reg1
public import proofs.«01_k».proof.Proof.Soft

@[expose] public section

noncomputable section

namespace Cert.K

open Cert.KernelIdeal Cert.KernelIdeal.Gen
open Idealize.ShloMosaic

/-- A tile of logits: row by column. -/
theorem pay2_at (x : FVec Ideal S512x1024 .bf16) (w : Vec Ideal S1x1024x1024 .f32) (r : Fin 512) (j : Fin 1024) :
    k0_pay2 x w (ix2 r j) = ∑ k : Fin 1024, x (ix2 r k) * w (ix3 0 k j) := by
  pointwise [k0_pay2]

/-- The input, rounded, is the input. -/
theorem pay1_eq (x : Vec Ideal S512x1024 .f32) : k0_pay1 x = x := by
  funext i; pointwise [k0_pay1]

/-- A tile, rounded, is the tile. -/
theorem pay3_at (x : FVec Ideal S512x1024 .bf16) (w : Vec Ideal S1x1024x1024 .f32) (i : S512x1024.Idx) :
    k0_pay3 x w i = k0_pay2 x w i := by
  pointwise [k0_pay3]

/-- The first maximum is the first tile's. -/
theorem pay4_at (x : FVec Ideal S512x1024 .bf16) (w : Vec Ideal S1x1024x1024 .f32) (r : Fin 512) :
    k0_pay4 x w (ix2 r 0) = Finset.univ.sup fun j : Fin 1024 => k0_pay2 x w (ix2 r j) := by
  pointwise [k0_pay4]
  rw [ninf]; rfl

/-- A further maximum is the larger of the one so far and the tile's. -/
theorem pay8_at (p : FVec Ideal S512x1 .f32) (a : FVec Ideal S512x1024 .f32) (r : Fin 512) :
    k0_pay8 p a (ix2 r 0) = max (p (ix2 r 0)) (Finset.univ.sup fun j : Fin 1024 => a (ix2 r j)) := by
  pointwise [k0_pay8]
  rw [ninf]; rfl

/-- The sum of exponentials starts from zero. -/
theorem pay28_at (r : Fin 512) : k0_pay28 (F := Ideal) (ix2 r 0) = 0 := by
  pointwise [k0_pay28]

/-- A block's exponentials are added to the sum. -/
theorem pay29_at (M s : FVec Ideal S512x1 .f32) (v : Vec Ideal S512x2048 .bf16) (r : Fin 512) :
    k0_pay29 M s v (ix2 r 0) = s (ix2 r 0) + ∑ k : Fin 2048, Ideal.exp (v (ix2 r k) - M (ix2 r 0)) := by
  pointwise [k0_pay29]

/-- The first column of what is packed is the maxima. -/
theorem pay30_max (M s : FVec Ideal S512x1 .f32) (r : Fin 512) : k0_pay30 M s (ix3 0 r 0) = M (ix2 r 0) := by
  pointwise [k0_pay30]

/-- The fifth column of what is packed is the sums. -/
theorem pay30_sum (M s : FVec Ideal S512x1 .f32) (r : Fin 512) : k0_pay30 M s (ix3 0 r 4) = s (ix2 r 0) := by
  pointwise [k0_pay30]

/-- The device's own statistics column, as it is read. -/
theorem pay31_at (v : Vec Ideal S1x512x1 .f32) (r : Fin 512) : k0_pay31 v (ix2 r 0) = v (ix3 0 r 0) := by
  pointwise [k0_pay31]
/-- The predecessor's statistics column, as it is read. -/
theorem pay32_at (v : Vec Ideal S1x512x1 .f32) (r : Fin 512) : k0_pay32 v (ix2 r 0) = v (ix3 0 r 0) := by
  pointwise [k0_pay32]

/-- The global maximum is the largest of four. -/
theorem pay35_at (a b : FVec Ideal S512x1 .f32) (c d : Vec Ideal S1x512x1 .f32) (r : Fin 512) :
    k0_pay35 a b c d (ix2 r 0) = max (max (a (ix2 r 0)) (b (ix2 r 0))) (max (c (ix3 0 r 0)) (d (ix3 0 r 0))) := by
  pointwise [k0_pay35, k0_pay33, k0_pay34]

/-- The global sum is the sum of four, each moved to the global maximum. -/
theorem pay36_at (a b : FVec Ideal S512x1 .f32) (c d p q s t : Vec Ideal S1x512x1 .f32) (r : Fin 512) :
    k0_pay36 a b c d p q s t (ix2 r 0) =
      p (ix3 0 r 0) * Ideal.exp (a (ix2 r 0) - k0_pay35 a b c d (ix2 r 0))
      + q (ix3 0 r 0) * Ideal.exp (b (ix2 r 0) - k0_pay35 a b c d (ix2 r 0))
      + s (ix3 0 r 0) * Ideal.exp (c (ix3 0 r 0) - k0_pay35 a b c d (ix2 r 0))
      + t (ix3 0 r 0) * Ideal.exp (d (ix3 0 r 0) - k0_pay35 a b c d (ix2 r 0)) := by
  pointwise [k0_pay36, k0_pay33, k0_pay34]

/-- The global maximum, written out. -/
theorem pay37_at (a b : FVec Ideal S512x1 .f32) (c d : Vec Ideal S1x512x1 .f32) (r : Fin 512) (j : Fin 128) :
    k0_pay37 a b c d (ix2 r j) = k0_pay35 a b c d (ix2 r 0) := by
  pointwise [k0_pay37]

/-- The reciprocal of the global sum, written out. -/
theorem pay38_at (a b : FVec Ideal S512x1 .f32) (c d p q s t : Vec Ideal S1x512x1 .f32) (r : Fin 512) (j : Fin 128) :
    k0_pay38 a b c d p q s t (ix2 r j) = Ideal.div 1 (k0_pay36 a b c d p q s t (ix2 r 0)) := by
  pointwise [k0_pay38]

/-- A probability: the exponential by the reciprocal of the sum. -/
theorem pay41_at (M S : FVec Ideal S512x1 .f32) (v : Vec Ideal S512x2048 .bf16) (r : Fin 512) (j : Fin 2048) :
    k0_pay41 M S v (ix3 0 r j) = Ideal.exp (v (ix2 r j) - M (ix2 r 0)) * Ideal.div 1 (S (ix2 r 0)) := by
  pointwise [k0_pay41, k0_pay39, k0_pay40]

/-- A probability in the second kernel. -/
theorem k1_pay2_at (M R : Vec Ideal S512x1 .f32) (v : Vec Ideal S512x4096 .bf16) (r : Fin 512) (j : Fin 4096) :
    k1_pay2 M R v (ix2 r j) = Ideal.exp (v (ix2 r j) - M (ix2 r 0)) * R (ix2 r 0) := by
  pointwise [k1_pay2]

end Cert.K

end
-- ==== Proof.KVal.lean ====
/-
What the kernels leave, over the extended reals: from the logits to the softmax.
-/
module

public import proofs.«01_k».proof.Proof.Pay
public import Idealize.ShloMosaic.Lib.Layout
public import Idealize.ShloMosaic.Lib.Pointwise

@[expose] public section

noncomputable section

namespace Cert.K

open Cert.KernelIdeal Cert.KernelIdeal.Gen
open Idealize.ShloMosaic Idealize.ShloMosaic.TcCoe Idealize.SL.Sem

variable (m : (ℓ : Loc nD τ sig) → Buf (Elt Ideal) ℓ)
variable (X : FVec Ideal S512x1024 .f32) (W : FVec Ideal ⟨2, ![1024, 32768]⟩ .f32)

/-- A logit by the number of its column. -/
def lg (r : Fin 512) (n : ℕ) : EReal := logit X W r ⟨n % 32768, Nat.mod_lt _ (by decide)⟩

/-- By a column's number the logit is that column's. -/
theorem lg_lt (r : Fin 512) (j : Fin 32768) : lg X W r j.val = logit X W r j :=
  congrArg (logit X W r) (Fin.ext (Nat.mod_eq_of_lt j.isLt))

/-- The device's memory holds the input and its columns of the weights. -/
structure Holds : Prop where
  x : ∀ c : Dev nD, xin m c = X
  w : ∀ c : Dev nD, win m c = Layout.block ⟨2, ![1024, 8192]⟩ ⟨2, ![1024, 32768]⟩ 1 4 c W
  finX : ∀ i, Fin' (X i)
  finW : ∀ i, Fin' (W i)

variable {m X W} (H : Holds m X W)
include H

/-- Logits are finite. -/
theorem lg_fin (r : Fin 512) (n : ℕ) : Fin' (lg X W r n) := logit_fin X W H.finX H.finW r _

/-- A tile of logits. -/
theorem acc_at (c : Dev nD) (j : ℕ) (hj : j < 8) (r : Fin 512) (q : Fin 1024) :
    acc m c j (ix2 r q) = lg X W r (8192 * c.val + (1024 * j + q.val)) := by
  have hc : c.val < 4 := c.isLt
  have hq := q.isLt
  unfold acc
  rw [pay2_at]
  unfold lg logit
  refine Finset.sum_congr rfl fun k _ => ?_
  refine congrArg₂ (· * ·) ?_ ?_
  · unfold xb; rw [pay1_eq, H.x]
  · show win m c _ = _
    rw [H.w]
    refine congrArg W (funext fun a => Fin.ext ?_)
    match a with
    | ⟨0, _⟩ => rfl
    | ⟨1, _⟩ =>
      show c.val * 8192 + (1024 * j + q.val) % 8192 = (8192 * c.val + (1024 * j + q.val)) % 32768
      omega

/-- The gathered logits. -/
theorem LG_val (i : S512x32768.Idx) : LG m i = lg X W (i 0) (i 1).val := by
  have hi : (i 1).val < 32768 := (i 1).isLt
  unfold LG tile
  refine ((pay3_at _ _ _).trans (congrArg (k0_pay2 _ _) (ix2_eq_valueIdx (n0 := 512) (n1 := 1024) (i 0) _).symm)).trans ?_
  refine (acc_at H ⟨(i 1).val / 8192 % 4, Nat.mod_lt _ (by decide)⟩ ((i 1).val % 8192 / 1024) (by omega) (i 0) ⟨(i 1).val % 1024, Nat.mod_lt _ (by decide)⟩).trans ?_
  refine congrArg (lg X W (i 0)) ?_
  show 8192 * ((i 1).val / 8192 % 4) + (1024 * ((i 1).val % 8192 / 1024) + (i 1).val % 1024) = (i 1).val
  omega

/-- The running maximum is the least bound of the tiles so far. -/
theorem mrec_le (c : Dev nD) (r : Fin 512) (a : EReal) : ∀ n : ℕ, n < 8 →
    (mrec m c n (ix2 r 0) ≤ a ↔ ∀ q < 1024 * (n + 1), lg X W r (8192 * c.val + q) ≤ a)
  | 0, _ => by
    rw [mrec, pay4_at, Finset.sup_le_iff]
    refine ⟨fun h q hq => ?_, fun h q _ => ?_⟩
    · have := h ⟨q, by omega⟩ (Finset.mem_univ _)
      rw [show k0_pay2 (xb m c) (wslot m c 0) = acc m c 0 from rfl, acc_at H c 0 (by decide)] at this
      simpa using this
    · rw [show k0_pay2 (xb m c) (wslot m c 0) = acc m c 0 from rfl, acc_at H c 0 (by decide)]
      exact h _ (by have := q.isLt; omega)
  | n + 1, hn => by
    rw [mrec, pay8_at, max_le_iff, mrec_le c r a n (by omega), Finset.sup_le_iff]
    refine ⟨fun h q hq => ?_, fun h => ⟨fun q hq => h q (by omega), fun q _ => ?_⟩⟩
    · by_cases hq' : q < 1024 * (n + 1)
      · exact h.1 q hq'
      · have := h.2 ⟨q - 1024 * (n + 1), by omega⟩ (Finset.mem_univ _)
        rw [acc_at H c (n + 1) hn] at this
        rwa [show 1024 * (n + 1) + (q - 1024 * (n + 1)) = q by omega] at this
    · rw [acc_at H c (n + 1) hn]
      exact h _ (by have := q.isLt; omega)

/-- A device's row maximum. -/
theorem mloc_eq (c : Dev nD) (r : Fin 512) :
    mloc m c (ix2 r 0) = Finset.univ.sup fun q : Fin 8192 => lg X W r (8192 * c.val + q.val) := by
  refine eq_of_forall_ge_iff fun a => ?_
  rw [mloc, mrec_le H c r a 7 (by decide), Finset.sup_le_iff]
  exact ⟨fun h q _ => h q.val q.isLt, fun h q hq => h ⟨q, hq⟩ (Finset.mem_univ _)⟩

/-- A device's row maximum is finite. -/
theorem mloc_fin (c : Dev nD) (r : Fin 512) : Fin' (mloc m c (ix2 r 0)) := by
  rw [mloc_eq H]; exact fin_sup _ (fun _ => lg_fin H r _) 0

/-- A block of a device's logits. -/
theorem subc_at (c : Dev nD) (t : ℕ) (ht : t < 4) (r : Fin 512) (q : Fin 2048) :
    subc m c t (ix2 r q) = lg X W r (8192 * c.val + (2048 * t + q.val)) := by
  have hc : c.val < 4 := c.isLt
  have hq := q.isLt
  refine (LG_val H _).trans (congrArg (lg X W r) ?_)
  show (8192 * c.val + 2048 * t + q.val) % 32768 = _
  omega

/-- The running sum of exponentials. -/
theorem srec_at (c : Dev nD) (r : Fin 512) : ∀ n : ℕ, n ≤ 4 → srec m c n (ix2 r 0) =
    ∑ t ∈ Finset.range n, ∑ q ∈ Finset.range 2048, Ideal.exp (lg X W r (8192 * c.val + (2048 * t + q)) - mloc m c (ix2 r 0))
  | 0, _ => by rw [srec, pay28_at, Finset.range_zero, Finset.sum_empty]
  | n + 1, hn => by
    rw [srec, pay29_at, srec_at c r n (by omega), Finset.sum_range_succ, Finset.sum_range (n := 2048)]
    refine congrArg _ (Finset.sum_congr rfl fun q _ => ?_)
    rw [subc_at H c n (by omega)]

/-- A device's sum of exponentials. -/
theorem sloc_at (c : Dev nD) (r : Fin 512) : sloc m c (ix2 r 0) =
    ∑ q ∈ Finset.range 8192, Ideal.exp (lg X W r (8192 * c.val + q) - mloc m c (ix2 r 0)) := by
  rw [sloc, srec_at H c r 4 le_rfl]
  exact (sum_blocks (fun n => Ideal.exp (lg X W r (8192 * c.val + n) - mloc m c (ix2 r 0))) 2048 4).symm

omit H in
/-- The first column of the statistics is the maxima. -/
theorem scol_max (d : Dev nD) (r : Fin 512) : scol m d 0 (ix3 0 r 0) = mloc m d (ix2 r 0) := by
  show stat m d (ValueIdx.ix3 0 r 0) = _
  rw [← ix3_eq_valueIdx]; exact pay30_max _ _ r

omit H in
/-- The fifth column of the statistics is the sums. -/
theorem scol_sum (d : Dev nD) (r : Fin 512) : scol m d 4 (ix3 0 r 0) = sloc m d (ix2 r 0) := by
  show stat m d (ValueIdx.ix3 0 r 4) = _
  rw [← ix3_eq_valueIdx]; exact pay30_sum _ _ r

/-- Every device of the ring is one of the four that a device sees. -/
theorem ring_univ : ∀ c : Dev nD, (Finset.univ : Finset (Fin 4)) = {c, prv c, nxt c, opp c} := by clear H; decide

/-- The four devices' maxima together are the row's. -/
theorem Mg_at (c : Dev nD) (r : Fin 512) : Mg m c (ix2 r 0) = rmax X W r := by
  unfold Mg
  rw [pay35_at, pay31_at, pay32_at, scol_max, scol_max, scol_max, scol_max]
  refine eq_of_forall_ge_iff fun a => ?_
  have all : (max (max (mloc m c (ix2 r 0)) (mloc m (prv c) (ix2 r 0))) (max (mloc m (nxt c) (ix2 r 0)) (mloc m (opp c) (ix2 r 0))) ≤ a)
      ↔ ∀ d : Dev nD, mloc m d (ix2 r 0) ≤ a := by
    rw [max_le_iff, max_le_iff, max_le_iff]
    refine ⟨fun h d => ?_, fun h => ⟨⟨h _, h _⟩, h _, h _⟩⟩
    have hd : d ∈ ({c, prv c, nxt c, opp c} : Finset (Fin 4)) := ring_univ H c ▸ Finset.mem_univ d
    rw [Finset.mem_insert, Finset.mem_insert, Finset.mem_insert, Finset.mem_singleton] at hd
    rcases hd with rfl | rfl | rfl | rfl
    exacts [h.1.1, h.1.2, h.2.1, h.2.2]
  rw [all, rmax, Finset.sup_le_iff]
  refine ⟨fun h j _ => ?_, fun h d => ?_⟩
  · have hj := j.isLt
    have h' := h ⟨j.val / 8192, by show j.val / 8192 < 4; omega⟩
    rw [mloc_eq H, Finset.sup_le_iff] at h'
    have h'' := h' ⟨j.val % 8192, Nat.mod_lt _ (by decide)⟩ (Finset.mem_univ _)
    rw [← lg_lt]
    rwa [show 8192 * (j.val / 8192) + j.val % 8192 = j.val from Nat.div_add_mod _ _] at h''
  · rw [mloc_eq H, Finset.sup_le_iff]
    exact fun q _ => h _ (Finset.mem_univ _)

/-- A device's share of the row's sum. -/
theorem sloc_shift (d : Dev nD) (r : Fin 512) : sloc m d (ix2 r 0) * Ideal.exp (mloc m d (ix2 r 0) - rmax X W r) =
    ∑ q ∈ Finset.range 8192, Ideal.exp (lg X W r (8192 * d.val + q) - rmax X W r) := by
  rw [sloc_at H, sum_mul_nonneg _ _ _ fun _ => exp_nonneg _]
  exact Finset.sum_congr rfl fun q _ => exp_shift (lg_fin H r _) (mloc_fin H d r) (rmax_fin X W H.finX H.finW r)

/-- The four devices' sums together, each moved to the row's maximum, are the row's sum. -/
theorem Sg_at (c : Dev nD) (r : Fin 512) : Sg m c (ix2 r 0) = rsum X W r := by
  have hM := Mg_at H c r
  unfold Mg at hM
  unfold Sg
  rw [pay36_at, hM, pay31_at, pay32_at]
  simp only [scol_max, scol_sum]
  rw [sloc_shift H, sloc_shift H, sloc_shift H, sloc_shift H,
    sum_ring (fun d => ∑ q ∈ Finset.range 8192, Ideal.exp (lg X W r (8192 * d.val + q) - rmax X W r)) c (prv c) (nxt c) (opp c) (ring_univ H c),
    ← Finset.sum_range (fun d => ∑ q ∈ Finset.range 8192, Ideal.exp (lg X W r (8192 * d + q) - rmax X W r)),
    ← sum_blocks (fun n => Ideal.exp (lg X W r n - rmax X W r)) 8192 4, Finset.sum_range]
  exact Finset.sum_congr rfl fun j _ => by rw [lg_lt X W r j]

/-- The exponential by the reciprocal of the sum is the softmax. -/
theorem soft_mul (r : Fin 512) (j : Fin 32768) :
    Ideal.exp (logit X W r j - rmax X W r) * Ideal.div 1 (rsum X W r) = soft X W r j :=
  Ideal.mul_one_div (rsum_ne X W H.finX H.finW r)

/-- A block of probabilities. -/
theorem pblk_val (c d : Dev nD) (t : ℕ) (ht : t < 4) (r : Fin 512) (q : Fin 2048) (j : Fin 32768)
    (hj : 8192 * d.val + (2048 * t + q.val) = j.val) : pblk m c d t (ValueIdx.ix3 0 r q) = soft X W r j := by
  unfold pblk
  rw [← ix3_eq_valueIdx, pay41_at, Mg_at H, Sg_at H, subc_at H _ _ ht, hj, lg_lt, soft_mul H]

/-- The first kernel's result: softmax, or logits in the columns of the device across the ring. -/
theorem PR_val (c : Dev nD) (i : S512x32768.Idx) :
    PR m c i = if (i 1).val / 8192 = (opp c).val then logit X W (i 0) (i 1) else soft X W (i 0) (i 1) := by
  have hi : (i 1).val < 32768 := (i 1).isLt
  have hl : lg X W (i 0) (i 1).val = logit X W (i 0) (i 1) := lg_lt X W (i 0) (i 1)
  unfold PR
  by_cases h : (i 1).val / 8192 = (opp c).val
  · rw [if_pos h, if_pos h, LG_val H i, hl]
  · rw [if_neg h, if_neg h]
    refine pblk_val H c _ _ (by omega) (i 0) _ (i 1) ?_
    show 8192 * ((i 1).val / 8192 % 4) + (2048 * ((i 1).val % 8192 / 2048) + (i 1).val % 2048) = (i 1).val
    omega

/-- The kernels' result, on every device, is the softmax. -/
theorem FO_val (c : Dev nD) (r : Fin 512) (j : Fin 32768) : FO m c (ix2 r j) = soft X W r j := by
  have hj := j.isLt
  have hP : pblock (PR m c) (j.val / 4096) (ix2 r ⟨j.val % 4096, Nat.mod_lt _ (by decide)⟩) =
      if j.val / 8192 = (opp c).val then logit X W r j else soft X W r j := by
    have e : (⟨(4096 * (j.val / 4096) + j.val % 4096) % 32768, Nat.mod_lt _ (by decide)⟩ : Fin 32768) = j := Fin.ext (by
      show (4096 * (j.val / 4096) + j.val % 4096) % 32768 = j.val
      omega)
    refine (PR_val H c (ValueIdx.ix2 r _)).trans ?_
    show (if (⟨(4096 * (j.val / 4096) + j.val % 4096) % 32768, Nat.mod_lt _ (by decide)⟩ : Fin 32768).val / 8192 = (opp c).val then logit X W r ⟨(4096 * (j.val / 4096) + j.val % 4096) % 32768, Nat.mod_lt _ (by decide)⟩ else soft X W r ⟨(4096 * (j.val / 4096) + j.val % 4096) % 32768, Nat.mod_lt _ (by decide)⟩) = _
    rw [e]
  show finB c (j.val / 4096) (pblock (PR m c) (j.val / 4096)) (Mout m c) (Rout m c) (ValueIdx.ix2 r ⟨j.val % 4096, Nat.mod_lt _ (by decide)⟩) = _
  rw [← ix2_eq_valueIdx]
  unfold finB
  by_cases h : j.val / 8192 = (opp c).val
  · rw [if_pos h] at hP
    rw [if_pos (by omega), k1_pay2_at, hP]
    have hMo : scol1 (Mout m c) (ix2 r 0) = rmax X W r := by
      show Mout m c (ValueIdx.ix2 r 0) = _
      rw [← ix2_eq_valueIdx]
      exact (pay37_at _ _ _ _ r 0).trans (Mg_at H c r)
    have hRo : scol1 (Rout m c) (ix2 r 0) = Ideal.div 1 (rsum X W r) := by
      show Rout m c (ValueIdx.ix2 r 0) = _
      rw [← ix2_eq_valueIdx]
      exact (pay38_at _ _ _ _ _ _ _ _ r 0).trans (congrArg (Ideal.div 1) (Sg_at H c r))
    rw [hMo, hRo, soft_mul H]
  · rw [if_neg h] at hP
    rw [if_neg (by omega), hP]

end Cert.K

end
-- ==== Proof.Value.lean ====
/-
The value claim: over the extended reals and of finite inputs, the kernels and the reference compute the same softmax.
-/
module

public import proofs.«01_k».proof.Proof.Frames
public import proofs.«01_k».proof.Proof.KVal
public import proofs.«01_k».proof.Proof.Gen.Pre_finite_KernelIdeal
public import proofs.«01_k».proof.Proof.Gen.Pre_finite_ReferenceIdeal

@[expose] public section

noncomputable section

namespace Cert.K

open Idealize.ShloMosaic Idealize.SL.Sem

/-- The word of the precondition is plus infinity. -/
theorem pinf : Ideal.ofBits .f32 0x7F800000#32 = ⊤ := by simp [Ideal.ofBits, Ideal.ieee]

/-- A value whose magnitude is below infinity is finite. -/
theorem fin_of_abs {x : EReal} (h : Ideal.cmp .olt (max x (-x)) ⊤ = 1#1) : Fin' x := by
  have h' : max x (-x) < ⊤ := by
    by_contra hn
    simp [Ideal.cmp, hn] at h
  refine ⟨fun e => ?_, fun e => ?_⟩ <;> subst e <;> simp at h'

open Cert.Pre_finite_KernelIdeal in
/-- The precondition says that a device's input is finite, -/
theorem finite_x (x : FVec Ideal S512x1024 .f32) (w : FVec Ideal S1024x8192 .f32)
    (h : (fn (F := Ideal) x w).1 = fun _ => 1#1) (i : S512x1024.Idx) : Fin' (x i) := by
  have e := congrFun h i
  pointwise [fn] at e
  rw [pinf] at e
  exact fin_of_abs e

open Cert.Pre_finite_KernelIdeal in
/-- and its columns of the weights. -/
theorem finite_w (x : FVec Ideal S512x1024 .f32) (w : FVec Ideal S1024x8192 .f32)
    (h : (fn (F := Ideal) x w).2 = fun _ => 1#1) (i : S1024x8192.Idx) : Fin' (w i) := by
  have e := congrFun h i
  pointwise [fn] at e
  rw [pinf] at e
  exact fin_of_abs e

/-- Every column of the weights is some device's. -/
theorem fin_whole (W : FVec Ideal ⟨2, ![1024, 32768]⟩ .f32)
    (h : ∀ c : Fin 4, ∀ i, Fin' (Layout.block (α := EReal) ⟨2, ![1024, 8192]⟩ ⟨2, ![1024, 32768]⟩ 1 4 c W (by decide) i)) (i : (⟨2, ![1024, 32768]⟩ : Shape).Idx) : Fin' (W i) := by
  have hi : (i 1).val < 32768 := (i 1).isLt
  have := h ⟨(i 1).val / 8192, by omega⟩ (ValueIdx.ix2 (n0 := 1024) (n1 := 8192) (i 0) ⟨(i 1).val % 8192, Nat.mod_lt _ (by decide)⟩)
  rw [Layout.block_apply] at this
  refine (congrArg (fun j => Fin' (W j)) (funext fun a => Fin.ext ?_)).mp this
  match a with
  | ⟨0, _⟩ => rfl
  | ⟨1, _⟩ => exact (Nat.mul_comm _ _ ▸ Nat.div_add_mod (i 1).val 8192 : (i 1).val / 8192 * 8192 + (i 1).val % 8192 = (i 1).val)

/-- The kernel's frame holds of finite inputs too. -/
theorem frame_ideal_finite : Cert.quiescent_KernelIdeal_pre_finite_KernelIdeal := fun m ρ _ => frame_ideal m ρ trivial
/-- The reference's frame holds of finite inputs too. -/
theorem frame_reference_finite : Cert.quiescent_ReferenceIdeal_pre_finite_ReferenceIdeal := fun m ρ _ => frame_reference m ρ trivial

/-- Kernel and reference agree. -/
theorem value : Cert.algebraic_KernelIdeal_ReferenceIdeal_pre_finite_KernelIdeal := by
  intro m ρ m' ρ' hpre hargs
  have hW : ∀ i, Fin' _ := fin_whole (m' (((0 : Dev Cert.ReferenceIdeal.nD).tc : Thread Cert.ReferenceIdeal.nD Cert.ReferenceIdeal.τ).loc Cert.ReferenceIdeal.main_arg1))
    fun c i => (hargs c).2 ▸ finite_w _ _ (hpre c).2 i
  have hX : ∀ i, Fin' _ := fun i => (hargs 0).1 ▸ finite_x _ _ (hpre 0).1 i
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hargs c).1, fun c => (hargs c).2, hX, hW⟩
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (run_main (F := Ideal) m ρ)
    funext i
    rw [eq_ix2 i]
    exact (FO_val H c (i 0) (i 1)).trans (refOut_at _ _ (i 0) (i 1)).symm
  · exact (θ_run Cert.ReferenceIdeal.defs _ _).mono (fun r h => h 0) (Cert.ReferenceIdeal.Value.run (F := Ideal) m' ρ')

end Cert.K

end
-- ==== Proof.lean ====
/-
The claims about the kernel, put together.
-/
module

public import proofs.«01_k».proof.Defs
public import proofs.«01_k».proof.Proof.Frames
public import proofs.«01_k».proof.Proof.Value

@[expose] public section

noncomputable section

namespace Cert.Proof

/-- Every claim of this certificate holds. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.K.frame_kernel, Cert.K.frame_ideal, Cert.K.frame_ideal_finite,
    Cert.K.frame_reference, Cert.K.frame_reference_finite, trivial, Cert.K.value⟩

end Cert.Proof

end
